-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x8192x64x128 : S_.BroadcastsInDim S1x8192x64x128 (![] : Fin 0 → Fin S1x8192x64x128.rank)
  reducesTo_S1x8192x64x128_S_d0_1_2_3 : S1x8192x64x128.ReducesTo [0, 1, 2, 3] S_

variable [Facts]

def fn {F : FTy → Type} [FloatOps F] (main_arg0 : FVec F S1x1024x1024 .f32) (main_arg1 : FVec F S1024x8192 .f32) (main_arg2 : FVec F S1x8192x64x128 .f32) (main_arg3 : FVec F S1x8192x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x8192x64x128 .f32 := Host.absf main_arg2
  let main_cst_2 : FVec F S_ .f32 := constant S_ .f32 0x7F800000#32
  let main_v10 : FVec F S1x8192x64x128 .f32 := broadcastInDim S1x8192x64x128 ![] bcast_S_S1x8192x64x128 main_cst_2
  let main_v11 : IVec S1x8192x64x128 1 := cmpf .olt main_v9 main_v10
  let main_c_3 : IVec S_ 1 := constantI S_ 1 1#1
  let main_v12 : IVec S_ 1 := (fun x v => Host.reduce IntOp.andi x v reducesTo_S1x8192x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S2x512x8x128 : Shape := ⟨4, ![2, 512, 8, 128]⟩
abbrev S4x1024x8x128 : Shape := ⟨4, ![4, 1024, 8, 128]⟩
abbrev S3x1024x8x128 : Shape := ⟨4, ![3, 1024, 8, 128]⟩
abbrev S2x1024x8x128 : Shape := ⟨4, ![2, 1024, 8, 128]⟩
abbrev S512x1024 : Shape := ⟨2, ![512, 1024]⟩
abbrev S256x1024 : Shape := ⟨2, ![256, 1024]⟩
abbrev S128x1024 : Shape := ⟨2, ![128, 1024]⟩
abbrev S_ : Shape := ⟨0, ![]⟩
abbrev S2 : Shape := ⟨1, ![2]⟩
abbrev S4 : Shape := ⟨1, ![4]⟩
abbrev S3 : Shape := ⟨1, ![3]⟩
abbrev S1 : Shape := ⟨1, ![1]⟩
abbrev S1x512x8x128 : Shape := ⟨4, ![1, 512, 8, 128]⟩
abbrev S512x8x128 : Shape := ⟨3, ![512, 8, 128]⟩
abbrev S1x1024x8x128 : Shape := ⟨4, ![1, 1024, 8, 128]⟩
abbrev S1024x8x128 : Shape := ⟨3, ![1024, 8, 128]⟩
abbrev S512x128 : Shape := ⟨2, ![512, 128]⟩
abbrev S1x1024x1x128 : Shape := ⟨4, ![1, 1024, 1, 128]⟩
abbrev S1024x128 : Shape := ⟨2, ![1024, 128]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .bf16⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S2x512x8x128, .f32⟩
  | .local _ .vmem, ⟨4, _⟩ => ⟨S4x1024x8x128, .bf16⟩
  | .local _ .vmem, ⟨5, _⟩ => ⟨S3x1024x8x128, .bf16⟩
  | .local _ .vmem, ⟨6, _⟩ => ⟨S2x1024x8x128, .bf16⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S256x1024, .bf16⟩
  | .local _ .vmem, ⟨12, _⟩ => ⟨S128x1024, .bf16⟩
  | .local _ .vmem, ⟨13, _⟩ => ⟨S512x1024, .bf16⟩
  | .local _ .vmem, ⟨14, _⟩ => ⟨S256x1024, .bf16⟩
  | .local _ .vmem, ⟨15, _⟩ => ⟨S128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_395 : BitVec 32 := 0#32
  let c0_i32_393 : BitVec 32 := 0#32
  let c1_i32_394 : BitVec 32 := 1#32
  let v657 : BitVec 32 := Scalar.muli c0_i32_393 c1_i32_394
  let v658 : BitVec 32 := Scalar.addi c0_i32_395 v657
  v658.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_395 : BitVec 32 := 0#32
  let c1_i32_393 : BitVec 32 := 1#32
  let c1_i32_394 : BitVec 32 := 1#32
  let v657 : BitVec 32 := Scalar.muli c1_i32_393 c1_i32_394
  let v658 : BitVec 32 := Scalar.addi c0_i32_395 v657
  v658.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_395 : BitVec 32 := 0#32
  let c2_i32_393 : BitVec 32 := 2#32
  let c1_i32_394 : BitVec 32 := 1#32
  let v657 : BitVec 32 := Scalar.muli c2_i32_393 c1_i32_394
  let v658 : BitVec 32 := Scalar.addi c0_i32_395 v657
  v658.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_395 : BitVec 32 := 0#32
  let c3_i32_393 : BitVec 32 := 3#32
  let c1_i32_394 : BitVec 32 := 1#32
  let v657 : BitVec 32 := Scalar.muli c3_i32_393 c1_i32_394
  let v658 : BitVec 32 := Scalar.addi c0_i32_395 v657
  v658.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_395 : BitVec 32 := 0#32
  let c4_i32_393 : BitVec 32 := 4#32
  let c1_i32_394 : BitVec 32 := 1#32
  let v657 : BitVec 32 := Scalar.muli c4_i32_393 c1_i32_394
  let v658 : BitVec 32 := Scalar.addi c0_i32_395 v657
  v658.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_395 : BitVec 32 := 0#32
  let c5_i32_393 : BitVec 32 := 5#32
  let c1_i32_394 : BitVec 32 := 1#32
  let v657 : BitVec 32 := Scalar.muli c5_i32_393 c1_i32_394
  let v658 : BitVec 32 := Scalar.addi c0_i32_395 v657
  v658.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_395 : BitVec 32 := 0#32
  let c6_i32_393 : BitVec 32 := 6#32
  let c1_i32_394 : BitVec 32 := 1#32
  let v657 : BitVec 32 := Scalar.muli c6_i32_393 c1_i32_394
  let v658 : BitVec 32 := Scalar.addi c0_i32_395 v657
  v658.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_395 : BitVec 32 := 0#32
  let c7_i32_393 : BitVec 32 := 7#32
  let c1_i32_394 : BitVec 32 := 1#32
  let v657 : BitVec 32 := Scalar.muli c7_i32_393 c1_i32_394
  let v658 : BitVec 32 := Scalar.addi c0_i32_395 v657
  v658.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .eq v2 c0_i32_10
  let v29 : BitVec 32 := Scalar.extui v28
  let c0_i32_11 : BitVec 32 := 0#32
  let v30 : BitVec 1 := Scalar.cmpi .ne v29 c0_i32_11
  v30

def k0_dev9 : Nat :=
  let c0_i32_455 : BitVec 32 := 0#32
  let c1_i32_453 : BitVec 32 := 1#32
  let c1_i32_454 : BitVec 32 := 1#32
  let v697 : BitVec 32 := Scalar.muli c1_i32_453 c1_i32_454
  let v698 : BitVec 32 := Scalar.addi c0_i32_455 v697
  v698.toNat
def k0_dev10 : Nat :=
  let c0_i32_525 : BitVec 32 := 0#32
  let c3_i32_523 : BitVec 32 := 3#32
  let c1_i32_524 : BitVec 32 := 1#32
  let v747 : BitVec 32 := Scalar.muli c3_i32_523 c1_i32_524
  let v748 : BitVec 32 := Scalar.addi c0_i32_525 v747
  v748.toNat
def k0_dev11 : Nat :=
  let c0_i32_595 : BitVec 32 := 0#32
  let c4_i32_593 : BitVec 32 := 4#32
  let c1_i32_594 : BitVec 32 := 1#32
  let v797 : BitVec 32 := Scalar.muli c4_i32_593 c1_i32_594
  let v798 : BitVec 32 := Scalar.addi c0_i32_595 v797
  v798.toNat
def k0_dev12 : Nat :=
  let c0_i32_666 : BitVec 32 := 0#32
  let c1_i32_664 : BitVec 32 := 1#32
  let c1_i32_665 : BitVec 32 := 1#32
  let v847 : BitVec 32 := Scalar.muli c1_i32_664 c1_i32_665
  let v848 : BitVec 32 := Scalar.addi c0_i32_666 v847
  v848.toNat
def k0_dev13 : Nat :=
  let c0_i32_749 : BitVec 32 := 0#32
  let c3_i32_747 : BitVec 32 := 3#32
  let c1_i32_748 : BitVec 32 := 1#32
  let v903 : BitVec 32 := Scalar.muli c3_i32_747 c1_i32_748
  let v904 : BitVec 32 := Scalar.addi c0_i32_749 v903
  v904.toNat
def k0_dev14 : Nat :=
  let c0_i32_831 : BitVec 32 := 0#32
  let c4_i32_829 : BitVec 32 := 4#32
  let c1_i32_830 : BitVec 32 := 1#32
  let v959 : BitVec 32 := Scalar.muli c4_i32_829 c1_i32_830
  let v960 : BitVec 32 := Scalar.addi c0_i32_831 v959
  v960.toNat
def k0_dev15 : Nat :=
  let c0_i32_914 : BitVec 32 := 0#32
  let c1_i32_912 : BitVec 32 := 1#32
  let c1_i32_913 : BitVec 32 := 1#32
  let v1015 : BitVec 32 := Scalar.muli c1_i32_912 c1_i32_913
  let v1016 : BitVec 32 := Scalar.addi c0_i32_914 v1015
  v1016.toNat
def k0_dev16 : Nat :=
  let c0_i32_997 : BitVec 32 := 0#32
  let c3_i32_995 : BitVec 32 := 3#32
  let c1_i32_996 : BitVec 32 := 1#32
  let v1071 : BitVec 32 := Scalar.muli c3_i32_995 c1_i32_996
  let v1072 : BitVec 32 := Scalar.addi c0_i32_997 v1071
  v1072.toNat
def k0_dev17 : Nat :=
  let c0_i32_1079 : BitVec 32 := 0#32
  let c4_i32_1077 : BitVec 32 := 4#32
  let c1_i32_1078 : BitVec 32 := 1#32
  let v1127 : BitVec 32 := Scalar.muli c4_i32_1077 c1_i32_1078
  let v1128 : BitVec 32 := Scalar.addi c0_i32_1079 v1127
  v1128.toNat
def k0_dev18 : Nat :=
  let c0_i32_1162 : BitVec 32 := 0#32
  let c1_i32_1160 : BitVec 32 := 1#32
  let c1_i32_1161 : BitVec 32 := 1#32
  let v1183 : BitVec 32 := Scalar.muli c1_i32_1160 c1_i32_1161
  let v1184 : BitVec 32 := Scalar.addi c0_i32_1162 v1183
  v1184.toNat
def k0_dev19 : Nat :=
  let c0_i32_1244 : BitVec 32 := 0#32
  let c3_i32_1242 : BitVec 32 := 3#32
  let c1_i32_1243 : BitVec 32 := 1#32
  let v1239 : BitVec 32 := Scalar.muli c3_i32_1242 c1_i32_1243
  let v1240 : BitVec 32 := Scalar.addi c0_i32_1244 v1239
  v1240.toNat
def k0_dev20 : Nat :=
  let c0_i32_1327 : BitVec 32 := 0#32
  let c4_i32_1325 : BitVec 32 := 4#32
  let c1_i32_1326 : BitVec 32 := 1#32
  let v1295 : BitVec 32 := Scalar.muli c4_i32_1325 c1_i32_1326
  let v1296 : BitVec 32 := Scalar.addi c0_i32_1327 v1295
  v1296.toNat
def k0_dev21 : Nat :=
  let c0_i32_1410 : BitVec 32 := 0#32
  let c1_i32_1408 : BitVec 32 := 1#32
  let c1_i32_1409 : BitVec 32 := 1#32
  let v1351 : BitVec 32 := Scalar.muli c1_i32_1408 c1_i32_1409
  let v1352 : BitVec 32 := Scalar.addi c0_i32_1410 v1351
  v1352.toNat
def k0_dev22 : Nat :=
  let c0_i32_1493 : BitVec 32 := 0#32
  let c3_i32_1491 : BitVec 32 := 3#32
  let c1_i32_1492 : BitVec 32 := 1#32
  let v1407 : BitVec 32 := Scalar.muli c3_i32_1491 c1_i32_1492
  let v1408 : BitVec 32 := Scalar.addi c0_i32_1493 v1407
  v1408.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v47 : BitVec 1 := Scalar.cmpi .eq v2 c1_i32_21
  let v48 : BitVec 32 := Scalar.extui v47
  let c0_i32_22 : BitVec 32 := 0#32
  let v49 : BitVec 1 := Scalar.cmpi .ne v48 c0_i32_22
  v49

def k0_dev23 : Nat :=
  let c0_i32_411 : BitVec 32 := 0#32
  let c2_i32_409 : BitVec 32 := 2#32
  let c1_i32_410 : BitVec 32 := 1#32
  let v665 : BitVec 32 := Scalar.muli c2_i32_409 c1_i32_410
  let v666 : BitVec 32 := Scalar.addi c0_i32_411 v665
  v666.toNat
def k0_dev24 : Nat :=
  let c0_i32_437 : BitVec 32 := 0#32
  let c2_i32_435 : BitVec 32 := 2#32
  let c1_i32_436 : BitVec 32 := 1#32
  let v683 : BitVec 32 := Scalar.muli c2_i32_435 c1_i32_436
  let v684 : BitVec 32 := Scalar.addi c0_i32_437 v683
  v684.toNat
def k0_dev25 : Nat :=
  let c0_i32_463 : BitVec 32 := 0#32
  let c5_i32_461 : BitVec 32 := 5#32
  let c1_i32_462 : BitVec 32 := 1#32
  let v701 : BitVec 32 := Scalar.muli c5_i32_461 c1_i32_462
  let v702 : BitVec 32 := Scalar.addi c0_i32_463 v701
  v702.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_23 : BitVec 32 := 3#32
  let v50 : BitVec 1 := Scalar.cmpi .eq v2 c3_i32_23
  let v51 : BitVec 32 := Scalar.extui v50
  let c0_i32_24 : BitVec 32 := 0#32
  let v52 : BitVec 1 := Scalar.cmpi .ne v51 c0_i32_24
  v52

def k0_dev26 : Nat :=
  let c0_i32_411 : BitVec 32 := 0#32
  let c7_i32_409 : BitVec 32 := 7#32
  let c1_i32_410 : BitVec 32 := 1#32
  let v665 : BitVec 32 := Scalar.muli c7_i32_409 c1_i32_410
  let v666 : BitVec 32 := Scalar.addi c0_i32_411 v665
  v666.toNat
def k0_dev27 : Nat :=
  let c0_i32_437 : BitVec 32 := 0#32
  let c7_i32_435 : BitVec 32 := 7#32
  let c1_i32_436 : BitVec 32 := 1#32
  let v683 : BitVec 32 := Scalar.muli c7_i32_435 c1_i32_436
  let v684 : BitVec 32 := Scalar.addi c0_i32_437 v683
  v684.toNat
def k0_dev28 : Nat :=
  let c0_i32_463 : BitVec 32 := 0#32
  let c6_i32_461 : BitVec 32 := 6#32
  let c1_i32_462 : BitVec 32 := 1#32
  let v701 : BitVec 32 := Scalar.muli c6_i32_461 c1_i32_462
  let v702 : BitVec 32 := Scalar.addi c0_i32_463 v701
  v702.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_25 : BitVec 32 := 4#32
  let v53 : BitVec 1 := Scalar.cmpi .eq v2 c4_i32_25
  let v54 : BitVec 32 := Scalar.extui v53
  let c0_i32_26 : BitVec 32 := 0#32
  let v55 : BitVec 1 := Scalar.cmpi .ne v54 c0_i32_26
  v55

def k0_dev29 : Nat :=
  let c0_i32_411 : BitVec 32 := 0#32
  let c5_i32_409 : BitVec 32 := 5#32
  let c1_i32_410 : BitVec 32 := 1#32
  let v665 : BitVec 32 := Scalar.muli c5_i32_409 c1_i32_410
  let v666 : BitVec 32 := Scalar.addi c0_i32_411 v665
  v666.toNat
def k0_dev30 : Nat :=
  let c0_i32_437 : BitVec 32 := 0#32
  let c6_i32_435 : BitVec 32 := 6#32
  let c1_i32_436 : BitVec 32 := 1#32
  let v683 : BitVec 32 := Scalar.muli c6_i32_435 c1_i32_436
  let v684 : BitVec 32 := Scalar.addi c0_i32_437 v683
  v684.toNat
def k0_off1 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v176 : Index := Scalar.indexCast v118
  let c0_75 : Index := 0#32
  ![v176.toNat, 0]
def k0_off2 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v192 : Index := Scalar.indexCast v118
  let c128 : Index := 128#32
  ![v192.toNat, 128]
def k0_off3 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v208 : Index := Scalar.indexCast v118
  let c256 : Index := 256#32
  ![v208.toNat, 256]
def k0_off4 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v224 : Index := Scalar.indexCast v118
  let c384 : Index := 384#32
  ![v224.toNat, 384]
def k0_off5 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v240 : Index := Scalar.indexCast v118
  let c512 : Index := 512#32
  ![v240.toNat, 512]
def k0_off6 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v256 : Index := Scalar.indexCast v118
  let c640 : Index := 640#32
  ![v256.toNat, 640]
def k0_off7 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v272 : Index := Scalar.indexCast v118
  let c768 : Index := 768#32
  ![v272.toNat, 768]
def k0_off8 (d0 : Dev nD) : Fin 2 → Nat :=
  let c512_i32 : BitVec 32 := 512#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v117 : BitVec 32 := Scalar.subi c1_i32_58 v75
  let v118 : BitVec 32 := Scalar.muli c512_i32 v117
  let v288 : Index := Scalar.indexCast v118
  let c896 : Index := 896#32
  ![v288.toNat, 896]
def k0_dev31 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v116 : BitVec 32 := Scalar.xori v2 c4_i32_57
  let c1_i32_162 : BitVec 32 := 1#32
  let v310 : BitVec 32 := Scalar.muli v116 c1_i32_162
  let v311 : BitVec 32 := Scalar.addi c0_i32_163 v310
  v311.toNat
def k0_off9 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v372 : Index := Scalar.indexCast v119
  let c0_180 : Index := 0#32
  ![v372.toNat, 0]
def k0_off10 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v388 : Index := Scalar.indexCast v119
  let c128_192 : Index := 128#32
  ![v388.toNat, 128]
def k0_off11 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v404 : Index := Scalar.indexCast v119
  let c256_204 : Index := 256#32
  ![v404.toNat, 256]
def k0_off12 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v420 : Index := Scalar.indexCast v119
  let c384_216 : Index := 384#32
  ![v420.toNat, 384]
def k0_off13 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v436 : Index := Scalar.indexCast v119
  let c512_228 : Index := 512#32
  ![v436.toNat, 512]
def k0_off14 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v452 : Index := Scalar.indexCast v119
  let c640_240 : Index := 640#32
  ![v452.toNat, 640]
def k0_off15 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v468 : Index := Scalar.indexCast v119
  let c768_252 : Index := 768#32
  ![v468.toNat, 768]
def k0_off16 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v484 : Index := Scalar.indexCast v119
  let c896_264 : Index := 896#32
  ![v484.toNat, 896]
def k0_off17 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let v502 : Index := Scalar.indexCast v119
  let c0_277 : Index := 0#32
  ![v502.toNat, 0]
def k0_off18 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let c256_i32 : BitVec 32 := 256#32
  let c1_i32_289 : BitVec 32 := 1#32
  let c4_i32_36 : BitVec 32 := 4#32
  let c0_i32_37 : BitVec 32 := 0#32
  let v76 : BitVec 1 := Scalar.cmpi .eq c4_i32_36 c0_i32_37
  let c1_i32_38 : BitVec 32 := 1#32
  let v77 : BitVec 32 := Scalar.select v76 c1_i32_38 c4_i32_36
  let v78 : BitVec 32 := Scalar.remsi v2 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c0_i32_43 : BitVec 32 := 0#32
  let v87 : BitVec 1 := Scalar.cmpi .sgt v85 c0_i32_43
  let v88 : BitVec 32 := Scalar.extui v87
  let c0_i32_44 : BitVec 32 := 0#32
  let v89 : BitVec 1 := Scalar.cmpi .slt v85 c0_i32_44
  let v90 : BitVec 32 := Scalar.extui v89
  let v91 : BitVec 32 := Scalar.subi v88 v90
  let c2_i32_42 : BitVec 32 := 2#32
  let c0_i32_45 : BitVec 32 := 0#32
  let v92 : BitVec 1 := Scalar.cmpi .sgt c2_i32_42 c0_i32_45
  let v93 : BitVec 32 := Scalar.extui v92
  let c0_i32_46 : BitVec 32 := 0#32
  let v94 : BitVec 1 := Scalar.cmpi .slt c2_i32_42 c0_i32_46
  let v95 : BitVec 32 := Scalar.extui v94
  let v96 : BitVec 32 := Scalar.subi v93 v95
  let v97 : BitVec 1 := Scalar.cmpi .ne v91 v96
  let v98 : BitVec 32 := Scalar.remsi v85 c2_i32_42
  let c0_i32_47 : BitVec 32 := 0#32
  let v99 : BitVec 1 := Scalar.cmpi .ne v98 c0_i32_47
  let v100 : BitVec 1 := Scalar.andi v97 v99
  let v86 : BitVec 32 := Scalar.divsi v85 c2_i32_42
  let c1_i32_48 : BitVec 32 := 1#32
  let v101 : BitVec 32 := Scalar.subi v86 c1_i32_48
  let v102 : BitVec 32 := Scalar.select v100 v101 v86
  let v521 : BitVec 32 := Scalar.subi c1_i32_289 v102
  let v522 : BitVec 32 := Scalar.muli c256_i32 v521
  let v523 : BitVec 32 := Scalar.addi v119 v522
  let v526 : Index := Scalar.indexCast v523
  let c0_291 : Index := 0#32
  ![v526.toNat, 0]
def k0_dev32 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v115 : BitVec 32 := Scalar.xori v2 c3_i32_56
  let c1_i32_296 : BitVec 32 := 1#32
  let v532 : BitVec 32 := Scalar.muli v115 c1_i32_296
  let v533 : BitVec 32 := Scalar.addi c0_i32_297 v532
  v533.toNat
def k0_off19 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let c256_i32_290 : BitVec 32 := 256#32
  let c4_i32_36 : BitVec 32 := 4#32
  let c0_i32_37 : BitVec 32 := 0#32
  let v76 : BitVec 1 := Scalar.cmpi .eq c4_i32_36 c0_i32_37
  let c1_i32_38 : BitVec 32 := 1#32
  let v77 : BitVec 32 := Scalar.select v76 c1_i32_38 c4_i32_36
  let v78 : BitVec 32 := Scalar.remsi v2 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c0_i32_43 : BitVec 32 := 0#32
  let v87 : BitVec 1 := Scalar.cmpi .sgt v85 c0_i32_43
  let v88 : BitVec 32 := Scalar.extui v87
  let c0_i32_44 : BitVec 32 := 0#32
  let v89 : BitVec 1 := Scalar.cmpi .slt v85 c0_i32_44
  let v90 : BitVec 32 := Scalar.extui v89
  let v91 : BitVec 32 := Scalar.subi v88 v90
  let c2_i32_42 : BitVec 32 := 2#32
  let c0_i32_45 : BitVec 32 := 0#32
  let v92 : BitVec 1 := Scalar.cmpi .sgt c2_i32_42 c0_i32_45
  let v93 : BitVec 32 := Scalar.extui v92
  let c0_i32_46 : BitVec 32 := 0#32
  let v94 : BitVec 1 := Scalar.cmpi .slt c2_i32_42 c0_i32_46
  let v95 : BitVec 32 := Scalar.extui v94
  let v96 : BitVec 32 := Scalar.subi v93 v95
  let v97 : BitVec 1 := Scalar.cmpi .ne v91 v96
  let v98 : BitVec 32 := Scalar.remsi v85 c2_i32_42
  let c0_i32_47 : BitVec 32 := 0#32
  let v99 : BitVec 1 := Scalar.cmpi .ne v98 c0_i32_47
  let v100 : BitVec 1 := Scalar.andi v97 v99
  let v86 : BitVec 32 := Scalar.divsi v85 c2_i32_42
  let c1_i32_48 : BitVec 32 := 1#32
  let v101 : BitVec 32 := Scalar.subi v86 c1_i32_48
  let v102 : BitVec 32 := Scalar.select v100 v101 v86
  let v524 : BitVec 32 := Scalar.muli c256_i32_290 v102
  let v525 : BitVec 32 := Scalar.addi v119 v524
  let v544 : Index := Scalar.indexCast v525
  let c0_305 : Index := 0#32
  ![v544.toNat, 0]
def k0_off20 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let c256_i32_290 : BitVec 32 := 256#32
  let c4_i32_36 : BitVec 32 := 4#32
  let c0_i32_37 : BitVec 32 := 0#32
  let v76 : BitVec 1 := Scalar.cmpi .eq c4_i32_36 c0_i32_37
  let c1_i32_38 : BitVec 32 := 1#32
  let v77 : BitVec 32 := Scalar.select v76 c1_i32_38 c4_i32_36
  let v78 : BitVec 32 := Scalar.remsi v2 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c0_i32_43 : BitVec 32 := 0#32
  let v87 : BitVec 1 := Scalar.cmpi .sgt v85 c0_i32_43
  let v88 : BitVec 32 := Scalar.extui v87
  let c0_i32_44 : BitVec 32 := 0#32
  let v89 : BitVec 1 := Scalar.cmpi .slt v85 c0_i32_44
  let v90 : BitVec 32 := Scalar.extui v89
  let v91 : BitVec 32 := Scalar.subi v88 v90
  let c2_i32_42 : BitVec 32 := 2#32
  let c0_i32_45 : BitVec 32 := 0#32
  let v92 : BitVec 1 := Scalar.cmpi .sgt c2_i32_42 c0_i32_45
  let v93 : BitVec 32 := Scalar.extui v92
  let c0_i32_46 : BitVec 32 := 0#32
  let v94 : BitVec 1 := Scalar.cmpi .slt c2_i32_42 c0_i32_46
  let v95 : BitVec 32 := Scalar.extui v94
  let v96 : BitVec 32 := Scalar.subi v93 v95
  let v97 : BitVec 1 := Scalar.cmpi .ne v91 v96
  let v98 : BitVec 32 := Scalar.remsi v85 c2_i32_42
  let c0_i32_47 : BitVec 32 := 0#32
  let v99 : BitVec 1 := Scalar.cmpi .ne v98 c0_i32_47
  let v100 : BitVec 1 := Scalar.andi v97 v99
  let v86 : BitVec 32 := Scalar.divsi v85 c2_i32_42
  let c1_i32_48 : BitVec 32 := 1#32
  let v101 : BitVec 32 := Scalar.subi v86 c1_i32_48
  let v102 : BitVec 32 := Scalar.select v100 v101 v86
  let v524 : BitVec 32 := Scalar.muli c256_i32_290 v102
  let v525 : BitVec 32 := Scalar.addi v119 v524
  let c128_i32 : BitVec 32 := 128#32
  let c1_i32_309 : BitVec 32 := 1#32
  let c2_i32_49 : BitVec 32 := 2#32
  let c0_i32_50 : BitVec 32 := 0#32
  let v103 : BitVec 1 := Scalar.cmpi .eq c2_i32_49 c0_i32_50
  let c1_i32_51 : BitVec 32 := 1#32
  let v104 : BitVec 32 := Scalar.select v103 c1_i32_51 c2_i32_49
  let v105 : BitVec 32 := Scalar.remsi v85 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  let v113 : BitVec 32 := Scalar.xori v112 v102
  let v553 : BitVec 32 := Scalar.subi c1_i32_309 v113
  let v554 : BitVec 32 := Scalar.muli c128_i32 v553
  let v555 : BitVec 32 := Scalar.addi v525 v554
  let v558 : Index := Scalar.indexCast v555
  let c0_311 : Index := 0#32
  ![v558.toNat, 0]
def k0_dev33 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_55 : BitVec 32 := 1#32
  let v114 : BitVec 32 := Scalar.xori v2 c1_i32_55
  let c1_i32_316 : BitVec 32 := 1#32
  let v564 : BitVec 32 := Scalar.muli v114 c1_i32_316
  let v565 : BitVec 32 := Scalar.addi c0_i32_317 v564
  v565.toNat
def k0_off21 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let c256_i32_290 : BitVec 32 := 256#32
  let c4_i32_36 : BitVec 32 := 4#32
  let c0_i32_37 : BitVec 32 := 0#32
  let v76 : BitVec 1 := Scalar.cmpi .eq c4_i32_36 c0_i32_37
  let c1_i32_38 : BitVec 32 := 1#32
  let v77 : BitVec 32 := Scalar.select v76 c1_i32_38 c4_i32_36
  let v78 : BitVec 32 := Scalar.remsi v2 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c0_i32_43 : BitVec 32 := 0#32
  let v87 : BitVec 1 := Scalar.cmpi .sgt v85 c0_i32_43
  let v88 : BitVec 32 := Scalar.extui v87
  let c0_i32_44 : BitVec 32 := 0#32
  let v89 : BitVec 1 := Scalar.cmpi .slt v85 c0_i32_44
  let v90 : BitVec 32 := Scalar.extui v89
  let v91 : BitVec 32 := Scalar.subi v88 v90
  let c2_i32_42 : BitVec 32 := 2#32
  let c0_i32_45 : BitVec 32 := 0#32
  let v92 : BitVec 1 := Scalar.cmpi .sgt c2_i32_42 c0_i32_45
  let v93 : BitVec 32 := Scalar.extui v92
  let c0_i32_46 : BitVec 32 := 0#32
  let v94 : BitVec 1 := Scalar.cmpi .slt c2_i32_42 c0_i32_46
  let v95 : BitVec 32 := Scalar.extui v94
  let v96 : BitVec 32 := Scalar.subi v93 v95
  let v97 : BitVec 1 := Scalar.cmpi .ne v91 v96
  let v98 : BitVec 32 := Scalar.remsi v85 c2_i32_42
  let c0_i32_47 : BitVec 32 := 0#32
  let v99 : BitVec 1 := Scalar.cmpi .ne v98 c0_i32_47
  let v100 : BitVec 1 := Scalar.andi v97 v99
  let v86 : BitVec 32 := Scalar.divsi v85 c2_i32_42
  let c1_i32_48 : BitVec 32 := 1#32
  let v101 : BitVec 32 := Scalar.subi v86 c1_i32_48
  let v102 : BitVec 32 := Scalar.select v100 v101 v86
  let v524 : BitVec 32 := Scalar.muli c256_i32_290 v102
  let v525 : BitVec 32 := Scalar.addi v119 v524
  let c128_i32_310 : BitVec 32 := 128#32
  let c2_i32_49 : BitVec 32 := 2#32
  let c0_i32_50 : BitVec 32 := 0#32
  let v103 : BitVec 1 := Scalar.cmpi .eq c2_i32_49 c0_i32_50
  let c1_i32_51 : BitVec 32 := 1#32
  let v104 : BitVec 32 := Scalar.select v103 c1_i32_51 c2_i32_49
  let v105 : BitVec 32 := Scalar.remsi v85 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  let v113 : BitVec 32 := Scalar.xori v112 v102
  let v556 : BitVec 32 := Scalar.muli c128_i32_310 v113
  let v557 : BitVec 32 := Scalar.addi v525 v556
  let v576 : Index := Scalar.indexCast v557
  let c0_325 : Index := 0#32
  ![v576.toNat, 0]
def k0_off22 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let c256_i32_290 : BitVec 32 := 256#32
  let c4_i32_36 : BitVec 32 := 4#32
  let c0_i32_37 : BitVec 32 := 0#32
  let v76 : BitVec 1 := Scalar.cmpi .eq c4_i32_36 c0_i32_37
  let c1_i32_38 : BitVec 32 := 1#32
  let v77 : BitVec 32 := Scalar.select v76 c1_i32_38 c4_i32_36
  let v78 : BitVec 32 := Scalar.remsi v2 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c0_i32_43 : BitVec 32 := 0#32
  let v87 : BitVec 1 := Scalar.cmpi .sgt v85 c0_i32_43
  let v88 : BitVec 32 := Scalar.extui v87
  let c0_i32_44 : BitVec 32 := 0#32
  let v89 : BitVec 1 := Scalar.cmpi .slt v85 c0_i32_44
  let v90 : BitVec 32 := Scalar.extui v89
  let v91 : BitVec 32 := Scalar.subi v88 v90
  let c2_i32_42 : BitVec 32 := 2#32
  let c0_i32_45 : BitVec 32 := 0#32
  let v92 : BitVec 1 := Scalar.cmpi .sgt c2_i32_42 c0_i32_45
  let v93 : BitVec 32 := Scalar.extui v92
  let c0_i32_46 : BitVec 32 := 0#32
  let v94 : BitVec 1 := Scalar.cmpi .slt c2_i32_42 c0_i32_46
  let v95 : BitVec 32 := Scalar.extui v94
  let v96 : BitVec 32 := Scalar.subi v93 v95
  let v97 : BitVec 1 := Scalar.cmpi .ne v91 v96
  let v98 : BitVec 32 := Scalar.remsi v85 c2_i32_42
  let c0_i32_47 : BitVec 32 := 0#32
  let v99 : BitVec 1 := Scalar.cmpi .ne v98 c0_i32_47
  let v100 : BitVec 1 := Scalar.andi v97 v99
  let v86 : BitVec 32 := Scalar.divsi v85 c2_i32_42
  let c1_i32_48 : BitVec 32 := 1#32
  let v101 : BitVec 32 := Scalar.subi v86 c1_i32_48
  let v102 : BitVec 32 := Scalar.select v100 v101 v86
  let v524 : BitVec 32 := Scalar.muli c256_i32_290 v102
  let v525 : BitVec 32 := Scalar.addi v119 v524
  let c128_i32_310 : BitVec 32 := 128#32
  let c2_i32_49 : BitVec 32 := 2#32
  let c0_i32_50 : BitVec 32 := 0#32
  let v103 : BitVec 1 := Scalar.cmpi .eq c2_i32_49 c0_i32_50
  let c1_i32_51 : BitVec 32 := 1#32
  let v104 : BitVec 32 := Scalar.select v103 c1_i32_51 c2_i32_49
  let v105 : BitVec 32 := Scalar.remsi v85 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  let v113 : BitVec 32 := Scalar.xori v112 v102
  let v556 : BitVec 32 := Scalar.muli c128_i32_310 v113
  let v557 : BitVec 32 := Scalar.addi v525 v556
  let c0_i32_335 : BitVec 32 := 0#32
  ![v557.toNat, 0]
def k0_dev34 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_55 : BitVec 32 := 1#32
  let v114 : BitVec 32 := Scalar.xori v2 c1_i32_55
  let c1_i32_333 : BitVec 32 := 1#32
  let v592 : BitVec 32 := Scalar.muli v114 c1_i32_333
  let v593 : BitVec 32 := Scalar.addi c0_i32_334 v592
  v593.toNat
def k0_off23 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let c256_i32_290 : BitVec 32 := 256#32
  let c4_i32_36 : BitVec 32 := 4#32
  let c0_i32_37 : BitVec 32 := 0#32
  let v76 : BitVec 1 := Scalar.cmpi .eq c4_i32_36 c0_i32_37
  let c1_i32_38 : BitVec 32 := 1#32
  let v77 : BitVec 32 := Scalar.select v76 c1_i32_38 c4_i32_36
  let v78 : BitVec 32 := Scalar.remsi v2 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c0_i32_43 : BitVec 32 := 0#32
  let v87 : BitVec 1 := Scalar.cmpi .sgt v85 c0_i32_43
  let v88 : BitVec 32 := Scalar.extui v87
  let c0_i32_44 : BitVec 32 := 0#32
  let v89 : BitVec 1 := Scalar.cmpi .slt v85 c0_i32_44
  let v90 : BitVec 32 := Scalar.extui v89
  let v91 : BitVec 32 := Scalar.subi v88 v90
  let c2_i32_42 : BitVec 32 := 2#32
  let c0_i32_45 : BitVec 32 := 0#32
  let v92 : BitVec 1 := Scalar.cmpi .sgt c2_i32_42 c0_i32_45
  let v93 : BitVec 32 := Scalar.extui v92
  let c0_i32_46 : BitVec 32 := 0#32
  let v94 : BitVec 1 := Scalar.cmpi .slt c2_i32_42 c0_i32_46
  let v95 : BitVec 32 := Scalar.extui v94
  let v96 : BitVec 32 := Scalar.subi v93 v95
  let v97 : BitVec 1 := Scalar.cmpi .ne v91 v96
  let v98 : BitVec 32 := Scalar.remsi v85 c2_i32_42
  let c0_i32_47 : BitVec 32 := 0#32
  let v99 : BitVec 1 := Scalar.cmpi .ne v98 c0_i32_47
  let v100 : BitVec 1 := Scalar.andi v97 v99
  let v86 : BitVec 32 := Scalar.divsi v85 c2_i32_42
  let c1_i32_48 : BitVec 32 := 1#32
  let v101 : BitVec 32 := Scalar.subi v86 c1_i32_48
  let v102 : BitVec 32 := Scalar.select v100 v101 v86
  let v524 : BitVec 32 := Scalar.muli c256_i32_290 v102
  let v525 : BitVec 32 := Scalar.addi v119 v524
  let c128_i32_310 : BitVec 32 := 128#32
  let c2_i32_49 : BitVec 32 := 2#32
  let c0_i32_50 : BitVec 32 := 0#32
  let v103 : BitVec 1 := Scalar.cmpi .eq c2_i32_49 c0_i32_50
  let c1_i32_51 : BitVec 32 := 1#32
  let v104 : BitVec 32 := Scalar.select v103 c1_i32_51 c2_i32_49
  let v105 : BitVec 32 := Scalar.remsi v85 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  let v113 : BitVec 32 := Scalar.xori v112 v102
  let v556 : BitVec 32 := Scalar.muli c128_i32_310 v113
  let v557 : BitVec 32 := Scalar.addi v525 v556
  let c128_i32_348 : BitVec 32 := 128#32
  let v610 : BitVec 32 := Scalar.muli c128_i32_348 v113
  let v611 : BitVec 32 := Scalar.subi v557 v610
  let c0_i32_353 : BitVec 32 := 0#32
  ![v611.toNat, 0]
def k0_dev35 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v115 : BitVec 32 := Scalar.xori v2 c3_i32_56
  let c1_i32_351 : BitVec 32 := 1#32
  let v612 : BitVec 32 := Scalar.muli v115 c1_i32_351
  let v613 : BitVec 32 := Scalar.addi c0_i32_352 v612
  v613.toNat
def k0_off24 (d0 : Dev nD) : Fin 2 → Nat :=
  let c512_i32_59 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let v60 : BitVec 1 := Scalar.cmpi .sgt v2 c0_i32_30
  let v61 : BitVec 32 := Scalar.extui v60
  let c0_i32_31 : BitVec 32 := 0#32
  let v62 : BitVec 1 := Scalar.cmpi .slt v2 c0_i32_31
  let v63 : BitVec 32 := Scalar.extui v62
  let v64 : BitVec 32 := Scalar.subi v61 v63
  let c4_i32_29 : BitVec 32 := 4#32
  let c0_i32_32 : BitVec 32 := 0#32
  let v65 : BitVec 1 := Scalar.cmpi .sgt c4_i32_29 c0_i32_32
  let v66 : BitVec 32 := Scalar.extui v65
  let c0_i32_33 : BitVec 32 := 0#32
  let v67 : BitVec 1 := Scalar.cmpi .slt c4_i32_29 c0_i32_33
  let v68 : BitVec 32 := Scalar.extui v67
  let v69 : BitVec 32 := Scalar.subi v66 v68
  let v70 : BitVec 1 := Scalar.cmpi .ne v64 v69
  let v71 : BitVec 32 := Scalar.remsi v2 c4_i32_29
  let c0_i32_34 : BitVec 32 := 0#32
  let v72 : BitVec 1 := Scalar.cmpi .ne v71 c0_i32_34
  let v73 : BitVec 1 := Scalar.andi v70 v72
  let v59 : BitVec 32 := Scalar.divsi v2 c4_i32_29
  let c1_i32_35 : BitVec 32 := 1#32
  let v74 : BitVec 32 := Scalar.subi v59 c1_i32_35
  let v75 : BitVec 32 := Scalar.select v73 v74 v59
  let v119 : BitVec 32 := Scalar.muli c512_i32_59 v75
  let c256_i32_290 : BitVec 32 := 256#32
  let c4_i32_36 : BitVec 32 := 4#32
  let c0_i32_37 : BitVec 32 := 0#32
  let v76 : BitVec 1 := Scalar.cmpi .eq c4_i32_36 c0_i32_37
  let c1_i32_38 : BitVec 32 := 1#32
  let v77 : BitVec 32 := Scalar.select v76 c1_i32_38 c4_i32_36
  let v78 : BitVec 32 := Scalar.remsi v2 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c0_i32_43 : BitVec 32 := 0#32
  let v87 : BitVec 1 := Scalar.cmpi .sgt v85 c0_i32_43
  let v88 : BitVec 32 := Scalar.extui v87
  let c0_i32_44 : BitVec 32 := 0#32
  let v89 : BitVec 1 := Scalar.cmpi .slt v85 c0_i32_44
  let v90 : BitVec 32 := Scalar.extui v89
  let v91 : BitVec 32 := Scalar.subi v88 v90
  let c2_i32_42 : BitVec 32 := 2#32
  let c0_i32_45 : BitVec 32 := 0#32
  let v92 : BitVec 1 := Scalar.cmpi .sgt c2_i32_42 c0_i32_45
  let v93 : BitVec 32 := Scalar.extui v92
  let c0_i32_46 : BitVec 32 := 0#32
  let v94 : BitVec 1 := Scalar.cmpi .slt c2_i32_42 c0_i32_46
  let v95 : BitVec 32 := Scalar.extui v94
  let v96 : BitVec 32 := Scalar.subi v93 v95
  let v97 : BitVec 1 := Scalar.cmpi .ne v91 v96
  let v98 : BitVec 32 := Scalar.remsi v85 c2_i32_42
  let c0_i32_47 : BitVec 32 := 0#32
  let v99 : BitVec 1 := Scalar.cmpi .ne v98 c0_i32_47
  let v100 : BitVec 1 := Scalar.andi v97 v99
  let v86 : BitVec 32 := Scalar.divsi v85 c2_i32_42
  let c1_i32_48 : BitVec 32 := 1#32
  let v101 : BitVec 32 := Scalar.subi v86 c1_i32_48
  let v102 : BitVec 32 := Scalar.select v100 v101 v86
  let v524 : BitVec 32 := Scalar.muli c256_i32_290 v102
  let v525 : BitVec 32 := Scalar.addi v119 v524
  let c128_i32_310 : BitVec 32 := 128#32
  let c2_i32_49 : BitVec 32 := 2#32
  let c0_i32_50 : BitVec 32 := 0#32
  let v103 : BitVec 1 := Scalar.cmpi .eq c2_i32_49 c0_i32_50
  let c1_i32_51 : BitVec 32 := 1#32
  let v104 : BitVec 32 := Scalar.select v103 c1_i32_51 c2_i32_49
  let v105 : BitVec 32 := Scalar.remsi v85 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  let v113 : BitVec 32 := Scalar.xori v112 v102
  let v556 : BitVec 32 := Scalar.muli c128_i32_310 v113
  let v557 : BitVec 32 := Scalar.addi v525 v556
  let c128_i32_348 : BitVec 32 := 128#32
  let v610 : BitVec 32 := Scalar.muli c128_i32_348 v113
  let v611 : BitVec 32 := Scalar.subi v557 v610
  let c256_i32_366 : BitVec 32 := 256#32
  let v630 : BitVec 32 := Scalar.muli c256_i32_366 v102
  let v631 : BitVec 32 := Scalar.subi v611 v630
  let c0_i32_371 : BitVec 32 := 0#32
  ![v631.toNat, 0]
def k0_dev36 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v116 : BitVec 32 := Scalar.xori v2 c4_i32_57
  let c1_i32_369 : BitVec 32 := 1#32
  let v632 : BitVec 32 := Scalar.muli v116 c1_i32_369
  let v633 : BitVec 32 := Scalar.addi c0_i32_370 v632
  v633.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S1x1024x8192 : Shape := ⟨3, ![1, 1024, 8192]⟩
abbrev S1x1024x64x128 : Shape := ⟨4, ![1, 1024, 64, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1x64x1024x8192 : Shape := ⟨4, ![1, 64, 1024, 8192]⟩
abbrev S1x1x1024x8192 : Shape := ⟨4, ![1, 1, 1024, 8192]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x8192x64x128, .f32⟩
  | .hbm, ⟨3, _⟩ => ⟨S1x8192x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S1x8192, .i32⟩
  | .hbm, ⟨47, _⟩ => ⟨S1024x8192, .i32⟩
  | .hbm, ⟨48, _⟩ => ⟨S1024x8192, .i32⟩
  | .hbm, ⟨49, _⟩ => ⟨S1024x8192, .i1⟩
  | .hbm, ⟨50, _⟩ => ⟨S1x64x1024x8192, .f32⟩
  | .hbm, ⟨51, _⟩ => ⟨S_, .f32⟩
  | .hbm, ⟨52, _⟩ => ⟨S1x64x1024x8192, .f32⟩
  | .hbm, ⟨53, _⟩ => ⟨S1x64x1024x8192, .f32⟩
  | .hbm, ⟨54, _⟩ => ⟨S1x1x1024x8192, .i1⟩
  | .hbm, ⟨55, _⟩ => ⟨S_, .f32⟩
  | .hbm, ⟨56, _⟩ => ⟨S_, .f32⟩
  | .hbm, ⟨57, _⟩ => ⟨S1x64x1024x8192, .i1⟩
  | .hbm, ⟨58, _⟩ => ⟨S1x64x1024x8192, .f32⟩
  | .hbm, ⟨59, _⟩ => ⟨S1x64x1024x8192, .f32⟩
  | .hbm, ⟨60, _⟩ => ⟨S_, .f32⟩
  | .hbm, ⟨61, _⟩ => ⟨S1x64x1024, .f32⟩
  | .hbm, ⟨62, _⟩ => ⟨S1x64x1024x1, .f32⟩
  | .hbm, ⟨63, _⟩ => ⟨S1x64x1024x8192, .f32⟩
  | .hbm, ⟨64, _⟩ => ⟨S1x64x1024x8192, .f32⟩
  | .hbm, ⟨65, _⟩ => ⟨S1x64x1024x8192, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x64x1024, .f32⟩
  | .hbm, ⟨71, _⟩ => ⟨S1x64x1024x1, .f32⟩
  | .hbm, ⟨72, _⟩ => ⟨S_, .f32⟩
  | .hbm, ⟨73, _⟩ => ⟨S_, .f32⟩
  | .hbm, ⟨74, _⟩ => ⟨S1x64x1024x1, .i1⟩
  | .hbm, ⟨75, _⟩ => ⟨S1x64x1024x1, .f32⟩
  | .hbm, ⟨76, _⟩ => ⟨S1x64x1024x1, .f32⟩
  | .hbm, ⟨77, _⟩ => ⟨S1x64x1024x8192, .f32⟩
  | .hbm, ⟨78, _⟩ => ⟨S1x64x1024x8192, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x64x1024x8192, .i1⟩
  | .hbm, ⟨83, _⟩ => ⟨S1x64x1024x8192, .f32⟩
  | .hbm, ⟨84, _⟩ => ⟨S1x64x1024x8192, .f32⟩
  | .hbm, ⟨85, _⟩ => ⟨S1x64x128x1024, .f32⟩
  | .hbm, ⟨86, _⟩ => ⟨S1x1024x64x128, .f32⟩
  | .hbm, ⟨87, _⟩ => ⟨S1x1024x8192, .f32⟩
  | .hbm, ⟨88, _⟩ => ⟨S1x1024x1024, .f32⟩
  | .hbm, ⟨89, _⟩ => ⟨S1x1024x1024, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]
-- ==== Proof.Cells.lean ====
/-
  The cells of the kernel on the mesh of eight, who pays them, and what each payment hands over.

  Every semaphore that another device raises, or that a transfer to another device raises, is a cell with rounds
  (`CK`): the barrier, the send cells of device 0's slots, the landing cells of the two key/value slots, of the relay
  slots and of the three exchange steps each way. The contents the payments promise are a parameter (`Vals`).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The algebra: the pipeline's rounds, the mesh's rounds, the local transfers' counters -/

abbrev D : Type := Dev nD
abbrev UB : Type := URounds (GSem nD τ sig) D
abbrev UU : Type := UR sig nD τ × (UB × Counters)

local notation "𝕄" => MT nD τ sig Unit (Elt F) ℕ UU ℕ

abbrev EP : Emb (UR sig nD τ) (MT nD τ sig Unit (Elt F) ℕ UU ℕ) := embL
/-- The mesh's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

/-! ## The cells -/

inductive CK
  | bar | sc (b : Fin 4) | kv (t : Fin 2) | rl (s : Fin 3) | fw (s : Fin 3)
  | rss (s : Fin 3) | rsr (s : Fin 3) | ags (s : Fin 3) | agr (s : Fin 3)
  deriving DecidableEq, Fintype

theorem inb4 : ∀ b : Fin 4, ∀ a, (![b.val] : Fin 1 → Nat) a + S1.size a ≤ S4.size a := by decide
theorem inb3 : ∀ b : Fin 3, ∀ a, (![b.val] : Fin 1 → Nat) a + S1.size a ≤ S3.size a := by decide
theorem inb2 : ∀ b : Fin 2, ∀ a, (![b.val] : Fin 1 → Nat) a + S1.size a ≤ S2.size a := by decide

abbrev sem4 (A : DmaSems sig S4) (b : Fin 4) : DmaSem sig := ((A.slice (Rect.unit (s := S4) ![b.val] S1.size (inb4 b))).squeeze S_ squeezes_S1_S_).sem
abbrev sem3 (A : DmaSems sig S3) (b : Fin 3) : DmaSem sig := ((A.slice (Rect.unit (s := S3) ![b.val] S1.size (inb3 b))).squeeze S_ squeezes_S1_S_).sem
abbrev sem2 (A : DmaSems sig S2) (b : Fin 2) : DmaSem sig := ((A.slice (Rect.unit (s := S2) ![b.val] S1.size (inb2 b))).squeeze S_ squeezes_S1_S_).sem
abbrev barS : Sem sig := (SemArray.scalar (sig.barrier 0 rfl) : Sems sig S_).sem

abbrev csem : CK → SemLoc sig
  | .bar => .reg barS
  | .sc b => .dma (sem4 cc0_scratch15 b)
  | .kv t => .dma (sem2 cc0_scratch16 t)
  | .rl s => .dma (sem3 cc0_scratch17 s)
  | .fw s => .dma (sem3 cc0_scratch18 s)
  | .rss s => .dma (sem3 cc0_scratch19 s)
  | .rsr s => .dma (sem3 cc0_scratch20 s)
  | .ags s => .dma (sem3 cc0_scratch21 s)
  | .agr s => .dma (sem3 cc0_scratch22 s)

/-- The local copies' semaphores: the output copy's and the two staging ones. -/
abbrev outS : DmaSem sig := cc0_scratch13.sem
abbrev stS (h : Fin 2) : DmaSem sig := sem2 cc0_scratch14 h

abbrev kcell (x : D × CK) : GSem nD τ sig := ((x.1 : Thread nD τ), csem x.2)

theorem csem_inj : ∀ k k' : CK, csem k = csem k' → k = k' := by decide +kernel
theorem kcell_inj : Function.Injective kcell := by
  rintro ⟨c, k⟩ ⟨c', k'⟩ h
  have h1 : c = c' := congrArg (fun g : GSem nD τ sig => g.1.1) h
  have h2 : k = k' := csem_inj _ _ (congrArg Prod.snd h)
  rw [h1, h2]

def kinds : List CK := [.bar, .sc 0, .sc 1, .sc 2, .sc 3, .kv 0, .kv 1, .rl 0, .rl 1, .rl 2, .fw 0, .fw 1, .fw 2,
  .rss 0, .rss 1, .rss 2, .rsr 0, .rsr 1, .rsr 2, .ags 0, .ags 1, .ags 2, .agr 0, .agr 1, .agr 2]
/-- The kind of cell a semaphore is, if it is one of these. -/
def tag (sm : SemLoc sig) : Option CK := kinds.find? (fun k => decide (csem k = sm))
theorem tag_csem : ∀ k : CK, tag (csem k) = some k := by decide +kernel

/-! ## The mesh's partners -/

set_option backward.proofsInPublic true in
def px (n : ℕ) (c : D) : D := ⟨(c.val ^^^ n) % 8, Nat.mod_lt _ (by decide)⟩
def rsp : Fin 3 → D → D := ![px 4, px 3, px 1]
def agp : Fin 3 → D → D := ![px 1, px 3, px 4]

theorem rsp_rsp : ∀ s c, rsp s (rsp s c) = c := by decide
theorem agp_agp : ∀ s c, agp s (agp s c) = c := by decide
theorem rsp_ne : ∀ s c, rsp s c ≠ c := by decide
theorem agp_ne : ∀ s c, agp s c ≠ c := by decide

/-- Who fills device `c`'s key (`t = 0`) or value (`t = 1`) slot: device 0, or a relay. -/
def kvsrc : D → Fin 2 → Option D
  | 0, _ => none | 1, _ => some 0 | 2, _ => some 1 | 3, _ => some 0 | 4, _ => some 0
  | 5, 0 => some 1 | 5, 1 => some 4 | 6, 0 => some 3 | 6, 1 => some 4 | 7, _ => some 3
/-- How many relay slots device `c` uses. -/
def nrelay : D → ℕ := ![0, 3, 0, 3, 2, 0, 0, 0]

/-- Who pays device `c`'s landing cell `k`. -/
def payer (c : D) : CK → Option D
  | .kv t => kvsrc c t
  | .rl s => if s.val < nrelay c then some 0 else none
  | .rsr s => some (rsp s c)
  | .agr s => some (agp s c)
  | _ => none

/-- What a relay slot holds: the tensor and the device it is for. -/
def rlKV : D → Fin 3 → Fin 2 × D
  | 1, 0 => (0, 2) | 1, 1 => (1, 2) | 1, _ => (0, 5)
  | 3, 0 => (0, 7) | 3, 1 => (1, 7) | 3, _ => (0, 6)
  | 4, 0 => (1, 5) | _, _ => (1, 6)

/-- The transfers device `c` makes to other devices, in program order: (device, its landing cell). -/
def hops : D → List (D × CK)
  | 0 => [(1, .rl 0), (3, .rl 0), (4, .rl 0), (1, .rl 1), (3, .rl 1), (4, .rl 1), (1, .rl 2), (3, .rl 2),
      (4, .kv 0), (1, .kv 0), (3, .kv 0), (4, .kv 1), (1, .kv 1), (3, .kv 1)]
  | 1 => [(2, .kv 0), (2, .kv 1), (5, .kv 0)]
  | 3 => [(7, .kv 0), (7, .kv 1), (6, .kv 0)]
  | 4 => [(5, .kv 1), (6, .kv 1)]
  | _ => []
def xch (c : D) : List (D × CK) :=
  [(rsp 0 c, .rsr 0), (rsp 1 c, .rsr 1), (rsp 2 c, .rsr 2), (agp 0 c, .agr 0), (agp 1 c, .agr 1), (agp 2 c, .agr 2)]
def outs (c : D) : List (D × CK) := hops c ++ xch c

theorem outs_nodup : ∀ c, (outs c).Nodup := by decide +kernel
theorem outs_toFinset : ∀ c, (outs c).toFinset = Finset.univ.filter (fun x : D × CK => payer x.1 x.2 = some c) := by decide +kernel
theorem payer_ne : ∀ c k, payer c k ≠ some c := by decide +kernel

/-! ## The memrefs -/

theorem inbSb : ∀ b : Fin 4, ∀ a, (![b.val, 0, 0, 0] : Fin 4 → Nat) a + S1x1024x8x128.size a ≤ S4x1024x8x128.size a := by decide
theorem inbRl : ∀ b : Fin 3, ∀ a, (![b.val, 0, 0, 0] : Fin 4 → Nat) a + S1x1024x8x128.size a ≤ S3x1024x8x128.size a := by decide
theorem inbKv : ∀ b : Fin 2, ∀ a, (![b.val, 0, 0, 0] : Fin 4 → Nat) a + S1x1024x8x128.size a ≤ S2x1024x8x128.size a := by decide
theorem inbKs : ∀ b : Fin 2, ∀ a, (![b.val, 0, 0, 0] : Fin 4 → Nat) a + S1x512x8x128.size a ≤ S2x512x8x128.size a := by decide

abbrev rSb (b : Fin 4) : Rect S4x1024x8x128 := Rect.unit (s := S4x1024x8x128) ![b.val, 0, 0, 0] S1x1024x8x128.size (inbSb b)
abbrev rRl (b : Fin 3) : Rect S3x1024x8x128 := Rect.unit (s := S3x1024x8x128) ![b.val, 0, 0, 0] S1x1024x8x128.size (inbRl b)
abbrev rKv (b : Fin 2) : Rect S2x1024x8x128 := Rect.unit (s := S2x1024x8x128) ![b.val, 0, 0, 0] S1x1024x8x128.size (inbKv b)

abbrev sbV (b : Fin 4) : Memref sig .tc .vmem S1024x8x128 .bf16 :=
  ((Memref.whole cc0_scratch1).slice (rSb b) (fun _ => rfl)).squeeze S1024x8x128 squeezes_S1x1024x8x128_S1024x8x128
abbrev rlV (b : Fin 3) : Memref sig .tc .vmem S1024x8x128 .bf16 :=
  ((Memref.whole cc0_scratch2).slice (rRl b) (fun _ => rfl)).squeeze S1024x8x128 squeezes_S1x1024x8x128_S1024x8x128
abbrev kvV (b : Fin 2) : Memref sig .tc .vmem S1024x8x128 .bf16 :=
  ((Memref.whole cc0_scratch3).slice (rKv b) (fun _ => rfl)).squeeze S1024x8x128 squeezes_S1x1024x8x128_S1024x8x128

abbrev r22 (c : D) : Rect S1024x1024 := Rect.unit (s := S1024x1024) (k0_off22 c) S128x1024.size (k0_off22_inb c)
abbrev r23 (c : D) : Rect S1024x1024 := Rect.unit (s := S1024x1024) (k0_off23 c) S256x1024.size (k0_off23_inb c)
abbrev r24 (c : D) : Rect S1024x1024 := Rect.unit (s := S1024x1024) (k0_off24 c) S512x1024.size (k0_off24_inb c)
/-- The rows device `c` sends in gather step `s`. -/
def agSet : Fin 3 → D → Finset S1024x1024.Idx
  | 0, c => (r22 c).set | 1, c => (r23 c).set | 2, c => (r24 c).set

/-! ## Amounts -/

abbrev NSlot : ℕ := (kvV 0).view.dmaCredit
def NX : Fin 3 → ℕ := ![(Memref.whole cc0_scratch10).view.dmaCredit, (Memref.whole cc0_scratch11).view.dmaCredit, (Memref.whole cc0_scratch12).view.dmaCredit]
def amt : CK → ℕ
  | .bar => 1
  | .sc _ => NSlot | .kv _ => NSlot | .rl _ => NSlot | .fw _ => NSlot
  | .rss s => NX s | .rsr s => NX s
  | .ags s => NX (2 - s) | .agr s => NX (2 - s)
theorem amt_pos : ∀ k, 0 < amt k := by decide +kernel

/-! ## What the payments promise -/

variable (F) in
/-- The contents the exchanges carry: each device's keys and values, the rows it sends in each reduction step, and the result. -/
structure Vals where
  KV : D → Fin 2 → S1024x8x128.Idx → Elt F .bf16
  x0 : D → S512x1024.Idx → Elt F .bf16
  x1 : D → S256x1024.Idx → Elt F .bf16
  x2 : D → S128x1024.Idx → Elt F .bf16
  out : S1024x1024.Idx → Elt F .bf16

variable (V : Vals F)

/-- Slot `v` of a buffer of device `c`, at any contents; -/
def anyAt (c : D) {s : Shape} {e : EltTy} (v : Memref sig .tc .vmem s e) : sProp 𝕄 :=
  iprop(∃ f : Buf (Elt F) (v.view.loc (c : Thread nD τ)), v.view.loc (c : Thread nD τ) ↦[v.view.set]{fullShare} f)
/-- at contents that read `X` through it. -/
def holds (c : D) {s : Shape} {e : EltTy} (v : Memref sig .tc .vmem s e) (X : s.Idx → Elt F e) : sProp 𝕄 :=
  iprop(∃ f : Buf (Elt F) (v.view.loc (c : Thread nD τ)), ⌜v.view.read (Elt F) f = X⌝ ∗ (v.view.loc (c : Thread nD τ) ↦[v.view.set]{fullShare} f))

abbrev accb : Memref sig .tc .vmem S1024x1024 .bf16 := Memref.whole cc0_scratch5
def anyRows (c : D) (S : Finset S1024x1024.Idx) : sProp 𝕄 :=
  iprop(∃ f : Buf (Elt F) ((c : Thread nD τ).loc cc0_scratch5), ((c : Thread nD τ).loc cc0_scratch5) ↦[S]{fullShare} f)
def outRows (c : D) (S : Finset S1024x1024.Idx) : sProp 𝕄 :=
  ((c : Thread nD τ).loc cc0_scratch5) ↦[S]{fullShare} (V.out : Buf (Elt F) ((c : Thread nD τ).loc cc0_scratch5))

/-- The buffer of device `c` that the payer of its landing cell `k` writes. -/
def buf (c : D) : CK → sProp 𝕄
  | .kv t => anyAt c (kvV t)
  | .rl s => anyAt c (rlV s)
  | .rsr 0 => anyAt c (Memref.whole cc0_scratch10)
  | .rsr 1 => anyAt c (Memref.whole cc0_scratch11)
  | .rsr 2 => anyAt c (Memref.whole cc0_scratch12)
  | .agr s => anyRows c (agSet s (agp s c))
  | _ => iprop(emp)

/-- What device `d`'s signal hands device `c`: those buffers of `d` that `c` writes. -/
def barPay (c d : D) : sProp 𝕄 := bigSep Finset.univ fun k : CK => if payer d k = some c then buf d k else iprop(emp)

def pay (c : D) (k : CK) (d : D) : sProp 𝕄 :=
  match k with
  | .bar => barPay c d
  | .sc b => anyAt c (sbV b)
  | .kv t => holds c (kvV t) (V.KV c t)
  | .rl s => holds c (rlV s) (V.KV (rlKV c s).2 (rlKV c s).1)
  | .fw s => anyAt c (rlV s)
  | .rss 0 => anyAt c (Memref.whole cc0_scratch7)
  | .rss 1 => anyAt c (Memref.whole cc0_scratch8)
  | .rss 2 => anyAt c (Memref.whole cc0_scratch9)
  | .rsr 0 => holds c (Memref.whole cc0_scratch10) (V.x0 (rsp 0 c))
  | .rsr 1 => holds c (Memref.whole cc0_scratch11) (V.x1 (rsp 1 c))
  | .rsr 2 => holds c (Memref.whole cc0_scratch12) (V.x2 (rsp 2 c))
  | .ags s => outRows V c (agSet s c)
  | .agr s => outRows V c (agSet s (agp s c))

/-- How many rounds device `c`'s cell `k` has. -/
def nr (c : D) : CK → ℕ
  | .sc b => if c = 0 then ![4, 4, 3, 3] b else 0
  | .fw s => if s.val < nrelay c then 1 else 0
  | .kv t => if c = 0 then 0 else 1
  | .rl s => if s.val < nrelay c then 1 else 0
  | _ => 1

def dut (c : D) (k : CK) (r : ℕ) : Finset D :=
  if r < nr c k then (if k = .bar then Finset.univ.erase c else {0}) else ∅

def Rd : Rounds.Schedule (GSem nD τ sig) D 𝕄 where
  duties g r := if g.1.2 = .tc then (match tag g.2 with | some k => dut g.1.1 k r | none => ∅) else ∅
  unitless _ := False
  amount g _ _ := match tag g.2 with | some k => amt k | none => 1
  payload g _ d := match tag g.2 with | some k => pay V g.1.1 k d | none => iprop(emp)
  amount_pos g _ _ _ := by
    cases tag g.2 with
    | none => exact Nat.one_pos
    | some k => exact amt_pos k

omit [FloatOps F] [Named F] in
instance anyAt_storable (c : D) {s : Shape} {e : EltTy} (v : Memref sig .tc .vmem s e) : BI.Storable (upEmb : UEmb _ 𝕄) (anyAt (F := F) c v) := by
  unfold anyAt; infer_instance
omit [FloatOps F] [Named F] in
instance holds_storable (c : D) {s : Shape} {e : EltTy} (v : Memref sig .tc .vmem s e) (X : s.Idx → Elt F e) : BI.Storable (upEmb : UEmb _ 𝕄) (holds (F := F) c v X) := by
  unfold holds; infer_instance
omit [FloatOps F] [Named F] in
instance buf_storable (c : D) (k : CK) : BI.Storable (upEmb : UEmb _ 𝕄) (buf (F := F) c k) := by
  unfold buf anyRows; split <;> infer_instance
omit [FloatOps F] [Named F] in
instance barPay_storable (c d : D) : BI.Storable (upEmb : UEmb _ 𝕄) (barPay (F := F) c d) := by
  unfold barPay
  have (k : CK) : BI.Storable (upEmb : UEmb _ 𝕄) (if payer d k = some c then buf (F := F) d k else iprop(emp)) := by split <;> infer_instance
  infer_instance
omit [FloatOps F] [Named F] in
instance pay_storable (c : D) (k : CK) (d : D) : BI.Storable (upEmb : UEmb _ 𝕄) (pay V c k d) := by
  unfold pay outRows; split <;> infer_instance
instance Rd_payload_storable (g : GSem nD τ sig) (r : ℕ) (d : D) : BI.Storable (upEmb : UEmb _ 𝕄) ((Rd V).payload g r d) := by
  show BI.Storable (upEmb : UEmb _ 𝕄) (match tag g.2 with | some k => pay V g.1.1 k d | none => iprop(emp))
  split <;> infer_instance

omit [FloatOps F] [Named F] in
theorem Rd_duties (c : D) (k : CK) (r : ℕ) : (Rd V).duties (kcell (c, k)) r = dut c k r := by
  show (if (c : Thread nD τ).2 = .tc then (match tag (csem k) with | some k => dut c k r | none => ∅) else ∅) = _
  rw [if_pos rfl, tag_csem]
omit [FloatOps F] [Named F] in
theorem Rd_amount (c : D) (k : CK) (r : ℕ) (d : D) : (Rd V).amount (kcell (c, k)) r d = amt k := by
  show (match tag (csem k) with | some k => amt k | none => 1) = _
  rw [tag_csem]
omit [FloatOps F] [Named F] in
theorem Rd_payload (c : D) (k : CK) (r : ℕ) (d : D) : (Rd V).payload (kcell (c, k)) r d = pay V c k d := by
  show (match tag (csem k) with | some k => pay V c k d | none => iprop(emp)) = _
  rw [tag_csem]

theorem zero_mem_dut (c : D) (k : CK) (r : ℕ) (h : r < nr c k) (hk : k ≠ .bar) : (0 : D) ∈ dut c k r := by
  unfold dut; rw [if_pos h, if_neg hk]; exact Finset.mem_singleton_self _
theorem dut_one (c : D) (k : CK) (r : ℕ) (h : r < nr c k) (hk : k ≠ .bar) : dut c k r = {0} := by
  unfold dut; rw [if_pos h, if_neg hk]
theorem dut_bar (c : D) : dut c .bar 0 = Finset.univ.erase c := by
  unfold dut; rw [if_pos (show 0 < nr c .bar from Nat.one_pos), if_pos rfl]

omit [FloatOps F] [Named F] in
theorem expect_one (c : D) (k : CK) (r : ℕ) (h : r < nr c k) (hk : k ≠ .bar) : (Rd V).expect (kcell (c, k)) r = amt k := by
  unfold Schedule.expect Schedule.amountOf
  rw [Rd_duties, dut_one c k r h hk, Finset.sum_singleton, Rd_amount]
omit [FloatOps F] [Named F] in
theorem expect_bar (c : D) : (Rd V).expect (kcell (c, .bar)) 0 = 7 := by
  unfold Schedule.expect Schedule.amountOf
  rw [Rd_duties, dut_bar, Finset.sum_congr rfl fun d _ => Rd_amount V c .bar 0 d]
  revert c; decide
omit [FloatOps F] [Named F] in
theorem rest_one (c : D) (k : CK) (r : ℕ) (h : r < nr c k) (hk : k ≠ .bar) :
    bigSep ((Rd V).duties (kcell (c, k)) r \ ∅) (fun d => (Rd V).payload (kcell (c, k)) r d) = pay V c k 0 := by
  rw [Finset.sdiff_empty, Rd_duties, dut_one c k r h hk, bigSep_singleton, Rd_payload]
omit [FloatOps F] [Named F] in
theorem rest_bar (c : D) :
    bigSep ((Rd V).duties (kcell (c, .bar)) 0 \ ∅) (fun d => (Rd V).payload (kcell (c, .bar)) 0 d) = bigSep (Finset.univ.erase c) (fun d => barPay c d) := by
  rw [Finset.sdiff_empty, Rd_duties, dut_bar]
  exact bigSep_congr fun d _ => Rd_payload V c .bar 0 d
omit [FloatOps F] [Named F] in
theorem duties_later (c : D) (k : CK) (R : ℕ) (h : nr c k ≤ R) : ∀ r, R ≤ r → (Rd V).duties (kcell (c, k)) r = ∅ := fun r hr => by
  rw [Rd_duties]; unfold dut; rw [if_neg (by omega)]

/-! ## What each device owes, and the levels -/

/-- What a list of payments comes to, its head peeled last. -/
def owe : List (D × CK) → CellTallies nD τ sig Unit
  | [] => 0
  | x :: l => owe l + tallyAt (kcell x) () (amt x.2)
/-- The barrier signals, in program order. -/
def bars (c : D) : List (D × CK) := ((List.finRange 8).filter (fun d => d ≠ c)).map (fun d => (d, .bar))

def O₀ (c : D) : CellTallies nD τ sig Unit := owe (bars c ++ outs c)

def L (g : GSem nD τ sig) : Finset Unit := if g.1.2 = .tc then {()} else ∅
def lvk : CK → ℕ
  | .bar => 1 | .rl _ => 2 | .kv _ => 3 | .rsr s => 4 + s | .agr s => 7 + s | _ => 0
def lv (g : GSem nD τ sig) (_ : Unit) : ℕ := match tag g.2 with | some k => lvk k | none => 0

theorem L_of_ne (g : GSem nD τ sig) (h : g.1.2 ≠ .tc) : L g = ∅ := if_neg h
theorem L_tc (c : D) (sm : SemLoc sig) : L ((c : Thread nD τ), sm) = {()} := if_pos rfl
theorem lv_cell (x : D × CK) (u : Unit) : lv (kcell x) u = lvk x.2 := by
  show (match tag (csem x.2) with | some k => lvk k | none => 0) = _
  rw [tag_csem]

theorem owe_pos {l : List (D × CK)} {g : GSem nD τ sig} {u : Unit} (h : 0 < owe l g u) : ∃ x ∈ l, g = kcell x := by
  induction l with
  | nil => exact absurd h (Nat.lt_irrefl 0)
  | cons x l ih =>
    unfold owe at h
    rw [Pi.add_apply, Finsupp.add_apply] at h
    by_cases hl : 0 < owe l g u
    · obtain ⟨y, hy, e⟩ := ih hl; exact ⟨y, List.mem_cons_of_mem _ hy, e⟩
    · rw [tallyAt_apply] at h
      by_cases hg : g = kcell x ∧ u = ()
      · exact ⟨x, List.mem_cons_self, hg.1⟩
      · rw [if_neg hg] at h; omega

theorem owe_apply (l : List (D × CK)) (x : D × CK) : owe l (kcell x) () = l.count x * amt x.2 := by
  induction l with
  | nil => rw [List.count_nil, Nat.zero_mul]; rfl
  | cons y l ih =>
    unfold owe
    rw [Pi.add_apply, Finsupp.add_apply, ih, tallyAt_apply, List.count_cons]
    by_cases h : y = x
    · subst h; rw [if_pos ⟨rfl, rfl⟩, if_pos (by simp), Nat.add_mul, Nat.one_mul]
    · rw [if_neg (fun h' => h (kcell_inj h'.1).symm), if_neg (by simpa using h)]; rfl

/-- A core may wait on `sm` while it owes payments that all lie at higher levels. -/
theorem mayWait_of (c : D) (sm : SemLoc sig) (n : ℕ) (hn : lv ((c : Thread nD τ), sm) () = n) (l : List (D × CK))
    (hl : l.all (fun x => decide (n < lvk x.2)) = true) :
    (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by obtain ⟨x, -, rfl⟩ := owe_pos hg; rw [L_tc]; exact Finset.mem_singleton_self _)
    (fun p hp => by rw [Finset.mem_singleton.mp hp, hn])
    (fun g u hg => by
      obtain ⟨x, hx, rfl⟩ := owe_pos hg
      rw [lv_cell]
      exact of_decide_eq_true (List.all_eq_true.mp hl x hx))

theorem mayWait_cell (c : D) (k : CK) (l : List (D × CK)) (hl : l.all (fun x => decide (lvk k < lvk x.2)) = true) :
    (levAts L lv : sProp 𝕄) ⊢ MayWait (c : Thread nD τ) (csem k) () (owe l) :=
  mayWait_of c (csem k) (lvk k) (lv_cell (c, k) ()) l hl

end Cert.Proof.Attn

end
-- ==== Proof.Steps.lean ====
/-
  The rules of the body at this mesh's cells: a transfer to another device, a wait on a cell, a barrier signal, the
  barrier's wait, a local copy into a staging slot. What a core owes is a list of payments; a transfer takes its head.
-/
module

public import proofs.«01_k».proof.Proof.Cells

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- A program of core `c`, run to `Q`. -/
abbrev WP (c : D) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (V : Vals F) (K : D × CK → ℕ)

/-- Every cell's invariant, and that its first round is open. -/
def records : sProp 𝕄 := bigSep Finset.univ fun x : D × CK => iprop(cellInv ER (Rd V) (K x) (kcell x) ∗ reached ER (kcell x) 0)
instance records_persistent : BI.Persistent (records V K) := by unfold records; infer_instance

theorem records_at (x : D × CK) : records V K ⊢ iprop(cellInv ER (Rd V) (K x) (kcell x) ∗ reached ER (kcell x) 0) :=
  bigSep_elim (Finset.mem_univ x)

/-- The core owes the payments of a list. -/
def ow (c : D) (l : List (D × CK)) : sProp 𝕄 := iprop(∃ W : Waits sig Unit, owes (c : Thread nD τ) (owe l) W)

abbrev tokOf (x : D × CK) (r : ℕ) (d : D) : sProp 𝕄 := dutyTok ER (kcell x) r d
abbrev atOf (x : D × CK) (r : ℕ) : sProp 𝕄 := atPos ER (kcell x) r ∅ 0
abbrev crOf (x : D × CK) (n : ℕ) : sProp 𝕄 := cred (tallyAt (kcell x) () n)

/-- A transfer to device `n`, the next payment the core owes: its source is promised by the send cell's round, its
    destination by the landing cell's. -/
theorem sendStep (c n : D) {n' : D} (hn : n' = n) (k1 k2 : CK) {sS sR : SemLoc sig} (hS : sS = csem k1) (hR : sR = csem k2)
    (r1 : ℕ) (h1 : r1 < nr c k1) (h1' : k1 ≠ .bar) (h2 : 0 < nr n k2) (h2' : k2 ≠ .bar) (l : List (D × CK))
    {sp sp' : Space} {s : Shape} {e : EltTy} {src : Memref sig .tc sp s e} {dst : Memref sig .tc sp' s e}
    {hsc : (dst : Memref sig (Dev.tc n' : Thread nD τ).2.kind sp' s e).view.ref.isScScratch = false}
    {hsrc : src.view.WordExact} {hdst : dst.view.WordExact}
    {hsem : DmaTarget.Typed sp sR (.remote (Dev.tc n' : Thread nD τ) dst sS hsc)}
    {α : Type} {Q : α → sProp 𝕄} {k : PUnit → Prog (TpuEff nD τ sig (Elt F) Λ₀ .tc) α} {q : PosShare TreeShare}
    {fs : Buf (Elt F) (src.view.loc (c : Thread nD τ))} {fd : Buf (Elt F) (dst.view.loc (n : Thread nD τ))}
    (hN : dst.view.amount (csem k2) = amt k2) (h12 : amt k1 = amt k2)
    (hp1 : (src.view.loc (c : Thread nD τ) ↦[src.view.set]{q} fs) ⊢ pay V c k1 0)
    (hp2 : (dst.view.loc (n : Thread nD τ) ↦[dst.view.set]{fullShare} (dst.view.write (Elt F) fd (src.view.read (Elt F) fs) Finset.univ))
      ⊢ pay V n k2 0) :
    iprop(records V K ∗ (src.view.loc (c : Thread nD τ) ↦[src.view.set]{q} fs)
        ∗ (dst.view.loc (n : Thread nD τ) ↦[dst.view.set]{fullShare} fd)
        ∗ ow c ((n, k2) :: l) ∗ tokOf (c, k1) r1 0 ∗ reached ER (kcell (c, k1)) r1 ∗ tokOf (n, k2) 0 0)
      ⊢ iprop(((crOf (c, k1) (amt k1) ∗ ow c l) -∗ WP c (k ⟨⟩) Q)
          -∗ WP c (.op (.enqueueDma src (.remote (Dev.tc n' : Thread nD τ) dst sS hsc) sR hsrc hdst hsem) k) Q) := by
  subst hn hS hR
  unfold ow
  iintro ⟨#HR, Hs, Hd, ⟨%W, HO⟩, Ht1, Hr1, Ht2⟩ Hk
  ihave #HI1 := (records_at V K (c, k1)) $$ HR
  ihave #HI2 := (records_at V K (n', k2)) $$ HR
  icases HI1 with ⟨#HI1, -⟩
  icases HI2 with ⟨#HI2, #HR2⟩
  iapply (Rounds.wp_send_pointsTo 𝒱₀ ER (Rd V) (c : Thread nD τ) none (κ₁ := K (c, k1)) (κ₂ := K (n', k2))
    (r₁ := r1) (r₂ := 0) (d₁ := 0) (d₂ := 0) (fd := fd) (sS := csem k1) (sem := csem k2) (c' := (n' : Thread nD τ))
    (by rw [Rd_duties V c k1]; exact zero_mem_dut c k1 r1 h1 h1')
    (by rw [Rd_duties V n' k2]; exact zero_mem_dut n' k2 0 h2 h2')
    () () (amt k1) (hN.trans h12.symm) (Rd_amount V c k1 r1 0) ((Rd_amount V n' k2 0 0).trans h12.symm) (owe l)
    (by rw [h12]) (W := W)
    (by rw [Rd_payload V c k1]; exact hp1) (by rw [Rd_payload V n' k2]; exact hp2)) $$ [HO Hs Hd Ht1 Hr1 Ht2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact HR2
  iintro ⟨Hc, HO⟩
  iapply Hk
  isplitl [Hc]; · iexact Hc
  iexists W; iexact HO

/-- A wait on one of the core's own cells, for the whole of round `r`. -/
theorem waitStep (c : D) (k1 : CK) {sm : DmaSem sig} (hs : csem k1 = .dma sm) (r : ℕ) (h : r < nr c k1) (hb : k1 ≠ .bar)
    (l : List (D × CK)) (hl : l.all (fun x => decide (lvk k1 < lvk x.2)) = true)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt k1)
    {α : Type} {Q : α → sProp 𝕄} {k : PUnit → Prog (TpuEff nD τ sig (Elt F) Λ₀ .tc) α} :
    iprop(records V K ∗ levAts L lv ∗ crOf (c, k1) (amt k1) ∗ ow c l ∗ atOf (c, k1) r)
      ⊢ iprop(((ow c l ∗ atOf (c, k1) (r + 1) ∗ reached ER (kcell (c, k1)) (r + 1) ∗ pay V c k1 0) -∗ WP c (k ⟨⟩) Q)
          -∗ WP c (.op (.waitDma2 sm srcw dstw hsrc hdst) k) Q) := by
  unfold ow
  have hx := expect_one V c k1 r h hb
  have hr := rest_one V c k1 r h hb
  have hm := mayWait_cell (F := F) c k1 l hl
  have hI := records_at V K (c, k1)
  rw [← hN] at hx ⊢
  unfold atOf crOf kcell at *
  dsimp only at *
  rw [hs] at hx hr hm hI ⊢
  iintro ⟨#HR, #HL, Hc, ⟨%W, HO⟩, Ha⟩ Hk
  ihave #HI1 := hI $$ HR
  icases HI1 with ⟨#HI1, -⟩
  iapply (Rounds.wp_wait_rest_token 𝒱₀ ER (Rd V) (c : Thread nD τ) none (κ := K (c, k1))
      (wpE_waitDma2_eq 𝒱₀ (c : Thread nD τ) none Set.univ) (Set.mem_univ _) () (O := owe l) (W := W) (R := r) (m := 0) (T := ∅)
      (by rw [Nat.zero_add]; exact hx.symm)) $$ [Hc HO Ha]
  · isplitr; · iexact HI1
    isplitl [Hc]; · iexact Hc
    isplitl [HO]; · iexact HO
    isplitr; · iapply hm; iexact HL
    iexact Ha
  iintro ⟨HO, Ha, Hr, Hp⟩
  iapply Hk
  isplitl [HO]; · iexists _; iexact HO
  isplitl [Ha]; · iexact Ha
  isplitl [Hr]; · iexact Hr
  iapply (Entails.of_eq hr); iexact Hp

/-- A signal of device `n`'s barrier, the next payment the core owes: it hands over the buffers of `c` that `n` writes. -/
theorem signalStep (c n : D) {n' : D} (hn : n' = n) (hcn : c ≠ n) {sm : Sem sig} (hs : sm = barS) (l : List (D × CK))
    {α : Type} {Q : α → sProp 𝕄} {k : PUnit → Prog (TpuEff nD τ sig (Elt F) Λ₀ .tc) α} :
    iprop(records V K ∗ ow c ((n, .bar) :: l) ∗ tokOf (n, .bar) 0 c ∗ barPay n c)
      ⊢ iprop((ow c l -∗ WP c (k ⟨⟩) Q) -∗ WP c (.op (.semSignal (Dev.tc n' : Thread nD τ) sm 1) k) Q) := by
  subst hn hs
  unfold ow
  iintro ⟨#HR, ⟨%W, HO⟩, Ht, Hp⟩ Hk
  ihave #HI1 := (records_at V K (n', .bar)) $$ HR
  icases HI1 with ⟨#HI1, #Hr1⟩
  iapply (Rounds.wp_signal 𝒱₀ ER (Rd V) (c : Thread nD τ) none (dst := (n' : Thread nD τ)) (κ := K (n', .bar)) (r := 0)
      (d := c) (by rw [show ((n' : Thread nD τ), SemLoc.reg barS) = kcell (n', .bar) from rfl, Rd_duties, dut_bar]; exact Finset.mem_erase.mpr ⟨hcn, Finset.mem_univ _⟩)
      (Rd_amount V n' .bar 0 c) () (owe l) rfl) $$ [HO Ht Hp]
  · isplitr; · iexact HI1
    isplitl [HO]; · iexact HO
    isplitl [Ht]; · iexact Ht
    isplitl [Hp]
    · rw [show ((n' : Thread nD τ), SemLoc.reg barS) = kcell (n', .bar) from rfl, Rd_payload]
      iapply (Entails.of_eq (show barPay n' c = pay V n' .bar c from rfl)); iexact Hp
    iexact Hr1
  iintro HO
  iapply Hk
  iexists W; iexact HO

/-- The wait for the seven signals of the core's own barrier. -/
theorem barrierStep (c : D) {sm : Sem sig} (hs : sm = barS) (l : List (D × CK))
    (hl : l.all (fun x => decide (lvk .bar < lvk x.2)) = true)
    {α : Type} {Q : α → sProp 𝕄} {k : PUnit → Prog (TpuEff nD τ sig (Elt F) Λ₀ .tc) α} :
    iprop(records V K ∗ levAts L lv ∗ crOf (c, .bar) 7 ∗ ow c l ∗ atOf (c, .bar) 0)
      ⊢ iprop(((ow c l ∗ atOf (c, .bar) 1 ∗ bigSep (Finset.univ.erase c) (fun d => barPay c d)) -∗ WP c (k ⟨⟩) Q)
          -∗ WP c (.op (.semWait sm 7) k) Q) := by
  subst hs
  unfold ow
  iintro ⟨#HR, #HL, Hc, ⟨%W, HO⟩, Ha⟩ Hk
  ihave #HI1 := (records_at V K (c, .bar)) $$ HR
  icases HI1 with ⟨#HI1, -⟩
  iapply (Rounds.wp_wait_rest_token 𝒱₀ ER (Rd V) (c : Thread nD τ) none (κ := K (c, .bar))
      (wpE_semWait_eq 𝒱₀ (c : Thread nD τ) none Set.univ) (Set.mem_univ _) () (O := owe l) (W := W) (R := 0) (m := 0) (T := ∅)
      (by rw [show ((c : Thread nD τ), SemLoc.reg barS) = kcell (c, .bar) from rfl, expect_bar])) $$ [Hc HO Ha]
  · isplitr; · iexact HI1
    isplitl [Hc]; · iexact Hc
    isplitl [HO]; · iexact HO
    isplitr; · iapply (mayWait_cell (F := F) c .bar l hl); iexact HL
    iexact Ha
  iintro ⟨HO, Ha, -, Hp⟩
  iapply Hk
  isplitl [HO]; · iexists _; iexact HO
  isplitl [Ha]; · iexact Ha
  iapply (Entails.of_eq (rest_bar V c)); iexact Hp

/-- A wait on a local copy, while every payment still owed lies above level 0. -/
theorem localWait (c : D) {sm : DmaSem sig} (hsm : tag (SemLoc.dma sm) = none) (l : List (D × CK))
    (hl : l.all (fun x => decide (0 < lvk x.2)) = true)
    {sp sp' : Space} {s s' : Shape} {e e' : EltTy} {srcw : Memref sig .tc sp' s' e'} {dstw : Memref sig .tc sp s e}
    {hsrc : srcw.view.WordExact} {hdst : dstw.view.WordExact} {N : ℕ} (hN : dstw.view.dmaCredit = N) {P : sProp 𝕄}
    {α : Type} {Q : α → sProp 𝕄} {k : PUnit → Prog (TpuEff nD τ sig (Elt F) Λ₀ .tc) α} :
    iprop(levAts L lv ∗ Transfers.Flight EC (c : Thread nD τ) (.dma sm) () N P ∗ ow c l)
      ⊢ iprop(((P ∗ semVal ((c : Thread nD τ), .dma sm) 0 ∗ ow c l) -∗ WP c (k ⟨⟩) Q)
          -∗ WP c (.op (.waitDma2 sm srcw dstw hsrc hdst) k) Q) := by
  unfold ow
  iintro ⟨#HL, HF, ⟨%W, HO⟩⟩ Hk
  iapply (Transfers.wp_waitLocalO EC 𝒱₀ (c : Thread nD τ) none () hN (O := owe l) (W := W)) $$ [HF HO]
  · isplitl [HF]; · iexact HF
    isplitl [HO]; · iexact HO
    iapply (mayWait_of (F := F) c (.dma sm) 0 (show (match tag (SemLoc.dma sm) with | some k => lvk k | none => 0) = 0 by rw [hsm]) l hl)
    iexact HL
  iintro ⟨HP, Hv, HO⟩
  iapply Hk
  isplitl [HP]; · iexact HP
  isplitl [Hv]; · iexact Hv
  iexists _; iexact HO

/-- A cell whose last round has passed closes: its counter is at zero. -/
theorem closeStep (c : D) (k1 : CK) (r : ℕ) (h : nr c k1 ≤ r) :
    iprop(records V K ∗ atOf (c, k1) r) ⊢ iprop(|={Set.univ}=> semVal (kcell (c, k1)) 0 : sProp 𝕄) := by
  iintro ⟨#HR, Ha⟩
  ihave #HI1 := (records_at V K (c, k1)) $$ HR
  icases HI1 with ⟨#HI1, -⟩
  iapply (Rounds.cell_close ER (Rd V) (Set.mem_univ (K (c, k1))) (fun h => h) (R := r) (duties_later V c k1 r h))
  isplitr; · iexact HI1
  iexact Ha

/-! ## Landed contents -/

/-- What lands through a view is what the source reads. -/
theorem holds_of_write (n : D) {s : Shape} {e : EltTy} (v : Memref sig .tc .vmem s e) (X w : s.Idx → Elt F e) (h : w = X)
    (fd : Buf (Elt F) (v.view.loc (n : Thread nD τ))) :
    (v.view.loc (n : Thread nD τ) ↦[v.view.set]{fullShare} (v.view.write (Elt F) fd w Finset.univ) : sProp 𝕄) ⊢ holds n v X := by
  unfold holds
  iintro H
  iexists _
  isplitr; rotate_left; · iexact H
  ipureintro
  rw [View.read_write_univ, h]

theorem anyAt_intro (c : D) {s : Shape} {e : EltTy} (v : Memref sig .tc .vmem s e) (f : Buf (Elt F) (v.view.loc (c : Thread nD τ))) :
    (v.view.loc (c : Thread nD τ) ↦[v.view.set]{fullShare} f : sProp 𝕄) ⊢ anyAt c v := by
  unfold anyAt
  iintro H
  iexists _; iexact H

end Cert.Proof.Attn

end
-- ==== Proof.Stage.lean ====
/-
  Device 0's staging of one device's keys or values: two local copies of 512 rows each into the staging slots, each
  read back, rounded and stored into half of a slot.
-/
module

public import proofs.«01_k».proof.Proof.Steps
public import Idealize.ShloMosaic.Lib.Pipeline.Value

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The views -/

abbrev Sn (n : ℕ) : Shape := ⟨4, ![n, 1024, 8, 128]⟩

abbrev slotR {n : ℕ} (b : ℕ) (hb : ∀ a, (![b, 0, 0, 0] : Fin 4 → Nat) a + S1x1024x8x128.size a ≤ (Sn n).size a) : Rect (Sn n) :=
  Rect.unit (s := Sn n) ![b, 0, 0, 0] S1x1024x8x128.size hb
/-- A slot of a buffer of slots. -/
abbrev slotV {n : ℕ} (M : Memref sig .tc .vmem (Sn n) .bf16) (b : ℕ)
    (hb : ∀ a, (![b, 0, 0, 0] : Fin 4 → Nat) a + S1x1024x8x128.size a ≤ (Sn n).size a) : Memref sig .tc .vmem S1024x8x128 .bf16 :=
  (M.slice (slotR b hb) (fun _ => rfl)).squeeze S1024x8x128 squeezes_S1x1024x8x128_S1024x8x128
/-- Half of a slot, by its first row. -/
abbrev halfR {n : ℕ} (b o : ℕ) (hb : ∀ a, (![b, o, 0, 0] : Fin 4 → Nat) a + S1x512x8x128.size a ≤ (Sn n).size a) : Rect (Sn n) :=
  Rect.unit (s := Sn n) ![b, o, 0, 0] S1x512x8x128.size hb

/-- The three-axis index of a four-axis one, and back. -/
def up (m : ℕ) (y : (⟨3, ![m, 8, 128]⟩ : Shape).Idx) : (⟨4, ![1, m, 8, 128]⟩ : Shape).Idx := fun a => match a with
  | 0 => (0 : Fin 1) | 1 => y 0 | 2 => y 1 | 3 => y 2
theorem squeeze_eq (m : ℕ) (h : (⟨3, ![m, 8, 128]⟩ : Shape).numel = (⟨4, ![1, m, 8, 128]⟩ : Shape).numel) (y : (⟨3, ![m, 8, 128]⟩ : Shape).Idx) :
    Shape.reshapeEquiv h y = up m y := by
  have e := Shape.reshapeEquiv_cons_one (n := 3) (d := ![m, 8, 128]) h y
  rw [e]
  funext a
  fin_cases a <;> rfl

theorem slot_emb {n : ℕ} (M : Memref sig .tc .vmem (Sn n) .bf16) (b : ℕ)
    (hb : ∀ a, (![b, 0, 0, 0] : Fin 4 → Nat) a + S1x1024x8x128.size a ≤ (Sn n).size a) (y : S1024x8x128.Idx) :
    (slotV M b hb).view.emb y = M.view.emb ((slotR b hb).emb (up 1024 y)) := by
  show M.view.emb ((slotR b hb).emb (Shape.reshapeEquiv _ y)) = _
  rw [squeeze_eq 1024]

theorem half_set {n : ℕ} (M : Memref sig .tc .vmem (Sn n) .bf16) (b o : ℕ)
    (hb : ∀ a, (![b, 0, 0, 0] : Fin 4 → Nat) a + S1x1024x8x128.size a ≤ (Sn n).size a)
    (ho : ∀ a, (![b, o, 0, 0] : Fin 4 → Nat) a + S1x512x8x128.size a ≤ (Sn n).size a) :
    (M.access (halfR b o ho)).set ⊆ (slotV M b hb).view.set := by
  have e1 : (slotV M b hb).view.set = (slotR b hb).set.map M.view.emb := (View.set_reshape _ _).trans (View.set_slice _ _)
  have e2 : (M.access (halfR b o ho)).set = (halfR b o ho).set.map M.view.emb := View.set_slice _ _
  rw [e1, e2]
  refine Finset.map_subset_map.mpr fun i hi => ?_
  rw [Rect.mem_set_unit] at hi ⊢
  intro a
  have h0 := hi a
  have h1 := (i 1).isLt
  have h2 := (i 2).isLt
  have h3 := (i 3).isLt
  fin_cases a <;> simp at h0 h1 h2 h3 ⊢ <;> omega

/-- The row of a half-slot that row `y` of the slot is. -/
def half (o : ℕ) (y : S1024x8x128.Idx) (h : (y 0).val - o < 512) : S1x512x8x128.Idx := fun a => match a with
  | 0 => (0 : Fin 1) | 1 => (⟨(y 0).val - o, h⟩ : Fin 512) | 2 => y 1 | 3 => y 2

theorem half_emb {n : ℕ} (M : Memref sig .tc .vmem (Sn n) .bf16) (b o : ℕ)
    (hb : ∀ a, (![b, 0, 0, 0] : Fin 4 → Nat) a + S1x1024x8x128.size a ≤ (Sn n).size a)
    (ho : ∀ a, (![b, o, 0, 0] : Fin 4 → Nat) a + S1x512x8x128.size a ≤ (Sn n).size a)
    (y : S1024x8x128.Idx) (h : (y 0).val - o < 512) (hy : o ≤ (y 0).val) :
    (slotV M b hb).view.emb y = (M.access (halfR b o ho)).emb (half o y h) := by
  rw [slot_emb]
  show M.view.emb _ = M.view.emb ((halfR b o ho).emb (half o y h))
  congr 1
  funext a
  apply Fin.ext
  rw [Rect.emb_apply, Rect.emb_apply]
  fin_cases a <;> simp [up, half, Rect.unit] <;> omega

/-- Two halves written, the slot reads either. -/
theorem slot_read {n : ℕ} (M : Memref sig .tc .vmem (Sn n) .bf16) (b : ℕ)
    (hb : ∀ a, (![b, 0, 0, 0] : Fin 4 → Nat) a + S1x1024x8x128.size a ≤ (Sn n).size a)
    (h0 : ∀ a, (![b, 0, 0, 0] : Fin 4 → Nat) a + S1x512x8x128.size a ≤ (Sn n).size a)
    (h1 : ∀ a, (![b, 512, 0, 0] : Fin 4 → Nat) a + S1x512x8x128.size a ≤ (Sn n).size a)
    (f : M.view.ty.Contents (Elt F)) (w0 w1 : S1x512x8x128.Idx → Elt F .bf16) (X : S1024x8x128.Idx → Elt F .bf16)
    (e0 : ∀ (y : S1024x8x128.Idx) (h : (y 0).val - 0 < 512), w0 (half 0 y h) = X y)
    (e1 : ∀ (y : S1024x8x128.Idx) (h : (y 0).val - 512 < 512), 512 ≤ (y 0).val → w1 (half 512 y h) = X y) :
    (slotV M b hb).view.read (Elt F) ((M.access (halfR b 512 h1)).write (Elt F)
      ((M.access (halfR b 0 h0)).write (Elt F) f w0 Finset.univ) w1 Finset.univ) = X := by
  funext y
  have hlt : (y 0).val < 1024 := (y 0).isLt
  rw [View.read_apply]
  by_cases hy : 512 ≤ (y 0).val
  · rw [half_emb M b 512 hb h1 y (by omega) hy, View.write_emb_of_mem _ _ (Finset.mem_univ _), e1 y _ hy]
    simp
  · rw [View.write_of_not_mem]
    · rw [half_emb M b 0 hb h0 y (by omega) (Nat.zero_le _), View.write_emb_of_mem _ _ (Finset.mem_univ _), e0 y]
      simp
    · rw [half_emb M b 0 hb h0 y (by omega) (Nat.zero_le _), View.setOn_univ]
      show M.view.emb ((halfR b 0 h0).emb _) ∉ (M.view.slice (halfR b 512 h1)).set
      rw [View.set_slice, Finset.mem_map', Rect.mem_set_unit]
      intro hh
      have := (hh 1).1
      rw [Rect.emb_apply] at this
      simp [half, Rect.unit] at this
      omega

abbrev ksM : Memref sig .tc .vmem S2x512x8x128 .f32 := Memref.whole cc0_scratch0
abbrev rKs (b : ℕ) (hb : ∀ a, (![b, 0, 0, 0] : Fin 4 → Nat) a + S1x512x8x128.size a ≤ S2x512x8x128.size a) : Rect S2x512x8x128 :=
  Rect.unit (s := S2x512x8x128) ![b, 0, 0, 0] S1x512x8x128.size hb
/-- A staging slot. -/
abbrev ksV (b : ℕ) (hb : ∀ a, (![b, 0, 0, 0] : Fin 4 → Nat) a + S1x512x8x128.size a ≤ S2x512x8x128.size a) : Memref sig .tc .vmem S512x8x128 .f32 :=
  (ksM.slice (rKs b hb) (fun _ => rfl)).squeeze S512x8x128 squeezes_S1x512x8x128_S512x8x128

def dn (j : S1x512x8x128.Idx) : S512x8x128.Idx := fun a => match a with
  | 0 => j 1 | 1 => j 2 | 2 => j 3
theorem up_dn (j : S1x512x8x128.Idx) : up 512 (dn j) = j := by
  funext a
  fin_cases a
  · exact (Fin.eq_zero (j 0 : Fin 1)).symm
  all_goals rfl

/-- A staging slot's load reads what was copied into it. -/
theorem ks_read (b : ℕ) (hb : ∀ a, (![b, 0, 0, 0] : Fin 4 → Nat) a + S1x512x8x128.size a ≤ S2x512x8x128.size a)
    (f : ksM.view.ty.Contents (Elt F)) (X : S512x8x128.Idx → Elt F .f32) :
    ksM.view.readAt (Elt F) (rKs b hb).toLoadRect ((ksV b hb).view.write (Elt F) f X Finset.univ) = fun j => X (dn j) := by
  funext j
  rw [View.readAt_rect, View.read_apply]
  have e : (ksM.view.slice (rKs b hb)).emb j = (ksV b hb).view.emb (dn j) := by
    show ksM.view.emb ((rKs b hb).emb j) = ksM.view.emb ((rKs b hb).emb (Shape.reshapeEquiv _ (dn j)))
    rw [squeeze_eq 512]
    rw [up_dn]
  rw [e, View.write_emb_of_mem _ _ (Finset.mem_univ _)]
  simp

theorem ks_set (b : ℕ) (hb : ∀ a, (![b, 0, 0, 0] : Fin 4 → Nat) a + S1x512x8x128.size a ≤ S2x512x8x128.size a) :
    ksM.view.setOn (rKs b hb).toLoadRect.set ⊆ (ksV b hb).view.set := by
  have e1 : (ksV b hb).view.set = (rKs b hb).set.map ksM.view.emb := (View.set_reshape _ _).trans (View.set_slice _ _)
  rw [e1]
  exact Finset.Subset.refl _

/-! ## The arrays -/

abbrev arR (o p : ℕ) (ho : ∀ a, (![0, o, p, 0] : Fin 4 → Nat) a + S1x512x8x128.size a ≤ S1x1024x64x128.size a) : Rect S1x1024x64x128 :=
  Rect.unit (s := S1x1024x64x128) ![0, o, p, 0] S1x512x8x128.size ho
/-- 512 rows, from row `o`, of the eight heads from head `p`. -/
abbrev arV (M : Memref sig .tc .hbm S1x1024x64x128 .f32) (o p : ℕ)
    (ho : ∀ a, (![0, o, p, 0] : Fin 4 → Nat) a + S1x512x8x128.size a ≤ S1x1024x64x128.size a) : Memref sig .tc .hbm S512x8x128 .f32 :=
  (M.slice (arR o p ho) (fun _ => rfl)).squeeze S512x8x128 squeezes_S1x512x8x128_S512x8x128

theorem ar_set (M : Memref sig .tc .hbm S1x1024x64x128 .f32) (o p : ℕ)
    (h0 : ∀ a, (![0, o, p, 0] : Fin 4 → Nat) a + S1x512x8x128.size a ≤ S1x1024x64x128.size a) :
    (arV M o p h0).view.set = (arR o p h0).set.map M.view.emb := (View.set_reshape _ _).trans (View.set_slice _ _)
theorem ar_sub (M : Memref sig .tc .hbm S1x1024x64x128 .f32) (o p : ℕ)
    (h0 : ∀ a, (![0, o, p, 0] : Fin 4 → Nat) a + S1x512x8x128.size a ≤ S1x1024x64x128.size a) :
    (arV M o p h0).view.set ⊆ M.view.set := by
  rw [ar_set]
  exact Finset.map_subset_map.mpr (Finset.subset_univ _)
theorem ar_disj (M : Memref sig .tc .hbm S1x1024x64x128 .f32) (p : ℕ)
    (h0 : ∀ a, (![0, 0, p, 0] : Fin 4 → Nat) a + S1x512x8x128.size a ≤ S1x1024x64x128.size a)
    (h1 : ∀ a, (![0, 512, p, 0] : Fin 4 → Nat) a + S1x512x8x128.size a ≤ S1x1024x64x128.size a) :
    (arV M 512 p h1).view.set ⊆ M.view.set \ (arV M 0 p h0).view.set := by
  intro i hi
  refine Finset.mem_sdiff.mpr ⟨ar_sub M 512 p h1 hi, fun h => ?_⟩
  rw [ar_set, Finset.mem_map] at h hi
  obtain ⟨x, hx, rfl⟩ := hi
  obtain ⟨y, hy, e⟩ := h
  rw [M.view.emb.injective e, Rect.mem_set_unit] at hy
  rw [Rect.mem_set_unit] at hx
  have a := (hx 1).1
  have b := (hy 1).2
  simp at a b
  omega

/-- Head `8 d + y₁` of a row. -/
def headIx (d : D) (y : S1024x8x128.Idx) : S1x1024x64x128.Idx := fun a => match a with
  | 0 => (0 : Fin 1) | 1 => y 0
  | 2 => (⟨8 * d.val + (y 1).val, by have h1 : (y 1).val < 8 := (y 1).isLt; have h2 : d.val < 8 := d.isLt; show _ < 64; omega⟩ : Fin 64) | 3 => y 2
/-- Device `d`'s heads of an array, rounded. -/
def kvOf (A : S1x1024x64x128.Idx → Elt F .f32) (d : D) : S1024x8x128.Idx → Elt F .bf16 := fun y =>
  FloatOps.truncf (F := F) (φ := .f32) .bf16 bitsLt_bf16_f32 (A (headIx d y))

theorem ar_read (M : Memref sig .tc .hbm S1x1024x64x128 .f32) (o p : ℕ)
    (ho : ∀ a, (![0, o, p, 0] : Fin 4 → Nat) a + S1x512x8x128.size a ≤ S1x1024x64x128.size a)
    (f : M.view.ty.Contents (Elt F)) (d : D) (hp : p = 8 * d.val) (y : S1024x8x128.Idx) (h : (y 0).val - o < 512) (hy : o ≤ (y 0).val) :
    (arV M o p ho).view.read (Elt F) f (dn (half o y h)) = M.view.read (Elt F) f (headIx d y) := by
  subst hp
  rw [View.read_apply, View.read_apply]
  have e : (arV M o (8 * d.val) ho).view.emb (dn (half o y h)) = M.view.emb (headIx d y) := by
    show M.view.emb ((arR o (8 * d.val) ho).emb (Shape.reshapeEquiv _ (dn (half o y h)))) = _
    rw [squeeze_eq 512, up_dn]
    congr 1
    funext a
    apply Fin.ext
    rw [Rect.emb_apply]
    fin_cases a <;> simp [half, headIx, Rect.unit]
    omega
  rw [e]

/-- What is stored of a staging slot's contents: their rounding. -/
def stPay (v : Vec F S1x512x8x128 .f32) : Vec F S1x512x8x128 .bf16 := k0_pay3 v
theorem stPay_apply (v : Vec F S1x512x8x128 .f32) (j : S1x512x8x128.Idx) :
    stPay v j = FloatOps.truncf (F := F) (φ := .f32) .bf16 bitsLt_bf16_f32 (v j) := by
  have e : stPay v = shapeCast S1x512x8x128 (shapeCast S512x8x128 (shapeCast S512x8x128 (truncf .bf16 v bitsLt_bf16_f32)
      shapeCasts_S1x512x8x128_S512x8x128) shapeCasts_S512x8x128_S512x8x128) shapeCasts_S512x8x128_S1x512x8x128 := rfl
  rw [e, shapeCast_self, shapeCast_shapeCast]
  rfl

/-! ## The stage -/

theorem tag_st : ∀ h : Fin 2, tag (SemLoc.dma (stS h)) = none := by decide +kernel
theorem tag_out : tag (SemLoc.dma outS) = none := by decide +kernel

theorem inbAr0 (p : ℕ) (h : ∀ a, (![0, 0, p, 0] : Fin 4 → Nat) a + S1x512x8x128.size a ≤ S1x1024x64x128.size a) : p + 8 ≤ 64 := h 2

/-- The staging state: the two slots and their semaphores. -/
def stg0 (c : D) : sProp 𝕄 := iprop((anyAt c (ksV 0 (inbKs 0)) ∗ semVal ((c : Thread nD τ), .dma (stS 0)) 0)
  ∗ (anyAt c (ksV 1 (inbKs 1)) ∗ semVal ((c : Thread nD τ), .dma (stS 1)) 0))

/-- An array at contents `A`. -/
def arrP (c : D) (M : Memref sig .tc .hbm S1x1024x64x128 .f32) (A : S1x1024x64x128.Idx → Elt F .f32) : sProp 𝕄 :=
  iprop(∃ f : Buf (Elt F) (M.view.loc (c : Thread nD τ)), ⌜M.view.read (Elt F) f = A⌝ ∗ (M.view.loc (c : Thread nD τ) ↦[M.view.set]{fullShare} f))

/-- One device's keys or values staged into a slot. -/
theorem stageStep (c : D) {n : ℕ} (M : Memref sig .tc .vmem (Sn n) .bf16) (b : ℕ)
    (hb : ∀ a, (![b, 0, 0, 0] : Fin 4 → Nat) a + S1x1024x8x128.size a ≤ (Sn n).size a)
    (h0 : ∀ a, (![b, 0, 0, 0] : Fin 4 → Nat) a + S1x512x8x128.size a ≤ (Sn n).size a)
    (h1 : ∀ a, (![b, 512, 0, 0] : Fin 4 → Nat) a + S1x512x8x128.size a ≤ (Sn n).size a)
    (arr : Memref sig .tc .hbm S1x1024x64x128 .f32) (A : S1x1024x64x128.Idx → Elt F .f32) (d : D) (p : ℕ) (hp : p = 8 * d.val)
    (g0 : ∀ a, (![0, 0, p, 0] : Fin 4 → Nat) a + S1x512x8x128.size a ≤ S1x1024x64x128.size a)
    (g1 : ∀ a, (![0, 512, p, 0] : Fin 4 → Nat) a + S1x512x8x128.size a ≤ S1x1024x64x128.size a)
    (k0 : ∀ a, (![0, 0, 0, 0] : Fin 4 → Nat) a + S1x512x8x128.size a ≤ S2x512x8x128.size a)
    (k1 : ∀ a, (![1, 0, 0, 0] : Fin 4 → Nat) a + S1x512x8x128.size a ≤ S2x512x8x128.size a)
    (i0 : ∀ a, (![0, 0, 0] : Fin 3 → Nat) a + S512x8x128.size a ≤ S1024x8x128.size a)
    (i1 : ∀ a, (![512, 0, 0] : Fin 3 → Nat) a + S512x8x128.size a ≤ S1024x8x128.size a)
    {s0 s1 : DmaSem sig} (es0 : s0 = stS 0) (es1 : s1 = stS 1)
    (p0 p1 : Vec F S1x512x8x128 .f32 → Vec F S1x512x8x128 .bf16) (ep0 : ∀ v, p0 v = stPay v) (ep1 : ∀ v, p1 v = stPay v)
    (l : List (D × CK)) (hl : l.all (fun x => decide (0 < lvk x.2)) = true)
    {a1 a2 a3 b1 b2 b3 c1 c2 d1 e1 m1 m2 c1' c2' d1' e1' m1' m2'}
    {α : Type} {Q : α → sProp 𝕄} {k : PUnit → Prog (TpuEff nD τ sig (Elt F) Λ₀ .tc) α} :
    iprop(levAts L lv ∗ arrP c arr A ∗ stg0 c ∗ anyAt c (slotV M b hb) ∗ ow c l)
      ⊢ iprop(((arrP c arr A ∗ stg0 c ∗ holds c (slotV M b hb) (kvOf A d) ∗ ow c l) -∗ WP c (k ⟨⟩) Q)
          -∗ WP c (.op (.enqueueDma (arV arr 0 p g0) (.here (ksV 0 k0)) (.dma s0) a1 a2 a3) fun _ =>
              .op (.enqueueDma (arV arr 512 p g1) (.here (ksV 1 k1)) (.dma s1) b1 b2 b3) fun _ =>
              .op (.waitDma2 s0 (arV arr 0 p g0) (ksV 0 k0) c1 c2) fun _ =>
              .op (.load ksM (rKs 0 k0).toLoadRect d1) fun v =>
              .op (.load (slotV M b hb) (Rect.unit (s := S1024x8x128) ![0, 0, 0] S512x8x128.size i0).toLoadRect e1) fun _ =>
              .op (.store M (halfR b 0 h0) (p0 v) Finset.univ m1 m2) fun _ =>
              .op (.waitDma2 s1 (arV arr 512 p g1) (ksV 1 k1) c1' c2') fun _ =>
              .op (.load ksM (rKs 1 k1).toLoadRect d1') fun v =>
              .op (.load (slotV M b hb) (Rect.unit (s := S1024x8x128) ![512, 0, 0] S512x8x128.size i1).toLoadRect e1') fun _ =>
              .op (.store M (halfR b 512 h1) (p1 v) Finset.univ m1' m2') k) Q) := by
  subst es0 es1
  obtain rfl : p0 = stPay := funext ep0
  obtain rfl : p1 = stPay := funext ep1
  unfold stg0 arrP
  conv => lhs; unfold anyAt
  iintro ⟨#HL, ⟨%fA, %hA, HA⟩, ⟨⟨⟨%f0, Hk0⟩, Hv0⟩, ⟨⟨%f1, Hk1⟩, Hv1⟩⟩, ⟨%fS, HS⟩, HO⟩ Hk
  ihave HA := (pointsTo_split_subset (ar_sub arr 0 p g0)).1 $$ HA
  icases HA with ⟨HA0, HA⟩
  ihave HA := (pointsTo_split_subset (ar_disj arr p g0 g1)).1 $$ HA
  icases HA with ⟨HA1, HA⟩
  iapply (Transfers.wp_dmaLocal EC 𝒱₀ (c : Thread nD τ) none (src := arV arr 0 p g0) (dst := ksV 0 k0) () _ rfl (by show 0 < (ksV 0 (inbKs 0)).view.dmaCredit; decide +kernel) (Finset.Subset.refl _)) $$ [HA0 Hk0 Hv0]
  · isplitl [HA0]; · iexact HA0
    isplitl [Hk0]; · iexact Hk0
    iexact Hv0
  iintro HF0
  iapply (Transfers.wp_dmaLocal EC 𝒱₀ (c : Thread nD τ) none (src := arV arr 512 p g1) (dst := ksV 1 k1) () _ rfl (by show 0 < (ksV 1 (inbKs 1)).view.dmaCredit; decide +kernel) (Finset.Subset.refl _)) $$ [HA1 Hk1 Hv1]
  · isplitl [HA1]; · iexact HA1
    isplitl [Hk1]; · iexact Hk1
    iexact Hv1
  iintro HF1
  iapply (localWait c (tag_st 0) l hl (dstw := ksV 0 k0) rfl) $$ [HF0 HO]
  · isplitr; · iexact HL
    isplitl [HF0]; · iexact HF0
    iexact HO
  iintro ⟨⟨Hk0, HA0⟩, Hv0, HO⟩
  iapply (wp_load 𝒱₀ (c : Thread nD τ) none Set.univ (m := ksM) (ks_set 0 k0)) $$ Hk0; iintro Hk0
  rw [ks_read]
  iapply (wp_load 𝒱₀ (c : Thread nD τ) none Set.univ (m := slotV M b hb) (View.setOn_subset_set _ _)) $$ HS; iintro HS
  iapply (wp_store 𝒱₀ (c : Thread nD τ) none Set.univ (m := M) (half_set M b 0 hb h0)) $$ HS; iintro HS
  iapply (localWait c (tag_st 1) l hl (dstw := ksV 1 k1) rfl) $$ [HF1 HO]
  · isplitr; · iexact HL
    isplitl [HF1]; · iexact HF1
    iexact HO
  iintro ⟨⟨Hk1, HA1⟩, Hv1, HO⟩
  iapply (wp_load 𝒱₀ (c : Thread nD τ) none Set.univ (m := ksM) (ks_set 1 k1)) $$ Hk1; iintro Hk1
  rw [ks_read]
  iapply (wp_load 𝒱₀ (c : Thread nD τ) none Set.univ (m := slotV M b hb) (View.setOn_subset_set _ _)) $$ HS; iintro HS
  iapply (wp_store 𝒱₀ (c : Thread nD τ) none Set.univ (m := M) (half_set M b 512 hb h1)) $$ HS; iintro HS
  iapply Hk
  isplitl [HA0 HA1 HA]
  · iexists fA
    isplitr; · ipureintro; exact hA
    iapply (pointsTo_split_subset (ar_sub arr 0 p g0)).2
    isplitl [HA0]; · iexact HA0
    iapply (pointsTo_split_subset (ar_disj arr p g0 g1)).2
    isplitl [HA1]; · iexact HA1
    iexact HA
  isplitl [Hk0 Hv0 Hk1 Hv1]
  · isplitl [Hk0 Hv0]
    · isplitl [Hk0]; · iapply anyAt_intro; iexact Hk0
      iexact Hv0
    · isplitl [Hk1]; · iapply anyAt_intro; iexact Hk1
      iexact Hv1
  isplitl [HS]
  · unfold holds
    iexists _
    isplitr; rotate_left; · iexact HS
    ipureintro
    refine slot_read M b hb h0 h1 fS _ _ _ (fun y h => ?_) (fun y h hy => ?_)
    · rw [stPay_apply]
      show FloatOps.truncf (F := F) (φ := .f32) .bf16 bitsLt_bf16_f32 ((arV arr 0 p g0).view.read (Elt F) fA (dn (half 0 y h))) = _
      rw [ar_read arr 0 p g0 fA d hp y h (Nat.zero_le _), hA]; rfl
    · rw [stPay_apply]
      show FloatOps.truncf (F := F) (φ := .f32) .bf16 bitsLt_bf16_f32 ((arV arr 512 p g1).view.read (Elt F) fA (dn (half 512 y h))) = _
      rw [ar_read arr 512 p g1 fA d hp y h hy, hA]; rfl
  iexact HO

end Cert.Proof.Attn

end
-- ==== Proof.Feed.lean ====
/-
  Device 0's fourteen transfers of keys and values, each staged into one of four slots, and the relays' forwarding:
  what is held between two of them, and the rule of each.
-/
module

public import proofs.«01_k».proof.Proof.Stage

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-! ## Lists of resources -/

theorem list_cons {I : Type} (x : I) (l : List I) (Φ : I → sProp 𝕄) :
    bigSepM ((x :: l : List I) : Multiset I) Φ = iprop(Φ x ∗ bigSepM (l : Multiset I) Φ) := bigSepM_cons x (l : Multiset I) Φ
theorem list_append {I : Type} (l l' : List I) (Φ : I → sProp 𝕄) :
    bigSepM ((l ++ l' : List I) : Multiset I) Φ = iprop(bigSepM (l : Multiset I) Φ ∗ bigSepM (l' : Multiset I) Φ) :=
  bigSepM_add (l : Multiset I) (l' : Multiset I) Φ
theorem list_set {I : Type} [DecidableEq I] {l : List I} (h : l.Nodup) (Φ : I → sProp 𝕄) : bigSepM (l : Multiset I) Φ = bigSep l.toFinset Φ := by
  show _ = bigSepM l.toFinset.val Φ
  rw [List.toFinset_val, h.dedup]

/-! ## Device 0 -/

/-- One transfer of device 0: the device and cell it lands on, the tensor and the device whose heads it carries, its slot
    and the round of that slot. -/
structure Item where
  x : D × CK
  t : Fin 2
  d : D
  b : Fin 4
  r : ℕ

def feed : List Item :=
  [⟨(1, .rl 0), 0, 2, 0, 0⟩, ⟨(3, .rl 0), 0, 7, 1, 0⟩, ⟨(4, .rl 0), 1, 5, 2, 0⟩, ⟨(1, .rl 1), 1, 2, 3, 0⟩,
   ⟨(3, .rl 1), 1, 7, 0, 1⟩, ⟨(4, .rl 1), 1, 6, 1, 1⟩, ⟨(1, .rl 2), 0, 5, 2, 1⟩, ⟨(3, .rl 2), 0, 6, 3, 1⟩,
   ⟨(4, .kv 0), 0, 4, 0, 2⟩, ⟨(1, .kv 0), 0, 1, 1, 2⟩, ⟨(3, .kv 0), 0, 3, 2, 2⟩, ⟨(4, .kv 1), 1, 4, 3, 2⟩,
   ⟨(1, .kv 1), 1, 1, 0, 3⟩, ⟨(3, .kv 1), 1, 3, 1, 3⟩]
theorem feed_hops : feed.map Item.x = hops 0 := rfl

/-- Where a slot of device 0 stands: free with round `r` open, or its contents on their way in round `r`. -/
inductive SSt
  | free (r : ℕ) | busy (r : ℕ)

def slotP (b : Fin 4) : SSt → sProp 𝕄
  | .free r => iprop(anyAt 0 (sbV b) ∗ atOf (0, .sc b) r ∗ reached ER (kcell (0, .sc b)) r)
  | .busy r => iprop(crOf (0, .sc b) NSlot ∗ atOf (0, .sc b) r)

abbrev arrM : Fin 2 → Memref sig .tc .hbm S1x1024x64x128 .f32 := ![Memref.whole main_arg2, Memref.whole main_arg3]
abbrev Arrs (F : FTy → Type) [FloatOps F] : Type := Fin 2 → S1x1024x64x128.Idx → Elt F .f32

def arrs (c : D) (A : Arrs F) : sProp 𝕄 := iprop(arrP c (arrM 0) (A 0) ∗ arrP c (arrM 1) (A 1))
theorem arrs_at (c : D) (A : Arrs F) (t : Fin 2) :
    arrs c A ⊢ iprop(arrP c (arrM t) (A t) ∗ (arrP c (arrM t) (A t) -∗ arrs c A)) := by
  unfold arrs
  rcases t with ⟨_ | _ | t, ht⟩
  · iintro ⟨H0, H1⟩
    isplitl [H0]; · iexact H0
    iintro H0
    isplitl [H0]; · iexact H0
    iexact H1
  · iintro ⟨H0, H1⟩
    isplitl [H1]; · iexact H1
    iintro H1
    isplitl [H0]; · iexact H0
    iexact H1
  · omega

def itemP (it : Item) : sProp 𝕄 :=
  iprop(buf it.x.1 it.x.2 ∗ tokOf it.x 0 0 ∗ tokOf (0, .sc it.b) it.r 0)

def feedP (A : Arrs F) (l : List Item) (st : Fin 4 → SSt) : sProp 𝕄 :=
  iprop(arrs 0 A ∗ stg0 0 ∗ bigSep Finset.univ (fun b => slotP b (st b))
    ∗ bigSepM (l : Multiset Item) itemP ∗ ow 0 (l.map Item.x ++ xch 0))

theorem feed_levels (l : List Item) (h : l <:+ feed) : (l.map Item.x ++ xch 0).all (fun x => decide (0 < lvk x.2)) = true := by
  have h0 : (feed.map Item.x ++ xch 0).all (fun x => decide (0 < lvk x.2)) = true := by decide
  rw [List.all_eq_true] at h0 ⊢
  intro x hx
  refine h0 x ?_
  rcases List.mem_append.mp hx with hx | hx
  · obtain ⟨y, hy, rfl⟩ := List.mem_map.mp hx
    exact List.mem_append_left _ (List.mem_map_of_mem (h.subset hy))
  · exact List.mem_append_right _ hx

theorem nr_sc : ∀ b : Fin 4, nr 0 (.sc b) = (![4, 4, 3, 3] : Fin 4 → ℕ) b := by decide

/-- A slot's contents arrive: the slot is free again. -/
theorem slotWait (b : Fin 4) (r : ℕ) (hr : r < nr 0 (.sc b)) (st : Fin 4 → SSt) (hst : st b = .busy r) (l : List (D × CK))
    (hl : l.all (fun x => decide (0 < lvk x.2)) = true)
    {sm : DmaSem sig} (hs : SemLoc.dma (sem4 cc0_scratch15 b) = .dma sm)
    {sp sp' : Space} {s s' : Shape} {e e' : EltTy} {srcw : Memref sig .tc sp' s' e'} {dstw : Memref sig .tc sp s e}
    {hsrc : srcw.view.WordExact} {hdst : dstw.view.WordExact} (hN : dstw.view.dmaCredit = NSlot)
    {α : Type} {Q : α → sProp 𝕄} {k : PUnit → Prog (TpuEff nD τ sig (Elt F) Λ₀ .tc) α} :
    iprop(records V K ∗ levAts L lv ∗ bigSep Finset.univ (fun b => slotP b (st b)) ∗ ow 0 l)
      ⊢ iprop(((bigSep Finset.univ (fun b' => slotP b' (Function.update st b (.free (r + 1)) b')) ∗ ow 0 l) -∗ WP 0 (k ⟨⟩) Q)
          -∗ WP 0 (.op (.waitDma2 sm srcw dstw hsrc hdst) k) Q) := by
  iintro ⟨#HR, #HL, Hs, HO⟩ Hk
  ihave Hs := (bigSep_univ_update (Φ := fun b => slotP (F := F) b (st b)) (Ψ := fun b' => slotP b' (Function.update st b (.free (r + 1)) b')) b
    (fun j hj => by rw [Function.update_of_ne hj])) $$ Hs
  icases Hs with ⟨Hb, Hs⟩
  rw [hst, Function.update_self]
  unfold slotP
  icases Hb with ⟨Hc, Ha⟩
  iapply (waitStep V K 0 (.sc b) hs r hr (by simp) l hl hN) $$ [Hc HO Ha]
  · isplitr; · iexact HR
    isplitr; · iexact HL
    isplitl [Hc]; · iexact Hc
    isplitl [HO]; · iexact HO
    iexact Ha
  iintro ⟨HO, Ha, Hr, Hp⟩
  iapply Hk
  isplitr [HO]
  · iapply Hs
    isplitl [Hp]; · iapply (Entails.of_eq (show pay V 0 (.sc b) 0 = anyAt 0 (sbV b) from rfl)); iexact Hp
    isplitl [Ha]; · iexact Ha
    iexact Hr
  iexact HO

/-- One staging and its transfer. -/
theorem feedStep (A : Arrs F) (hKV : ∀ t d, V.KV d t = kvOf (A t) d) (it : Item) (l : List Item) (hl : it :: l <:+ feed)
    (st st' : Fin 4 → SSt) (hst' : Function.update st it.b (.busy it.r) = st') (hst : st it.b = .free it.r) (hr : it.r < nr 0 (.sc it.b)) (h2 : 0 < nr it.x.1 it.x.2) (h2' : it.x.2 ≠ .bar)
    (bn : ℕ) (hbn : it.b.val = bn)
    (hb : ∀ a, (![bn, 0, 0, 0] : Fin 4 → Nat) a + S1x1024x8x128.size a ≤ (Sn 4).size a)
    (h0 : ∀ a, (![bn, 0, 0, 0] : Fin 4 → Nat) a + S1x512x8x128.size a ≤ (Sn 4).size a)
    (h1 : ∀ a, (![bn, 512, 0, 0] : Fin 4 → Nat) a + S1x512x8x128.size a ≤ (Sn 4).size a)
    (arr : Memref sig .tc .hbm S1x1024x64x128 .f32) (harr : arrM it.t = arr) (p : ℕ) (hp : p = 8 * it.d.val)
    (g0 : ∀ a, (![0, 0, p, 0] : Fin 4 → Nat) a + S1x512x8x128.size a ≤ S1x1024x64x128.size a)
    (g1 : ∀ a, (![0, 512, p, 0] : Fin 4 → Nat) a + S1x512x8x128.size a ≤ S1x1024x64x128.size a)
    (k0 : ∀ a, (![0, 0, 0, 0] : Fin 4 → Nat) a + S1x512x8x128.size a ≤ S2x512x8x128.size a)
    (k1 : ∀ a, (![1, 0, 0, 0] : Fin 4 → Nat) a + S1x512x8x128.size a ≤ S2x512x8x128.size a)
    (i0 : ∀ a, (![0, 0, 0] : Fin 3 → Nat) a + S512x8x128.size a ≤ S1024x8x128.size a)
    (i1 : ∀ a, (![512, 0, 0] : Fin 3 → Nat) a + S512x8x128.size a ≤ S1024x8x128.size a)
    {s0 s1 : DmaSem sig} (es0 : s0 = stS 0) (es1 : s1 = stS 1)
    (p0 p1 : Vec F S1x512x8x128 .f32 → Vec F S1x512x8x128 .bf16) (ep0 : ∀ v, p0 v = stPay v) (ep1 : ∀ v, p1 v = stPay v)
    {a1 a2 a3 b1 b2 b3 c1 c2 d1 e1 m1 m2 c1' c2' d1' e1' m1' m2'}
    {n' : D} (hn : n' = it.x.1) {sS sR : SemLoc sig} (hS : sS = csem (.sc it.b)) (hR : sR = csem it.x.2)
    {dst : Memref sig .tc .vmem S1024x8x128 .bf16}
    {hsc : (dst : Memref sig (Dev.tc n' : Thread nD τ).2.kind .vmem S1024x8x128 .bf16).view.ref.isScScratch = false}
    {hsrc : (slotV (n := 4) (Memref.whole cc0_scratch1) bn hb).view.WordExact} {hdst : dst.view.WordExact}
    {hsem : DmaTarget.Typed .vmem sR (.remote (Dev.tc n' : Thread nD τ) dst sS hsc)}
    (hbuf : buf (F := F) it.x.1 it.x.2 = anyAt it.x.1 dst) (hpay : pay V it.x.1 it.x.2 0 = holds it.x.1 dst (V.KV it.d it.t))
    (hN : dst.view.amount (csem it.x.2) = amt it.x.2) (h12 : NSlot = amt it.x.2)
    {α : Type} {Q : α → sProp 𝕄} {k : PUnit → Prog (TpuEff nD τ sig (Elt F) Λ₀ .tc) α} :
    iprop(records V K ∗ levAts L lv ∗ feedP A (it :: l) st)
      ⊢ iprop((feedP A l st' -∗ WP 0 (k ⟨⟩) Q)
          -∗ WP 0 (.op (.enqueueDma (arV arr 0 p g0) (.here (ksV 0 k0)) (.dma s0) a1 a2 a3) fun _ =>
              .op (.enqueueDma (arV arr 512 p g1) (.here (ksV 1 k1)) (.dma s1) b1 b2 b3) fun _ =>
              .op (.waitDma2 s0 (arV arr 0 p g0) (ksV 0 k0) c1 c2) fun _ =>
              .op (.load ksM (rKs 0 k0).toLoadRect d1) fun v =>
              .op (.load (slotV (n := 4) (Memref.whole cc0_scratch1) bn hb) (Rect.unit (s := S1024x8x128) ![0, 0, 0] S512x8x128.size i0).toLoadRect e1) fun _ =>
              .op (.store (Memref.whole cc0_scratch1) (halfR (n := 4) bn 0 h0) (p0 v) Finset.univ m1 m2) fun _ =>
              .op (.waitDma2 s1 (arV arr 512 p g1) (ksV 1 k1) c1' c2') fun _ =>
              .op (.load ksM (rKs 1 k1).toLoadRect d1') fun v =>
              .op (.load (slotV (n := 4) (Memref.whole cc0_scratch1) bn hb) (Rect.unit (s := S1024x8x128) ![512, 0, 0] S512x8x128.size i1).toLoadRect e1') fun _ =>
              .op (.store (Memref.whole cc0_scratch1) (halfR (n := 4) bn 512 h1) (p1 v) Finset.univ m1' m2') fun _ =>
              .op (.enqueueDma (slotV (n := 4) (Memref.whole cc0_scratch1) bn hb) (.remote (Dev.tc n' : Thread nD τ) dst sS hsc) sR hsrc hdst hsem) k) Q) := by
  subst hbn harr hst'
  unfold feedP
  rw [list_cons]
  iintro ⟨#HR, #HL, HA, Hst, Hs, ⟨Hit, Hits⟩, HO⟩ Hk
  conv => rhs; unfold itemP
  ihave Hs := (bigSep_univ_update (Φ := fun b => slotP (F := F) b (st b)) (Ψ := fun b' => slotP b' (Function.update st it.b (.busy it.r) b')) it.b
    (fun j hj => by rw [Function.update_of_ne hj])) $$ Hs
  icases Hs with ⟨Hb, Hs⟩
  rw [hst, Function.update_self]
  unfold slotP
  icases Hb with ⟨Hb, Ha, Hr⟩
  ihave HA := (arrs_at 0 A it.t) $$ HA
  icases HA with ⟨HA, HAk⟩
  iapply (stageStep 0 (n := 4) (Memref.whole cc0_scratch1) it.b.val hb h0 h1 (arrM it.t) (A it.t) it.d p hp g0 g1 k0 k1 i0 i1 es0 es1 p0 p1 ep0 ep1
    ((it :: l).map Item.x ++ xch 0) (feed_levels _ hl)) $$ [HA Hst Hb HO]
  · isplitr; · iexact HL
    isplitl [HA]; · iexact HA
    isplitl [Hst]; · iexact Hst
    isplitl [Hb]; · iexact Hb
    iexact HO
  iintro ⟨HA, Hst, Hb, HO⟩
  ihave HA := HAk $$ HA
  unfold itemP
  icases Hit with ⟨Hd, Ht2, Ht1⟩
  ihave Hd := (Entails.of_eq hbuf) $$ Hd
  unfold anyAt holds
  icases Hd with ⟨%fd, Hd⟩
  icases Hb with ⟨%fs, %hfs, Hb⟩
  iapply (sendStep V K 0 it.x.1 hn (.sc it.b) it.x.2 hS hR it.r hr (by simp) h2 h2' (l.map Item.x ++ xch 0) hN h12
    (src := slotV (n := 4) (Memref.whole cc0_scratch1) it.b.val hb) (dst := dst) (fs := fs) (fd := fd) (q := fullShare)
    (anyAt_intro 0 _ fs)
    (by rw [hpay]; exact holds_of_write it.x.1 dst _ _ (hfs.trans (hKV _ _).symm) fd)) $$ [Hb Hd HO Ht1 Hr Ht2]
  · isplitr; · iexact HR
    isplitl [Hb]; · iexact Hb
    isplitl [Hd]; · iexact Hd
    isplitl [HO]; · iexact HO
    isplitl [Ht1]; · iexact Ht1
    isplitl [Hr]; · iexact Hr
    iexact Ht2
  iintro ⟨Hc, HO⟩
  iapply Hk
  isplitl [HA]; · iexact HA
  isplitl [Hst]; · iexact Hst
  isplitl [Hs Hc Ha]
  · iapply Hs
    isplitl [Hc]; · iexact Hc
    iexact Ha
  isplitl [Hits]; · iexact Hits
  iexact HO

end Cert.Proof.Attn

end
-- ==== Proof.Loads.lean ====
/-
  Loads and stores through a rectangle of a buffer whose contents are known, and the waits and sends of a relay.
-/
module

public import proofs.«01_k».proof.Proof.Feed

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-! ## Rectangles of known contents -/

/-- The part of an array a rectangle covers. -/
def pick {s : Shape} {α : Type} (r : Rect s) (X : s.Idx → α) : r.shape.Idx → α := fun j => X (r.emb j)
open Classical in
/-- An array with a rectangle overwritten. -/
def put {s : Shape} {α : Type} (r : Rect s) (w : r.shape.Idx → α) (X : s.Idx → α) : s.Idx → α := fun i =>
  if h : ∃ j, r.emb j = i then w h.choose else X i

theorem put_emb {s : Shape} {α : Type} (r : Rect s) (w : r.shape.Idx → α) (X : s.Idx → α) (j : r.shape.Idx) : put r w X (r.emb j) = w j := by
  unfold put
  have h : ∃ j', r.emb j' = r.emb j := ⟨j, rfl⟩
  rw [dif_pos h]
  exact congrArg w (r.emb.injective h.choose_spec)
theorem put_of_not_mem {s : Shape} {α : Type} (r : Rect s) (w : r.shape.Idx → α) (X : s.Idx → α) (i : s.Idx) (h : i ∉ r.set) : put r w X i = X i := by
  unfold put
  rw [dif_neg]
  rintro ⟨j, rfl⟩
  exact h (by rw [← Rect.map_emb_univ]; exact Finset.mem_map_of_mem r.emb (Finset.mem_univ j))
theorem pick_put {s : Shape} {α : Type} (r : Rect s) (w : r.shape.Idx → α) (X : s.Idx → α) : pick r (put r w X) = w :=
  funext fun j => put_emb r w X j

theorem loadStep (c : D) {s : Shape} {e : EltTy} (m : Memref sig .tc .vmem s e) (r : Rect s) (X : s.Idx → Elt F e)
    {hl : m.view.LoadsAt r.toLoadRect} {α : Type} {Q : α → sProp 𝕄} {k : (r.toLoadRect.shape.Idx → Elt F e) → Prog (TpuEff nD τ sig (Elt F) Λ₀ .tc) α} :
    holds c m X ⊢ iprop((holds c m X -∗ WP c (k (pick r X)) Q) -∗ WP c (.op (.load m r.toLoadRect hl) k) Q) := by
  unfold holds
  iintro ⟨%f, %hf, H⟩ Hk
  iapply (wp_load 𝒱₀ (c : Thread nD τ) none Set.univ (m := m) (View.setOn_subset_set _ _)) $$ H; iintro H
  rw [show m.view.readAt (Elt F) r.toLoadRect f = pick r X from by subst hf; rfl]
  iapply Hk
  iexists f
  isplitr; · ipureintro; exact hf
  iexact H

/-- A load whose result is not used. -/
theorem loadAny (c : D) {s : Shape} {e : EltTy} (m : Memref sig .tc .vmem s e) (r : Rect s)
    {hl : m.view.LoadsAt r.toLoadRect} {α : Type} {Q : α → sProp 𝕄} {k : Prog (TpuEff nD τ sig (Elt F) Λ₀ .tc) α} :
    anyAt c m ⊢ iprop((anyAt c m -∗ WP c k Q) -∗ WP c (.op (.load m r.toLoadRect hl) fun _ => k) Q) := by
  unfold anyAt
  iintro ⟨%f, H⟩ Hk
  iapply (wp_load 𝒱₀ (c : Thread nD τ) none Set.univ (m := m) (View.setOn_subset_set _ _)) $$ H; iintro H
  iapply Hk
  iexists f; iexact H

theorem storeStep (c : D) {s : Shape} {e : EltTy} (m : Memref sig .tc .vmem s e) (r : Rect s) (X : s.Idx → Elt F e) (w : r.shape.Idx → Elt F e)
    {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    holds c m X ⊢ iprop((holds c m (put r w X) -∗ WP c (k ⟨⟩) Q) -∗ WP c (.op (.store m r w Finset.univ hx hm) k) Q) := by
  unfold holds
  iintro ⟨%f, %hf, H⟩ Hk
  iapply (wp_store 𝒱₀ (c : Thread nD τ) none Set.univ (m := m) (r := r) (S := m.view.set) ((View.setOn_subset_set _ _).trans (View.set_slice_subset _ _))) $$ H; iintro H
  iapply Hk
  iexists _
  isplitr; rotate_left; · iexact H
  ipureintro
  subst hf
  funext i
  by_cases h : i ∈ r.set
  · rw [← Rect.map_emb_univ] at h
    obtain ⟨j, -, rfl⟩ := Finset.mem_map.mp h
    rw [put_emb]
    exact View.read_slice_write_emb (v := m.view) r f w (Finset.mem_univ j)
  · rw [put_of_not_mem r w _ i h]
    rw [← Rect.map_emb_univ] at h
    exact View.read_slice_write_of_not_mem (v := m.view) r f w Finset.univ h

theorem anyAt_holds (c : D) {s : Shape} {e : EltTy} (m : Memref sig .tc .vmem s e) :
    anyAt (F := F) c m ⊢ iprop(∃ X : s.Idx → Elt F e, holds c m X) := by
  unfold anyAt holds
  iintro ⟨%f, H⟩
  iexists (m.view.read (Elt F) f)
  iexists f
  isplitr; · ipureintro; rfl
  iexact H
theorem holds_any (c : D) {s : Shape} {e : EltTy} (m : Memref sig .tc .vmem s e) (X : s.Idx → Elt F e) :
    holds c m X ⊢ anyAt (F := F) c m := by
  unfold anyAt holds
  iintro ⟨%f, -, H⟩
  iexists f; iexact H

/-- The whole rectangle. -/
theorem pick_zero {s : Shape} {α : Type} (off : Fin s.rank → ℕ) (h : off = fun _ => 0) (hb : ∀ a, off a + s.size a ≤ s.size a) (X : s.Idx → α) :
    pick (Rect.unit (s := s) off s.size hb) X = X := by
  subst h
  funext j
  show X _ = X j
  congr 1
  funext a
  apply Fin.ext
  rw [Rect.emb_apply]
  simp [Rect.unit]
theorem put_zero {s : Shape} {α : Type} (off : Fin s.rank → ℕ) (h : off = fun _ => 0) (hb : ∀ a, off a + s.size a ≤ s.size a)
    (w : s.Idx → α) (X : s.Idx → α) :
    put (Rect.unit (s := s) off s.size hb) w X = w := by
  have e := pick_zero off h hb (put (Rect.unit (s := s) off s.size hb) w X)
  rw [pick_put] at e
  exact e.symm

theorem z2 : (![0, 0] : Fin 2 → ℕ) = fun _ => 0 := by decide
theorem z3 : (![0, 0, 0] : Fin 3 → ℕ) = fun _ => 0 := by decide

/-- One head of the keys or values, as loaded. -/
def kvIx (h : ℕ) (hh : h < 8) (j : S1x1024x1x128.Idx) : S1024x8x128.Idx := fun a => match a with
  | 0 => j 1 | 1 => (⟨h, hh⟩ : Fin 8) | 2 => j 3
def kvPick (h : ℕ) (hh : h < 8) (X : S1024x8x128.Idx → Elt F .bf16) : S1x1024x1x128.Idx → Elt F .bf16 := fun j => X (kvIx h hh j)

abbrev kvM : Memref sig .tc .vmem S2x1024x8x128 .bf16 := Memref.whole cc0_scratch3
abbrev kvR (t h : ℕ) (hb : ∀ a, (![t, 0, h, 0] : Fin 4 → Nat) a + S1x1024x1x128.size a ≤ S2x1024x8x128.size a) : Rect S2x1024x8x128 :=
  Rect.unit (s := S2x1024x8x128) ![t, 0, h, 0] S1x1024x1x128.size hb
theorem kvLoad (c : D) (t : Fin 2) (tn : ℕ) (ht : t.val = tn) (h : ℕ) (hh : h < 8) (hb : ∀ a, (![tn, 0, h, 0] : Fin 4 → Nat) a + S1x1024x1x128.size a ≤ S2x1024x8x128.size a)
    (X : S1024x8x128.Idx → Elt F .bf16)
    {hl : kvM.view.LoadsAt (kvR tn h hb).toLoadRect} {α : Type} {Q : α → sProp 𝕄}
    {k : (S1x1024x1x128.Idx → Elt F .bf16) → Prog (TpuEff nD τ sig (Elt F) Λ₀ .tc) α} :
    holds c (kvV t) X ⊢ iprop((holds c (kvV t) X -∗ WP c (k (kvPick h hh X)) Q) -∗ WP c (.op (.load kvM (kvR tn h hb).toLoadRect hl) k) Q) := by
  subst ht
  have key : ∀ j : S1x1024x1x128.Idx, kvM.view.emb ((kvR t.val h hb).emb j)
      = (kvV t).view.emb (kvIx h hh j) := by
    intro j
    refine Eq.trans ?_ (slot_emb (n := 2) kvM t.val (inbKv t) (kvIx h hh j)).symm
    congr 1
    funext a
    apply Fin.ext
    rw [Rect.emb_apply, Rect.emb_apply]
    have h0 : (j 0).val < 1 := (j 0).isLt
    have h2 : (j 2).val < 1 := (j 2).isLt
    fin_cases a <;> simp [up, kvIx, Rect.unit] <;> omega
  unfold holds
  iintro ⟨%f, %hf, H⟩ Hk
  iapply (wp_load_rect 𝒱₀ (c : Thread nD τ) none Set.univ (m := kvM) (r := kvR t.val h hb) (S := (kvV t).view.set) (by
    intro i hi
    obtain ⟨j, -, rfl⟩ := Finset.mem_map.mp hi
    show kvM.view.emb ((kvR t.val h hb).emb j) ∈ _
    rw [key]
    exact Finset.mem_map_of_mem _ (Finset.mem_univ _))) $$ H; iintro H
  rw [show (kvM.access (kvR t.val h hb)).read (Elt F) f = kvPick h hh X from by
    subst hf
    funext j
    exact congrArg (fun i => (f i : Elt F .bf16)) (key j)]
  iapply Hk
  iexists f
  isplitr; · ipureintro; exact hf
  iexact H

/-! ## Relays -/

/-- A relay slot before its contents arrive, after they have been sent on, and when it is the device's own again. -/
def rlW (c : D) (s : Fin 3) : sProp 𝕄 := iprop(crOf (c, .rl s) NSlot ∗ atOf (c, .rl s) 0 ∗ atOf (c, .fw s) 0 ∗ tokOf (c, .fw s) 0 0)
def rlS (c : D) (s : Fin 3) : sProp 𝕄 := iprop(crOf (c, .fw s) NSlot ∗ atOf (c, .rl s) 1 ∗ atOf (c, .fw s) 0)
def rlB (c : D) (s : Fin 3) : sProp 𝕄 := iprop(anyAt c (rlV s) ∗ atOf (c, .rl s) 1 ∗ atOf (c, .fw s) 1)
/-- The landing buffer of a transfer and its payment. -/
def hopP (x : D × CK) : sProp 𝕄 := iprop(buf x.1 x.2 ∗ tokOf x 0 0)

theorem nr_rl (c : D) (s : Fin 3) (h : s.val < nrelay c) : nr c (.rl s) = 1 := if_pos h
theorem nr_fw (c : D) (s : Fin 3) (h : s.val < nrelay c) : nr c (.fw s) = 1 := if_pos h
theorem nr_kv (c : D) (t : Fin 2) (h : c ≠ 0) : nr c (.kv t) = 1 := if_neg h

theorem relayHop (c : D) (s : Fin 3) (hs : s.val < nrelay c) (n : D) (t : Fin 2) (hn0 : n ≠ 0) (hkv : rlKV c s = (t, n)) (l : List (D × CK))
    (hl : ((n, CK.kv t) :: l).all (fun x => decide (lvk (.rl s) < lvk x.2)) = true)
    {sm : DmaSem sig} (hsm : csem (.rl s) = .dma sm)
    {sp' : Space} {s' : Shape} {e' : EltTy} {srcw : Memref sig .tc sp' s' e'} {sp : Space} {s1 : Shape} {e1 : EltTy} {dstw : Memref sig .tc sp s1 e1}
    {hsrcw : srcw.view.WordExact} {hdstw : dstw.view.WordExact} (hN : dstw.view.dmaCredit = NSlot)
    {src dst : Memref sig .tc .vmem S1024x8x128 .bf16} (hsv : src = rlV s) (hdv : dst = kvV t)
    {n' : D} (hn : n' = n) {sS sR : SemLoc sig} (hS : sS = csem (.fw s)) (hR : sR = csem (.kv t))
    {hsc : (dst : Memref sig (Dev.tc n' : Thread nD τ).2.kind .vmem S1024x8x128 .bf16).view.ref.isScScratch = false}
    {hsrc : src.view.WordExact} {hdst : dst.view.WordExact}
    {hsem : DmaTarget.Typed .vmem sR (.remote (Dev.tc n' : Thread nD τ) dst sS hsc)} (hN2 : dst.view.amount (csem (.kv t)) = NSlot)
    {α : Type} {Q : α → sProp 𝕄} {k : PUnit → Prog (TpuEff nD τ sig (Elt F) Λ₀ .tc) α} :
    iprop(records V K ∗ levAts L lv ∗ rlW c s ∗ hopP (n, .kv t) ∗ ow c ((n, .kv t) :: l))
      ⊢ iprop(((rlS c s ∗ ow c l) -∗ WP c (k ⟨⟩) Q)
          -∗ WP c (.op (.waitDma2 sm srcw dstw hsrcw hdstw) fun _ => .op (.enqueueDma src (.remote (Dev.tc n' : Thread nD τ) dst sS hsc) sR hsrc hdst hsem) k) Q) := by
  subst hsv hdv
  unfold rlW hopP
  iintro ⟨#HR, #HL, ⟨Hc, Ha, Haf, Htf⟩, ⟨Hb, Ht⟩, HO⟩ Hk
  iapply (waitStep V K c (.rl s) hsm 0 (by rw [nr_rl c s hs]; exact Nat.one_pos) (by simp) _ hl hN) $$ [Hc HO Ha]
  · isplitr; · iexact HR
    isplitr; · iexact HL
    isplitl [Hc]; · iexact Hc
    isplitl [HO]; · iexact HO
    iexact Ha
  iintro ⟨HO, Ha, -, Hp⟩
  ihave Hp := (Entails.of_eq (show pay V c (.rl s) 0 = holds c (rlV s) (V.KV n t) from by
    show holds c (rlV s) (V.KV (rlKV c s).2 (rlKV c s).1) = _; rw [hkv])) $$ Hp
  ihave Hb := (Entails.of_eq (show buf (F := F) n (.kv t) = anyAt n (kvV t) from rfl)) $$ Hb
  unfold anyAt holds
  icases Hb with ⟨%fd, Hb⟩
  icases Hp with ⟨%fs, %hfs, Hp⟩
  ihave #Hrf := (records_at V K (c, .fw s)) $$ HR
  icases Hrf with ⟨-, #Hrf⟩
  iapply (sendStep V K c n hn (.fw s) (.kv t) hS hR 0 (by rw [nr_fw c s hs]; exact Nat.one_pos) (by simp) (by rw [nr_kv n t hn0]; exact Nat.one_pos) (by simp) l
    (src := rlV s) (dst := kvV t) (fs := fs) (fd := fd) (q := fullShare) hN2 rfl
    (anyAt_intro c _ fs) (holds_of_write n (kvV t) _ _ hfs fd)) $$ [Hp Hb HO Htf Ht]
  · isplitr; · iexact HR
    isplitl [Hp]; · iexact Hp
    isplitl [Hb]; · iexact Hb
    isplitl [HO]; · iexact HO
    isplitl [Htf]; · iexact Htf
    isplitr; · iexact Hrf
    iexact Ht
  iintro ⟨Hc, HO⟩
  iapply Hk
  unfold rlS
  isplitr [HO]
  · isplitl [Hc]; · iexact Hc
    isplitl [Ha]; · iexact Ha
    iexact Haf
  iexact HO

theorem relayBack (c : D) (s : Fin 3) (hs : s.val < nrelay c) (l : List (D × CK)) (hl : l.all (fun x => decide (0 < lvk x.2)) = true)
    {sm : DmaSem sig} (hsm : csem (.fw s) = .dma sm)
    {sp' : Space} {s' : Shape} {e' : EltTy} {srcw : Memref sig .tc sp' s' e'} {sp : Space} {s1 : Shape} {e1 : EltTy} {dstw : Memref sig .tc sp s1 e1}
    {hsrcw : srcw.view.WordExact} {hdstw : dstw.view.WordExact} (hN : dstw.view.dmaCredit = NSlot)
    {α : Type} {Q : α → sProp 𝕄} {k : PUnit → Prog (TpuEff nD τ sig (Elt F) Λ₀ .tc) α} :
    iprop(records V K ∗ levAts L lv ∗ rlS c s ∗ ow c l)
      ⊢ iprop(((rlB c s ∗ ow c l) -∗ WP c (k ⟨⟩) Q) -∗ WP c (.op (.waitDma2 sm srcw dstw hsrcw hdstw) k) Q) := by
  unfold rlS rlB
  iintro ⟨#HR, #HL, ⟨Hc, Ha, Haf⟩, HO⟩ Hk
  iapply (waitStep V K c (.fw s) hsm 0 (by rw [nr_fw c s hs]; exact Nat.one_pos) (by simp) _ hl hN) $$ [Hc HO Haf]
  · isplitr; · iexact HR
    isplitr; · iexact HL
    isplitl [Hc]; · iexact Hc
    isplitl [HO]; · iexact HO
    iexact Haf
  iintro ⟨HO, Haf, -, Hp⟩
  iapply Hk
  isplitr [HO]
  · isplitl [Hp]; · iapply (Entails.of_eq (show pay V c (.fw s) 0 = anyAt c (rlV s) from rfl)); iexact Hp
    isplitl [Ha]; · iexact Ha
    iexact Haf
  iexact HO

/-- The keys or values arrive. -/
def kvW (c : D) (t : Fin 2) : sProp 𝕄 := iprop(crOf (c, .kv t) NSlot ∗ atOf (c, .kv t) 0)
def kvG (c : D) (t : Fin 2) : sProp 𝕄 := iprop(holds c (kvV t) (V.KV c t) ∗ atOf (c, .kv t) (nr c (.kv t)))
theorem kvWait (c : D) (hc : c ≠ 0) (t : Fin 2) (l : List (D × CK)) (hl : l.all (fun x => decide (lvk (.kv t) < lvk x.2)) = true)
    {sm : DmaSem sig} (hsm : csem (.kv t) = .dma sm)
    {sp' : Space} {s' : Shape} {e' : EltTy} {srcw : Memref sig .tc sp' s' e'} {sp : Space} {s1 : Shape} {e1 : EltTy} {dstw : Memref sig .tc sp s1 e1}
    {hsrcw : srcw.view.WordExact} {hdstw : dstw.view.WordExact} (hN : dstw.view.dmaCredit = NSlot)
    {α : Type} {Q : α → sProp 𝕄} {k : PUnit → Prog (TpuEff nD τ sig (Elt F) Λ₀ .tc) α} :
    iprop(records V K ∗ levAts L lv ∗ kvW c t ∗ ow c l)
      ⊢ iprop(((kvG V c t ∗ ow c l) -∗ WP c (k ⟨⟩) Q) -∗ WP c (.op (.waitDma2 sm srcw dstw hsrcw hdstw) k) Q) := by
  unfold kvW kvG
  rw [nr_kv c t hc]
  iintro ⟨#HR, #HL, ⟨Hc, Ha⟩, HO⟩ Hk
  iapply (waitStep V K c (.kv t) hsm 0 (by rw [nr_kv c t hc]; exact Nat.one_pos) (by simp) _ hl hN) $$ [Hc HO Ha]
  · isplitr; · iexact HR
    isplitr; · iexact HL
    isplitl [Hc]; · iexact Hc
    isplitl [HO]; · iexact HO
    iexact Ha
  iintro ⟨HO, Ha, -, Hp⟩
  iapply Hk
  isplitr [HO]
  · isplitl [Hp]; · iapply (Entails.of_eq (show pay V c (.kv t) 0 = holds c (kvV t) (V.KV c t) from rfl)); iexact Hp
    iexact Ha
  iexact HO

end Cert.Proof.Attn

end
-- ==== Proof.Feeding.lean ====
/-
  The staging section on device 0: fourteen transfers of keys and values, then its own keys and values.
-/
module

public import proofs.«01_k».proof.Proof.Loads

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

theorem upd_eq {α : Type} {f g : Fin 4 → α} (h0 : f 0 = g 0) (h1 : f 1 = g 1) (h2 : f 2 = g 2) (h3 : f 3 = g 3) : f = g := by
  funext i
  fin_cases i <;> assumption

theorem feedWait (A : Arrs F) (b : Fin 4) (r : ℕ) (hr : r < nr 0 (.sc b)) (st st' : Fin 4 → SSt) (hst' : Function.update st b (.free (r + 1)) = st')
    (hst : st b = .busy r) (l : List Item) (hl : l <:+ feed)
    {sm : DmaSem sig} (hs : SemLoc.dma (sem4 cc0_scratch15 b) = .dma sm)
    {sp sp' : Space} {s s' : Shape} {e e' : EltTy} {srcw : Memref sig .tc sp' s' e'} {dstw : Memref sig .tc sp s e}
    {hsrc : srcw.view.WordExact} {hdst : dstw.view.WordExact} (hN : dstw.view.dmaCredit = NSlot)
    {α : Type} {Q : α → sProp 𝕄} {k : PUnit → Prog (TpuEff nD τ sig (Elt F) Λ₀ .tc) α} :
    iprop(records V K ∗ levAts L lv ∗ feedP A l st)
      ⊢ iprop((feedP A l st' -∗ WP 0 (k ⟨⟩) Q)
          -∗ WP 0 (.op (.waitDma2 sm srcw dstw hsrc hdst) k) Q) := by
  subst hst'
  unfold feedP
  iintro ⟨#HR, #HL, HA, Hst, Hs, Hits, HO⟩ Hk
  iapply (slotWait V K b r hr st hst (l.map Item.x ++ xch 0) (feed_levels l hl) hs hN) $$ [Hs HO]
  · isplitr; · iexact HR
    isplitr; · iexact HL
    isplitl [Hs]; · iexact Hs
    iexact HO
  iintro ⟨Hs, HO⟩
  iapply Hk
  isplitl [HA]; · iexact HA
  isplitl [Hst]; · iexact Hst
  isplitl [Hs]; · iexact Hs
  isplitl [Hits]; · iexact Hits
  iexact HO

theorem wp_done {α : Type} (c : D) (a : α) (Q : α → sProp 𝕄) : Q a ⊢ WP c (.ret a) Q := fupd_intro

/-! ## The projection -/

/-- The three windows: the input, the query weights and the output weights. -/
def winP (c : D) (X : S1x1024x1024.Idx → Elt F .f32) (W O : S1024x1024.Idx → Elt F .f32) : sProp 𝕄 :=
  iprop(holds c (Memref.whole cc0_stg0_0) X ∗ holds c (Memref.whole cc0_stg1_0) W ∗ holds c (Memref.whole cc0_stg2_0) O)
abbrev xM : Memref sig .tc .vmem S1x1024x1024 .f32 := Memref.whole cc0_stg0_0
abbrev wM : Memref sig .tc .vmem S1024x1024 .f32 := Memref.whole cc0_stg1_0
abbrev oM : Memref sig .tc .vmem S1024x1024 .f32 := Memref.whole cc0_stg2_0
abbrev qM : Memref sig .tc .vmem S1024x1024 .bf16 := Memref.whole cc0_scratch6

theorem projStep (c : D) (X : S1x1024x1024.Idx → Elt F .f32) (W O : S1024x1024.Idx → Elt F .f32)
    (z0 : ∀ a, (![0, 0, 0] : Fin 3 → Nat) a + S1x1024x1024.size a ≤ S1x1024x1024.size a)
    (z1 z2' z3' z4 : ∀ a, (![0, 0] : Fin 2 → Nat) a + S1024x1024.size a ≤ S1024x1024.size a)
    {l0 l1 l2 l3 m1 m2}
    {α : Type} {Q : α → sProp 𝕄} {k : (S1024x1024.Idx → Elt F .f32) → Prog (TpuEff nD τ sig (Elt F) Λ₀ .tc) α} :
    iprop(winP c X W O ∗ anyAt c qM)
      ⊢ iprop(((winP c X W O ∗ holds c qM (k0_pay45 X W)) -∗ WP c (k O) Q)
          -∗ WP c (.op (.load xM (Rect.unit (s := S1x1024x1024) ![0, 0, 0] S1x1024x1024.size z0).toLoadRect l0) fun v =>
              .op (.load wM (Rect.unit (s := S1024x1024) ![0, 0] S1024x1024.size z1).toLoadRect l1) fun w =>
              .op (.load qM (Rect.unit (s := S1024x1024) ![0, 0] S1024x1024.size z2').toLoadRect l2) fun _ =>
              .op (.store qM (Rect.unit (s := S1024x1024) ![0, 0] S1024x1024.size z3') (k0_pay45 v w) Finset.univ m1 m2) fun _ =>
              .op (.load oM (Rect.unit (s := S1024x1024) ![0, 0] S1024x1024.size z4).toLoadRect l3) k) Q) := by
  unfold winP
  iintro ⟨⟨HX, HW, HO⟩, Hq⟩ Hk
  iapply (loadStep c xM _ X) $$ HX; iintro HX
  rw [pick_zero _ z3]
  iapply (loadStep c wM _ W) $$ HW; iintro HW
  rw [pick_zero _ z2]
  ihave Hq := (anyAt_holds c qM) $$ Hq
  icases Hq with ⟨%q, Hq⟩
  iapply (loadStep c qM _ q) $$ Hq; iintro Hq
  iapply (storeStep c qM _ q) $$ Hq; iintro Hq
  rw [put_zero _ z2]
  iapply (loadStep c oM _ O) $$ HO; iintro HO
  rw [pick_zero _ z2]
  iapply Hk
  isplitr [Hq]
  · isplitl [HX]; · iexact HX
    isplitl [HW]; · iexact HW
    iexact HO
  iexact Hq

/-! ## Device 0 -/

def wd (c : D) : BitVec 32 := BitVec.ofNat 32 c.val
/-- What the section leaves for the rest. -/
abbrev r48 (c : D) (O : S1024x1024.Idx → Elt F .f32) : Σ' (v46 : FVec F S1024x1024 .bf16) (c4_i32_29 : BitVec 32) (v59 : BitVec 32), BitVec 1 :=
  ⟨k0_pay46 O, 4#32, Scalar.divsi (wd c) 4#32, Scalar.cmpi .sgt (wd c) 0#32⟩

set_option maxHeartbeats 8000000 in
set_option maxRecDepth 65536 in
theorem part48_zero (A : Arrs F) (hKV : ∀ t d, V.KV d t = kvOf (A t) d) (X : S1x1024x1024.Idx → Elt F .f32) (W O : S1024x1024.Idx → Elt F .f32) (v28 : BitVec 1) (Kt) :
    iprop(records V K ∗ levAts L lv ∗ (feedP A feed ![.free 0, .free 0, .free 0, .free 0]
        ∗ (anyAt 0 (kvV 0) ∗ atOf (0, .kv 0) 0) ∗ (anyAt 0 (kvV 1) ∗ atOf (0, .kv 1) 0)) ∗ winP 0 X W O ∗ anyAt 0 qM)
      ⊢ iprop((((feedP A [] ![.busy 3, .busy 3, .busy 2, .busy 2] ∗ kvG V 0 0 ∗ kvG V 0 1) ∗ winP 0 X W O ∗ holds 0 qM (k0_pay45 X W)) -∗ Kt (r48 0 O))
          -∗ WP 0 (k0_part48 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 (0 : D) (wd 0) v28) Kt) := by
  rw [k0_part48_eq_skeleton]
  unfold k0_part48_skel
  have h9 : k0_cond9 0 = 1#1 := by decide
  have h10 : ¬ k0_cond10 0 = 1#1 := by decide
  have h11 : ¬ k0_cond11 0 = 1#1 := by decide
  have h12 : ¬ k0_cond12 0 = 1#1 := by decide
  have h13 : ¬ (Scalar.cmpi .ne (Scalar.extui (Scalar.cmpi .ne (wd 0) 0#32) : BitVec 32) 0#32 = 1#1) := by decide
  simp (config := { zeta := false }) only [dif_pos h9, dif_neg h10, dif_neg h11, dif_neg h12]
  simp only [dif_neg h13, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, Prog.lift, Prog.bind_op, Prog.bind_ret, Prog.pure_eq_ret]
  iintro ⟨#HR, #HL, ⟨HF, ⟨Hk0, Ha0⟩, ⟨Hk1, Ha1⟩⟩, Hw, Hq⟩ Hk
  iapply (feedStep V K A hKV ⟨(1, .rl 0), 0, 2, 0, 0⟩ (feed.drop 1) (List.drop_suffix 0 feed) ![.free 0, .free 0, .free 0, .free 0] ![.busy 0, .free 0, .free 0, .free 0] (upd_eq rfl rfl rfl rfl) rfl (by decide) (by decide) (by decide) 0 rfl
    _ _ _ (arrM 0) rfl 16 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedStep V K A hKV ⟨(3, .rl 0), 0, 7, 1, 0⟩ (feed.drop 2) (List.drop_suffix 1 feed) ![.busy 0, .free 0, .free 0, .free 0] ![.busy 0, .busy 0, .free 0, .free 0] (upd_eq rfl rfl rfl rfl) rfl (by decide) (by decide) (by decide) 1 rfl
    _ _ _ (arrM 0) rfl 56 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedStep V K A hKV ⟨(4, .rl 0), 1, 5, 2, 0⟩ (feed.drop 3) (List.drop_suffix 2 feed) ![.busy 0, .busy 0, .free 0, .free 0] ![.busy 0, .busy 0, .busy 0, .free 0] (upd_eq rfl rfl rfl rfl) rfl (by decide) (by decide) (by decide) 2 rfl
    _ _ _ (arrM 1) rfl 40 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedStep V K A hKV ⟨(1, .rl 1), 1, 2, 3, 0⟩ (feed.drop 4) (List.drop_suffix 3 feed) ![.busy 0, .busy 0, .busy 0, .free 0] ![.busy 0, .busy 0, .busy 0, .busy 0] (upd_eq rfl rfl rfl rfl) rfl (by decide) (by decide) (by decide) 3 rfl
    _ _ _ (arrM 1) rfl 16 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 0 0 (by decide) ![.busy 0, .busy 0, .busy 0, .busy 0] ![.free 1, .busy 0, .busy 0, .busy 0] (upd_eq rfl rfl rfl rfl) rfl (feed.drop 4) (List.drop_suffix 4 feed) rfl (dstw := sbV 0) rfl) $$ [HF]
  · isplitr; · iexact HR
    isplitr; · iexact HL
    iexact HF
  iintro HF
  iapply (feedStep V K A hKV ⟨(3, .rl 1), 1, 7, 0, 1⟩ (feed.drop 5) (List.drop_suffix 4 feed) ![.free 1, .busy 0, .busy 0, .busy 0] ![.busy 1, .busy 0, .busy 0, .busy 0] (upd_eq rfl rfl rfl rfl) rfl (by decide) (by decide) (by decide) 0 rfl
    _ _ _ (arrM 1) rfl 56 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 1 0 (by decide) ![.busy 1, .busy 0, .busy 0, .busy 0] ![.busy 1, .free 1, .busy 0, .busy 0] (upd_eq rfl rfl rfl rfl) rfl (feed.drop 5) (List.drop_suffix 5 feed) rfl (dstw := sbV 1) rfl) $$ [HF]
  · isplitr; · iexact HR
    isplitr; · iexact HL
    iexact HF
  iintro HF
  iapply (feedStep V K A hKV ⟨(4, .rl 1), 1, 6, 1, 1⟩ (feed.drop 6) (List.drop_suffix 5 feed) ![.busy 1, .free 1, .busy 0, .busy 0] ![.busy 1, .busy 1, .busy 0, .busy 0] (upd_eq rfl rfl rfl rfl) rfl (by decide) (by decide) (by decide) 1 rfl
    _ _ _ (arrM 1) rfl 48 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 2 0 (by decide) ![.busy 1, .busy 1, .busy 0, .busy 0] ![.busy 1, .busy 1, .free 1, .busy 0] (upd_eq rfl rfl rfl rfl) rfl (feed.drop 6) (List.drop_suffix 6 feed) rfl (dstw := sbV 2) rfl) $$ [HF]
  · isplitr; · iexact HR
    isplitr; · iexact HL
    iexact HF
  iintro HF
  iapply (feedStep V K A hKV ⟨(1, .rl 2), 0, 5, 2, 1⟩ (feed.drop 7) (List.drop_suffix 6 feed) ![.busy 1, .busy 1, .free 1, .busy 0] ![.busy 1, .busy 1, .busy 1, .busy 0] (upd_eq rfl rfl rfl rfl) rfl (by decide) (by decide) (by decide) 2 rfl
    _ _ _ (arrM 0) rfl 40 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 3 0 (by decide) ![.busy 1, .busy 1, .busy 1, .busy 0] ![.busy 1, .busy 1, .busy 1, .free 1] (upd_eq rfl rfl rfl rfl) rfl (feed.drop 7) (List.drop_suffix 7 feed) rfl (dstw := sbV 3) rfl) $$ [HF]
  · isplitr; · iexact HR
    isplitr; · iexact HL
    iexact HF
  iintro HF
  iapply (feedStep V K A hKV ⟨(3, .rl 2), 0, 6, 3, 1⟩ (feed.drop 8) (List.drop_suffix 7 feed) ![.busy 1, .busy 1, .busy 1, .free 1] ![.busy 1, .busy 1, .busy 1, .busy 1] (upd_eq rfl rfl rfl rfl) rfl (by decide) (by decide) (by decide) 3 rfl
    _ _ _ (arrM 0) rfl 48 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 0 1 (by decide) ![.busy 1, .busy 1, .busy 1, .busy 1] ![.free 2, .busy 1, .busy 1, .busy 1] (upd_eq rfl rfl rfl rfl) rfl (feed.drop 8) (List.drop_suffix 8 feed) rfl (dstw := sbV 0) rfl) $$ [HF]
  · isplitr; · iexact HR
    isplitr; · iexact HL
    iexact HF
  iintro HF
  iapply (feedStep V K A hKV ⟨(4, .kv 0), 0, 4, 0, 2⟩ (feed.drop 9) (List.drop_suffix 8 feed) ![.free 2, .busy 1, .busy 1, .busy 1] ![.busy 2, .busy 1, .busy 1, .busy 1] (upd_eq rfl rfl rfl rfl) rfl (by decide) (by decide) (by decide) 0 rfl
    _ _ _ (arrM 0) rfl 32 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 1 1 (by decide) ![.busy 2, .busy 1, .busy 1, .busy 1] ![.busy 2, .free 2, .busy 1, .busy 1] (upd_eq rfl rfl rfl rfl) rfl (feed.drop 9) (List.drop_suffix 9 feed) rfl (dstw := sbV 1) rfl) $$ [HF]
  · isplitr; · iexact HR
    isplitr; · iexact HL
    iexact HF
  iintro HF
  iapply (feedStep V K A hKV ⟨(1, .kv 0), 0, 1, 1, 2⟩ (feed.drop 10) (List.drop_suffix 9 feed) ![.busy 2, .free 2, .busy 1, .busy 1] ![.busy 2, .busy 2, .busy 1, .busy 1] (upd_eq rfl rfl rfl rfl) rfl (by decide) (by decide) (by decide) 1 rfl
    _ _ _ (arrM 0) rfl 8 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 2 1 (by decide) ![.busy 2, .busy 2, .busy 1, .busy 1] ![.busy 2, .busy 2, .free 2, .busy 1] (upd_eq rfl rfl rfl rfl) rfl (feed.drop 10) (List.drop_suffix 10 feed) rfl (dstw := sbV 2) rfl) $$ [HF]
  · isplitr; · iexact HR
    isplitr; · iexact HL
    iexact HF
  iintro HF
  iapply (feedStep V K A hKV ⟨(3, .kv 0), 0, 3, 2, 2⟩ (feed.drop 11) (List.drop_suffix 10 feed) ![.busy 2, .busy 2, .free 2, .busy 1] ![.busy 2, .busy 2, .busy 2, .busy 1] (upd_eq rfl rfl rfl rfl) rfl (by decide) (by decide) (by decide) 2 rfl
    _ _ _ (arrM 0) rfl 24 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 3 1 (by decide) ![.busy 2, .busy 2, .busy 2, .busy 1] ![.busy 2, .busy 2, .busy 2, .free 2] (upd_eq rfl rfl rfl rfl) rfl (feed.drop 11) (List.drop_suffix 11 feed) rfl (dstw := sbV 3) rfl) $$ [HF]
  · isplitr; · iexact HR
    isplitr; · iexact HL
    iexact HF
  iintro HF
  iapply (feedStep V K A hKV ⟨(4, .kv 1), 1, 4, 3, 2⟩ (feed.drop 12) (List.drop_suffix 11 feed) ![.busy 2, .busy 2, .busy 2, .free 2] ![.busy 2, .busy 2, .busy 2, .busy 2] (upd_eq rfl rfl rfl rfl) rfl (by decide) (by decide) (by decide) 3 rfl
    _ _ _ (arrM 1) rfl 32 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 0 2 (by decide) ![.busy 2, .busy 2, .busy 2, .busy 2] ![.free 3, .busy 2, .busy 2, .busy 2] (upd_eq rfl rfl rfl rfl) rfl (feed.drop 12) (List.drop_suffix 12 feed) rfl (dstw := sbV 0) rfl) $$ [HF]
  · isplitr; · iexact HR
    isplitr; · iexact HL
    iexact HF
  iintro HF
  iapply (feedStep V K A hKV ⟨(1, .kv 1), 1, 1, 0, 3⟩ (feed.drop 13) (List.drop_suffix 12 feed) ![.free 3, .busy 2, .busy 2, .busy 2] ![.busy 3, .busy 2, .busy 2, .busy 2] (upd_eq rfl rfl rfl rfl) rfl (by decide) (by decide) (by decide) 0 rfl
    _ _ _ (arrM 1) rfl 8 rfl _ _ _ _ _ _ rfl rfl stPay stPay (fun _ => rfl) (fun _ => rfl) rfl rfl rfl rfl rfl rfl rfl) $$ [HF]
  · isplitr; · iexact HR
    isplitr; · iexact HL
    iexact HF
  iintro HF
  iapply (feedWait V K A 1 2 (by decide) ![.busy 3, .busy 2, .busy 2, .busy 2] ![.busy 3, .free 3, .busy 2, .busy 2] (upd_eq rfl rfl rfl rfl) rfl (feed.drop 13) (List.drop_suffix 13 feed) rfl (dstw := sbV 1) rfl) $$ [HF]
  · isplitr; · iexact HR
    isplitr; · iexact HL
    iexact HF
  iintro HF
  iapply (feedStep V K A hKV ⟨(3, .kv 1), 1, 3, 1, 3⟩ (feed.drop 14) (List.drop_suffix 13 feed) ![.busy 3, .free 3, .busy 2, .busy 2] ![.busy 3, .busy 3, .busy 2, .busy 2] (upd_eq rfl rfl rfl rfl) rfl (by decide) (by decide) (by decide) 1 rfl
    _ _ _ (arrM 1) rfl 24 rfl _ _ _ _ _ _ rfl rfl stPay stPay (fun _ => rfl) (fun _ => rfl) rfl rfl rfl rfl rfl rfl rfl) $$ [HF]
  · isplitr; · iexact HR
    isplitr; · iexact HL
    iexact HF
  iintro HF

  unfold feedP
  icases HF with ⟨HA, Hst, Hs, Hits, HO⟩
  ihave HA := (arrs_at 0 A 0) $$ HA
  icases HA with ⟨HA, HAk⟩
  iapply (stageStep 0 (n := 2) kvM 0 _ _ _ (arrM 0) (A 0) 0 0 rfl _ _ _ _ _ _ rfl rfl stPay stPay (fun _ => rfl) (fun _ => rfl) _
    (feed_levels (feed.drop 14) (List.drop_suffix 14 feed))) $$ [HA Hst Hk0 HO]
  · isplitr; · iexact HL
    isplitl [HA]; · iexact HA
    isplitl [Hst]; · iexact Hst
    isplitl [Hk0]; · iexact Hk0
    iexact HO
  iintro ⟨HA, Hst, Hk0, HO⟩
  ihave HA := HAk $$ HA
  ihave HA := (arrs_at 0 A 1) $$ HA
  icases HA with ⟨HA, HAk⟩
  iapply (stageStep 0 (n := 2) kvM 1 _ _ _ (arrM 1) (A 1) 0 0 rfl _ _ _ _ _ _ rfl rfl stPay stPay (fun _ => rfl) (fun _ => rfl) _
    (feed_levels (feed.drop 14) (List.drop_suffix 14 feed))) $$ [HA Hst Hk1 HO]
  · isplitr; · iexact HL
    isplitl [HA]; · iexact HA
    isplitl [Hst]; · iexact Hst
    isplitl [Hk1]; · iexact Hk1
    iexact HO
  iintro ⟨HA, Hst, Hk1, HO⟩
  ihave HA := HAk $$ HA
  iapply (projStep 0 X W O) $$ [Hw Hq]
  · isplitl [Hw]; · iexact Hw
    iexact Hq
  iintro ⟨Hw, Hq⟩
  iapply (wp_done (F := F))
  iapply Hk
  isplitr [Hw Hq]
  · isplitr [Hk0 Ha0 Hk1 Ha1]
    · isplitl [HA]; · iexact HA
      isplitl [Hst]; · iexact Hst
      isplitl [Hs]; · iexact Hs
      isplitl [Hits]; · iexact Hits
      iexact HO
    unfold kvG
    rw [hKV 0 0, hKV 1 0]
    isplitl [Hk0 Ha0]
    · isplitl [Hk0]; · iexact Hk0
      iexact Ha0
    · isplitl [Hk1]; · iexact Hk1
      iexact Ha1
  isplitl [Hw]; · iexact Hw
  iexact Hq

end Cert.Proof.Attn

end
-- ==== Proof.Rows.lean ====
/-
  The row blocks of the exchanges: where each starts, which lie in which, and how the gathered blocks fill the result.
  The accumulator and the gathered rows, held on those blocks.
-/
module

public import proofs.«01_k».proof.Proof.Loads

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-! ## The row blocks of the exchanges -/

abbrev r17 (c : D) : Rect S1024x1024 := Rect.unit (s := S1024x1024) (k0_off17 c) S512x1024.size (k0_off17_inb c)
abbrev r18 (c : D) : Rect S1024x1024 := Rect.unit (s := S1024x1024) (k0_off18 c) S256x1024.size (k0_off18_inb c)
abbrev r19 (c : D) : Rect S1024x1024 := Rect.unit (s := S1024x1024) (k0_off19 c) S256x1024.size (k0_off19_inb c)
abbrev r20 (c : D) : Rect S1024x1024 := Rect.unit (s := S1024x1024) (k0_off20 c) S128x1024.size (k0_off20_inb c)
abbrev r21 (c : D) : Rect S1024x1024 := Rect.unit (s := S1024x1024) (k0_off21 c) S128x1024.size (k0_off21_inb c)

/-- A block of whole rows is the rows of its range. -/
theorem mem_rows (off : Fin 2 → ℕ) (n : ℕ) (h1 : off 1 = 0) (hb : ∀ a, off a + (![n, 1024] : Fin 2 → ℕ) a ≤ S1024x1024.size a) (i : S1024x1024.Idx) :
    i ∈ (Rect.unit (s := S1024x1024) off ![n, 1024] hb).set ↔ off 0 ≤ (i 0).val ∧ (i 0).val < off 0 + n := by
  rw [Rect.mem_set_unit]
  constructor
  · intro h; exact h 0
  · intro h a
    match a with
    | 0 => exact h
    | 1 =>
      have : (i 1).val < 1024 := (i 1).isLt
      rw [h1]
      exact ⟨Nat.zero_le _, by show (i 1).val < 0 + 1024; omega⟩

/-- The first row of device `c`'s block of each size. -/
def lo512 (c : D) : ℕ := 512 * (c.val / 4)
def lo256 (c : D) : ℕ := lo512 c + 256 * (c.val % 4 / 2)
def lo128 (c : D) : ℕ := lo256 c + 128 * ((c.val % 2 + c.val % 4 / 2) % 2)

theorem off17_eq : ∀ c : D, k0_off17 c 0 = lo512 c ∧ k0_off17 c 1 = 0 := by decide +kernel
theorem off18_eq : ∀ c : D, k0_off18 c 0 = lo256 (rsp 1 c) ∧ k0_off18 c 1 = 0 := by decide +kernel
theorem off19_eq : ∀ c : D, k0_off19 c 0 = lo256 c ∧ k0_off19 c 1 = 0 := by decide +kernel
theorem off20_eq : ∀ c : D, k0_off20 c 0 = lo128 (rsp 2 c) ∧ k0_off20 c 1 = 0 := by decide +kernel
theorem off21_eq : ∀ c : D, k0_off21 c 0 = lo128 c ∧ k0_off21 c 1 = 0 := by decide +kernel
theorem off22_eq : ∀ c : D, k0_off22 c 0 = lo128 c ∧ k0_off22 c 1 = 0 := by decide +kernel
theorem off23_eq : ∀ c : D, k0_off23 c 0 = lo256 c ∧ k0_off23 c 1 = 0 := by decide +kernel
theorem off24_eq : ∀ c : D, k0_off24 c 0 = lo512 c ∧ k0_off24 c 1 = 0 := by decide +kernel

theorem mem17 (c : D) (i : S1024x1024.Idx) : i ∈ (r17 c).set ↔ lo512 c ≤ (i 0).val ∧ (i 0).val < lo512 c + 512 := by
  rw [← (off17_eq c).1]; exact mem_rows (k0_off17 c) 512 (off17_eq c).2 (k0_off17_inb c) i
theorem mem18 (c : D) (i : S1024x1024.Idx) : i ∈ (r18 c).set ↔ lo256 (rsp 1 c) ≤ (i 0).val ∧ (i 0).val < lo256 (rsp 1 c) + 256 := by
  rw [← (off18_eq c).1]; exact mem_rows (k0_off18 c) 256 (off18_eq c).2 (k0_off18_inb c) i
theorem mem19 (c : D) (i : S1024x1024.Idx) : i ∈ (r19 c).set ↔ lo256 c ≤ (i 0).val ∧ (i 0).val < lo256 c + 256 := by
  rw [← (off19_eq c).1]; exact mem_rows (k0_off19 c) 256 (off19_eq c).2 (k0_off19_inb c) i
theorem mem20 (c : D) (i : S1024x1024.Idx) : i ∈ (r20 c).set ↔ lo128 (rsp 2 c) ≤ (i 0).val ∧ (i 0).val < lo128 (rsp 2 c) + 128 := by
  rw [← (off20_eq c).1]; exact mem_rows (k0_off20 c) 128 (off20_eq c).2 (k0_off20_inb c) i
theorem mem21 (c : D) (i : S1024x1024.Idx) : i ∈ (r21 c).set ↔ lo128 c ≤ (i 0).val ∧ (i 0).val < lo128 c + 128 := by
  rw [← (off21_eq c).1]; exact mem_rows (k0_off21 c) 128 (off21_eq c).2 (k0_off21_inb c) i
theorem mem22 (c : D) (i : S1024x1024.Idx) : i ∈ agSet 0 c ↔ lo128 c ≤ (i 0).val ∧ (i 0).val < lo128 c + 128 := by
  rw [← (off22_eq c).1]; exact mem_rows (k0_off22 c) 128 (off22_eq c).2 (k0_off22_inb c) i
theorem mem23 (c : D) (i : S1024x1024.Idx) : i ∈ agSet 1 c ↔ lo256 c ≤ (i 0).val ∧ (i 0).val < lo256 c + 256 := by
  rw [← (off23_eq c).1]; exact mem_rows (k0_off23 c) 256 (off23_eq c).2 (k0_off23_inb c) i
theorem mem24 (c : D) (i : S1024x1024.Idx) : i ∈ agSet 2 c ↔ lo512 c ≤ (i 0).val ∧ (i 0).val < lo512 c + 512 := by
  rw [← (off24_eq c).1]; exact mem_rows (k0_off24 c) 512 (off24_eq c).2 (k0_off24_inb c) i

theorem lo_sub : ∀ c : D, lo512 c ≤ lo256 c ∧ lo256 c ≤ lo512 c + 256 ∧ lo512 c ≤ lo256 (rsp 1 c) ∧ lo256 (rsp 1 c) ≤ lo512 c + 256
    ∧ lo256 c ≤ lo128 c ∧ lo128 c ≤ lo256 c + 128 ∧ lo256 c ≤ lo128 (rsp 2 c) ∧ lo128 (rsp 2 c) ≤ lo256 c + 128 := by decide +kernel
theorem sub18 (c : D) : (r18 c).set ⊆ (r17 c).set := fun i h => by
  rw [mem18] at h; rw [mem17]; have := lo_sub c; omega
theorem sub19 (c : D) : (r19 c).set ⊆ (r17 c).set := fun i h => by
  rw [mem19] at h; rw [mem17]; have := lo_sub c; omega
theorem sub20 (c : D) : (r20 c).set ⊆ (r17 c).set := fun i h => by
  rw [mem20] at h; rw [mem17]; have := lo_sub c; omega
theorem sub21 (c : D) : (r21 c).set ⊆ (r17 c).set := fun i h => by
  rw [mem21] at h; rw [mem17]; have := lo_sub c; omega
theorem set21 (c : D) : (r21 c).set = agSet 0 c := by ext i; rw [mem21, mem22]

theorem lo_parts : ∀ c : D,
    (lo128 c = lo256 c ∧ lo128 (agp 0 c) = lo256 c + 128 ∨ lo128 (agp 0 c) = lo256 c ∧ lo128 c = lo256 c + 128)
    ∧ (lo256 c = lo512 c ∧ lo256 (agp 1 c) = lo512 c + 256 ∨ lo256 (agp 1 c) = lo512 c ∧ lo256 c = lo512 c + 256)
    ∧ (lo512 c = 0 ∧ lo512 (agp 2 c) = 512 ∨ lo512 (agp 2 c) = 0 ∧ lo512 c = 512) := by decide +kernel
theorem ag0_disj (c : D) : Disjoint (agSet 0 c) (agSet 0 (agp 0 c)) :=
  Finset.disjoint_left.mpr fun i h h' => by rw [mem22] at h h'; have := (lo_parts c).1; omega
theorem ag0_union (c : D) : agSet 0 c ∪ agSet 0 (agp 0 c) = agSet 1 c := by
  ext i; rw [Finset.mem_union, mem22, mem22, mem23]; have := (lo_parts c).1; omega
theorem ag1_disj (c : D) : Disjoint (agSet 1 c) (agSet 1 (agp 1 c)) :=
  Finset.disjoint_left.mpr fun i h h' => by rw [mem23] at h h'; have := (lo_parts c).2.1; omega
theorem ag1_union (c : D) : agSet 1 c ∪ agSet 1 (agp 1 c) = agSet 2 c := by
  ext i; rw [Finset.mem_union, mem23, mem23, mem24]; have := (lo_parts c).2.1; omega
theorem ag2_disj (c : D) : Disjoint (agSet 2 c) (agSet 2 (agp 2 c)) :=
  Finset.disjoint_left.mpr fun i h h' => by rw [mem24] at h h'; have := (lo_parts c).2.2; omega
theorem ag2_union (c : D) : agSet 2 c ∪ agSet 2 (agp 2 c) = Finset.univ := by
  ext i; rw [Finset.mem_union, mem24, mem24]
  have := (lo_parts c).2.2
  have : (i 0).val < 1024 := (i 0).isLt
  simp only [Finset.mem_univ, iff_true]; omega

/-! ## The accumulator: contents known on the block the device keeps -/

abbrev accM : Memref sig .tc .vmem S1024x1024 .f32 := Memref.whole cc0_scratch4

def accAt (c : D) (A : S1024x1024.Idx → Elt F .f32) : sProp 𝕄 :=
  iprop(∃ X : S1024x1024.Idx → Elt F .f32, ⌜∀ i ∈ (r17 c).set, X i = A i⌝ ∗ holds c accM X)

theorem emb_mem {s : Shape} (r : Rect s) (j : r.shape.Idx) : r.emb j ∈ r.set := by
  rw [← Rect.map_emb_univ]; exact Finset.mem_map_of_mem r.emb (Finset.mem_univ j)

theorem put_agree {s : Shape} {α : Type} (r : Rect s) (w : r.shape.Idx → α) (X A : s.Idx → α) (S : Finset s.Idx)
    (h : ∀ i ∈ S, i ∉ r.set → X i = A i) : ∀ i ∈ S, put r w X i = put r w A i := by
  intro i hi
  by_cases hr : i ∈ r.set
  · rw [← Rect.map_emb_univ] at hr
    obtain ⟨j, -, rfl⟩ := Finset.mem_map.mp hr
    rw [put_emb, put_emb]
  · rw [put_of_not_mem r w X i hr, put_of_not_mem r w A i hr, h i hi hr]

theorem accLoad (c : D) (r : Rect S1024x1024) (hr : r.set ⊆ (r17 c).set) (A : S1024x1024.Idx → Elt F .f32)
    {hl : accM.view.LoadsAt r.toLoadRect} {α : Type} {Q : α → sProp 𝕄} {k : (r.toLoadRect.shape.Idx → Elt F .f32) → Prog (TpuEff nD τ sig (Elt F) Λ₀ .tc) α} :
    accAt c A ⊢ iprop((accAt c A -∗ WP c (k (pick r A)) Q) -∗ WP c (.op (.load accM r.toLoadRect hl) k) Q) := by
  unfold accAt
  iintro ⟨%X, %hX, H⟩ Hk
  iapply (loadStep c accM r X) $$ H; iintro H
  rw [show pick r X = pick r A from funext fun j => hX _ (hr (emb_mem r j))]
  iapply Hk
  iexists X
  isplitr; · ipureintro; exact hX
  iexact H

theorem accStore (c : D) (r : Rect S1024x1024) (A : S1024x1024.Idx → Elt F .f32) (w : r.shape.Idx → Elt F .f32)
    {hx : (accM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    accAt c A ⊢ iprop((accAt c (put r w A) -∗ WP c (k ⟨⟩) Q) -∗ WP c (.op (.store accM r w Finset.univ hx hm) k) Q) := by
  unfold accAt
  iintro ⟨%X, %hX, H⟩ Hk
  iapply (storeStep c accM r X w) $$ H; iintro H
  iapply Hk
  iexists (put r w X)
  isplitr; · ipureintro; exact put_agree r w X A _ fun i hi _ => hX i hi
  iexact H

/-- The first store fills the kept block, whatever was there. -/
theorem accFirst (c : D) (A : S1024x1024.Idx → Elt F .f32) (w : (r17 c).shape.Idx → Elt F .f32)
    {hx : (accM.access (r17 c)).Stores Finset.univ} {hm : (Finset.univ : Finset (r17 c).shape.Idx) = Finset.univ ∨ ∀ a, (r17 c).stride a = 1}
    {α : Type} {Q : α → sProp 𝕄} {k : PUnit → Prog (TpuEff nD τ sig (Elt F) Λ₀ .tc) α} :
    anyAt c accM ⊢ iprop((accAt c (put (r17 c) w A) -∗ WP c (k ⟨⟩) Q) -∗ WP c (.op (.store accM (r17 c) w Finset.univ hx hm) k) Q) := by
  unfold accAt
  iintro H Hk
  ihave ⟨%X, H⟩ := (anyAt_holds (F := F) c accM) $$ H
  iapply (storeStep c accM (r17 c) X w) $$ H; iintro H
  iapply Hk
  iexists (put (r17 c) w X)
  isplitr; · ipureintro; exact put_agree (r17 c) w X A _ fun i hi h => absurd hi h
  iexact H

theorem accAt_any (c : D) (A : S1024x1024.Idx → Elt F .f32) : accAt c A ⊢ anyAt (F := F) c accM := by
  unfold accAt
  iintro ⟨%X, -, H⟩
  iapply (holds_any (F := F) c accM X); iexact H

/-! ## The rows of the result -/

theorem access_set (r : Rect S1024x1024) : (accb.access r).set = r.set := by
  ext i
  show i ∈ Finset.univ.map _ ↔ _
  rw [← Rect.map_emb_univ]
  simp only [Finset.mem_map, Finset.mem_univ, true_and]
  rfl

theorem rowsLoad (c : D) (r : Rect S1024x1024) (S : Finset S1024x1024.Idx) (hr : r.set ⊆ S)
    {hl : accb.view.LoadsAt r.toLoadRect} {α : Type} {Q : α → sProp 𝕄} {k : Prog (TpuEff nD τ sig (Elt F) Λ₀ .tc) α} :
    anyRows (F := F) c S ⊢ iprop((anyRows c S -∗ WP c k Q) -∗ WP c (.op (.load accb r.toLoadRect hl) fun _ => k) Q) := by
  unfold anyRows
  iintro ⟨%f, H⟩ Hk
  iapply (wp_load_rect 𝒱₀ (c : Thread nD τ) none Set.univ (m := accb) (r := r) (S := S) (by rw [access_set]; exact hr)) $$ H; iintro H
  iapply Hk
  iexists f; iexact H

theorem rowsStore (c : D) (r : Rect S1024x1024) (w : r.shape.Idx → Elt F .bf16) (hw : ∀ j, V.out (r.emb j) = w j)
    {hx : (accb.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    anyRows (F := F) c r.set ⊢ iprop((outRows V c r.set -∗ WP c (k ⟨⟩) Q) -∗ WP c (.op (.store accb r w Finset.univ hx hm) k) Q) := by
  unfold anyRows outRows
  iintro ⟨%f, H⟩ Hk
  iapply (wp_store 𝒱₀ (c : Thread nD τ) none Set.univ (m := accb) (r := r) (S := r.set) (by rw [← access_set]; exact View.setOn_subset_set _ _)) $$ H; iintro H
  iapply Hk
  iapply (Entails.of_eq (pointsTo_congr ?_)); rotate_left; · iexact H
  intro i hi
  rw [← Rect.map_emb_univ] at hi
  obtain ⟨j, -, rfl⟩ := Finset.mem_map.mp hi
  rw [hw j]
  exact View.read_slice_write_emb (v := accb.view) r f w (Finset.mem_univ j)

theorem outRows_union (c : D) (S T : Finset S1024x1024.Idx) (h : Disjoint S T) : iprop(outRows V c S ∗ outRows V c T) ⊢ outRows V c (S ∪ T) := by
  unfold outRows
  exact (pointsTo_union h).2
theorem outRows_any (c : D) (S : Finset S1024x1024.Idx) : outRows V c S ⊢ anyRows (F := F) c S := by
  unfold outRows anyRows
  iintro H
  iexists _; iexact H

end Cert.Proof.Attn

end
-- ==== Proof.Attend.lean ====
/-
  Attention over the two halves of the rows: what each part loads and leaves. The half that is sent goes to the first
  exchange partner; the half that is kept starts the accumulator.
-/
module

public import proofs.«01_k».proof.Proof.Feeding
public import proofs.«01_k».proof.Proof.Rows

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-! ## The words of the device's place in the mesh -/

/-- Which half of the rows the device keeps. -/
def zw (c : D) : BitVec 32 := BitVec.ofNat 32 (c.val / 4)
theorem part49_z : ∀ c : D,
    Scalar.select (Scalar.andi (Scalar.cmpi .ne (Scalar.subi (Scalar.extui (Scalar.cmpi .sgt (wd c) 0#32) : BitVec 32) (Scalar.extui (Scalar.cmpi .slt (wd c) 0#32) : BitVec 32))
        (Scalar.subi (Scalar.extui (Scalar.cmpi .sgt 4#32 0#32) : BitVec 32) (Scalar.extui (Scalar.cmpi .slt 4#32 0#32) : BitVec 32)))
      (Scalar.cmpi .ne (Scalar.remsi (wd c) 4#32) 0#32)) (Scalar.subi (Scalar.divsi (wd c) 4#32) 1#32) (Scalar.divsi (wd c) 4#32) = zw c := by decide +kernel

theorem part49_run (c : D) (Kt : (Σ' (_ : BitVec 32) (_ : BitVec 32), BitVec 32) → sProp 𝕄) :
    iprop(∀ a : BitVec 32, ∀ b : BitVec 32, Kt ⟨zw c, a, b⟩) ⊢ WP (F := F) c (k0_part49 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 (wd c) 4#32 (Scalar.divsi (wd c) 4#32) (Scalar.cmpi .sgt (wd c) 0#32)) Kt := by
  rw [k0_part49_eq_skeleton]
  unfold k0_part49_skel
  simp only [part49_z c, Prog.pure_eq_ret]
  iintro Hk
  iapply (wp_done (F := F))
  iapply Hk

theorem part50_run (c : D) (a b : BitVec 32)
    (Kt : (Σ' (_ : BitVec 32) (_ : BitVec 32) (_ : BitVec 32) (_ : BitVec 32) (_ : BitVec 32) (_ : BitVec 32) (_ : IVec S512x1024 32) (_ : IVec S512x1024 1), BitVec 32) → sProp 𝕄) :
    iprop(∀ x0 : BitVec 32, ∀ x1 : BitVec 32, ∀ x2 : BitVec 32, ∀ x3 : BitVec 32, ∀ x4 : BitVec 32, Kt ⟨x0, x1, x2, x3, x4, Scalar.muli 512#32 (zw c), k0_pay48 (zw c), k0_pay49 (zw c), 1#32⟩)
      ⊢ WP (F := F) c (k0_part50 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 (wd c) (zw c) a b) Kt := by
  rw [k0_part50_eq_skeleton]
  unfold k0_part50_skel
  simp only [Prog.pure_eq_ret]
  iintro Hk
  iapply (wp_done (F := F))
  iapply Hk

/-! ## Attention over one half of the rows -/

/-- One head's weighted values. -/
abbrev headF (m : FVec F S512x1024 .f32) (q : Vec F S512x128 .bf16) (k v : Vec F S1x1024x1x128 .bf16) : FVec F S512x128 .bf16 := k0_pay54 m q k v
/-- The mask of the half that is sent, and of the half that is kept. -/
def sendM (c : D) : FVec F S512x1024 .f32 := k0_pay50 (k0_pay48 (zw c)) (k0_pay49 (zw c)) 1#32
def keepM (c : D) : FVec F S512x1024 .f32 :=
  k0_pay70 (k0_pay66 (Scalar.muli 512#32 (zw c))) 64#32 (k0_pay67 (Scalar.muli 512#32 (zw c))) (k0_pay68 (Scalar.muli 512#32 (zw c))) (k0_pay69 (Scalar.muli 512#32 (zw c)))
/-- The eight heads through the output matrix. -/
def sendP (wo : FVec F S1024x1024 .bf16) (m : FVec F S512x1024 .f32) (q : Fin 8 → Vec F S512x128 .bf16) (k v : Fin 8 → Vec F S1x1024x1x128 .bf16) : FVec F S512x1024 .bf16 :=
  k0_pay65 wo m (headF m (q 0) (k 0) (v 0)) (headF m (q 1) (k 1) (v 1)) (headF m (q 2) (k 2) (v 2)) (headF m (q 3) (k 3) (v 3))
    (headF m (q 4) (k 4) (v 4)) (headF m (q 5) (k 5) (v 5)) (headF m (q 6) (k 6) (v 6)) (q 7) (k 7) (v 7)
def keepP (wo : FVec F S1024x1024 .bf16) (m : FVec F S512x1024 .f32) (q : Fin 8 → Vec F S512x128 .bf16) (k v : Fin 8 → Vec F S1x1024x1x128 .bf16) : FVec F S512x1024 .f32 :=
  k0_pay79 wo m (headF m (q 0) (k 0) (v 0)) (headF m (q 1) (k 1) (v 1)) (headF m (q 2) (k 2) (v 2)) (headF m (q 3) (k 3) (v 3))
    (headF m (q 4) (k 4) (v 4)) (headF m (q 5) (k 5) (v 5)) (k0_pay78 m (q 6) (k 6)) (v 6) (q 7) (k 7) (v 7)
abbrev rq1 (c : D) : Rect S1024x1024 := Rect.unit (s := S1024x1024) (k0_off1 c) S512x128.size (k0_off1_inb c)
abbrev rq2 (c : D) : Rect S1024x1024 := Rect.unit (s := S1024x1024) (k0_off2 c) S512x128.size (k0_off2_inb c)
abbrev rq3 (c : D) : Rect S1024x1024 := Rect.unit (s := S1024x1024) (k0_off3 c) S512x128.size (k0_off3_inb c)
abbrev rq4 (c : D) : Rect S1024x1024 := Rect.unit (s := S1024x1024) (k0_off4 c) S512x128.size (k0_off4_inb c)
abbrev rq5 (c : D) : Rect S1024x1024 := Rect.unit (s := S1024x1024) (k0_off5 c) S512x128.size (k0_off5_inb c)
abbrev rq6 (c : D) : Rect S1024x1024 := Rect.unit (s := S1024x1024) (k0_off6 c) S512x128.size (k0_off6_inb c)
abbrev rq7 (c : D) : Rect S1024x1024 := Rect.unit (s := S1024x1024) (k0_off7 c) S512x128.size (k0_off7_inb c)
abbrev rq8 (c : D) : Rect S1024x1024 := Rect.unit (s := S1024x1024) (k0_off8 c) S512x128.size (k0_off8_inb c)
abbrev rq9 (c : D) : Rect S1024x1024 := Rect.unit (s := S1024x1024) (k0_off9 c) S512x128.size (k0_off9_inb c)
abbrev rq10 (c : D) : Rect S1024x1024 := Rect.unit (s := S1024x1024) (k0_off10 c) S512x128.size (k0_off10_inb c)
abbrev rq11 (c : D) : Rect S1024x1024 := Rect.unit (s := S1024x1024) (k0_off11 c) S512x128.size (k0_off11_inb c)
abbrev rq12 (c : D) : Rect S1024x1024 := Rect.unit (s := S1024x1024) (k0_off12 c) S512x128.size (k0_off12_inb c)
abbrev rq13 (c : D) : Rect S1024x1024 := Rect.unit (s := S1024x1024) (k0_off13 c) S512x128.size (k0_off13_inb c)
abbrev rq14 (c : D) : Rect S1024x1024 := Rect.unit (s := S1024x1024) (k0_off14 c) S512x128.size (k0_off14_inb c)
abbrev rq15 (c : D) : Rect S1024x1024 := Rect.unit (s := S1024x1024) (k0_off15 c) S512x128.size (k0_off15_inb c)
abbrev rq16 (c : D) : Rect S1024x1024 := Rect.unit (s := S1024x1024) (k0_off16 c) S512x128.size (k0_off16_inb c)

/-- The rows of the projected queries each half reads, by head. -/
def sendQ (c : D) (Q : S1024x1024.Idx → Elt F .bf16) : Fin 8 → Vec F S512x128 .bf16 :=
  ![pick (rq1 c) Q, pick (rq2 c) Q, pick (rq3 c) Q, pick (rq4 c) Q, pick (rq5 c) Q, pick (rq6 c) Q, pick (rq7 c) Q, pick (rq8 c) Q]
def keepQ (c : D) (Q : S1024x1024.Idx → Elt F .bf16) : Fin 8 → Vec F S512x128 .bf16 :=
  ![pick (rq9 c) Q, pick (rq10 c) Q, pick (rq11 c) Q, pick (rq12 c) Q, pick (rq13 c) Q, pick (rq14 c) Q, pick (rq15 c) Q, pick (rq16 c) Q]
def headsOf (X : S1024x8x128.Idx → Elt F .bf16) (h : Fin 8) : Vec F S1x1024x1x128 .bf16 := kvPick h.val h.isLt X

/-- What the attention reads: the projected queries, the keys, the values. -/
def att (c : D) (Q : S1024x1024.Idx → Elt F .bf16) (KK VV : S1024x8x128.Idx → Elt F .bf16) : sProp 𝕄 :=
  iprop(holds c qM Q ∗ holds c (kvV 0) KK ∗ holds c (kvV 1) VV)

theorem attQ (c : D) (Q : S1024x1024.Idx → Elt F .bf16) (KK VV : S1024x8x128.Idx → Elt F .bf16) (r : Rect S1024x1024)
    {hl : qM.view.LoadsAt r.toLoadRect} {α : Type} {R : α → sProp 𝕄} {k : (r.toLoadRect.shape.Idx → Elt F .bf16) → Prog (TpuEff nD τ sig (Elt F) Λ₀ .tc) α} :
    att c Q KK VV ⊢ iprop((att c Q KK VV -∗ WP c (k (pick r Q)) R) -∗ WP c (.op (.load qM r.toLoadRect hl) k) R) := by
  unfold att
  iintro ⟨Hq, Hk, Hv⟩ Hc
  iapply (loadStep c qM r Q) $$ Hq; iintro Hq
  iapply Hc
  isplitl [Hq]; · iexact Hq
  isplitl [Hk]; · iexact Hk
  iexact Hv
theorem attK (c : D) (Q : S1024x1024.Idx → Elt F .bf16) (KK VV : S1024x8x128.Idx → Elt F .bf16) (i : Fin 8) {h : ℕ} (hi : i.val = h)
    (hb : ∀ a, (![0, 0, h, 0] : Fin 4 → Nat) a + S1x1024x1x128.size a ≤ S2x1024x8x128.size a)
    {hl : kvM.view.LoadsAt (kvR 0 h hb).toLoadRect} {α : Type} {R : α → sProp 𝕄} {k : (S1x1024x1x128.Idx → Elt F .bf16) → Prog (TpuEff nD τ sig (Elt F) Λ₀ .tc) α} :
    att c Q KK VV ⊢ iprop((att c Q KK VV -∗ WP c (k (headsOf KK i)) R) -∗ WP c (.op (.load kvM (kvR 0 h hb).toLoadRect hl) k) R) := by
  subst hi
  unfold att
  iintro ⟨Hq, Hk, Hv⟩ Hc
  iapply (kvLoad c 0 0 rfl i.val i.isLt hb KK) $$ Hk; iintro Hk
  iapply Hc
  isplitl [Hq]; · iexact Hq
  isplitl [Hk]; · iexact Hk
  iexact Hv
theorem attV (c : D) (Q : S1024x1024.Idx → Elt F .bf16) (KK VV : S1024x8x128.Idx → Elt F .bf16) (i : Fin 8) {h : ℕ} (hi : i.val = h)
    (hb : ∀ a, (![1, 0, h, 0] : Fin 4 → Nat) a + S1x1024x1x128.size a ≤ S2x1024x8x128.size a)
    {hl : kvM.view.LoadsAt (kvR 1 h hb).toLoadRect} {α : Type} {R : α → sProp 𝕄} {k : (S1x1024x1x128.Idx → Elt F .bf16) → Prog (TpuEff nD τ sig (Elt F) Λ₀ .tc) α} :
    att c Q KK VV ⊢ iprop((att c Q KK VV -∗ WP c (k (headsOf VV i)) R) -∗ WP c (.op (.load kvM (kvR 1 h hb).toLoadRect hl) k) R) := by
  subst hi
  unfold att
  iintro ⟨Hq, Hk, Hv⟩ Hc
  iapply (kvLoad c 1 1 rfl i.val i.isLt hb VV) $$ Hv; iintro Hv
  iapply Hc
  isplitl [Hq]; · iexact Hq
  isplitl [Hk]; · iexact Hk
  iexact Hv

/-! ## The exchange's sends -/

/-- The contents of a whole buffer go to device `n`'s, and the landing cell is paid. -/
theorem xSend (c : D) (s : Fin 3) (l : List (D × CK)) {sh : Shape} {src dst : Memref sig .tc .vmem sh .bf16} (X : sh.Idx → Elt F .bf16)
    (hb : buf (F := F) (rsp s c) (.rsr s) = anyAt (rsp s c) dst)
    (hp1 : anyAt (F := F) c src = pay V c (.rss s) 0) (hp2 : holds (rsp s c) dst X = pay V (rsp s c) (.rsr s) 0)
    {n' : D} (hn : n' = rsp s c) {sS sR : SemLoc sig} (hS : sS = csem (.rss s)) (hR : sR = csem (.rsr s))
    {hsc : (dst : Memref sig (Dev.tc n' : Thread nD τ).2.kind .vmem sh .bf16).view.ref.isScScratch = false}
    {hsrc : src.view.WordExact} {hdst : dst.view.WordExact}
    {hsem : DmaTarget.Typed .vmem sR (.remote (Dev.tc n' : Thread nD τ) dst sS hsc)} (hN : dst.view.amount (csem (.rsr s)) = NX s)
    {α : Type} {Q : α → sProp 𝕄} {k : PUnit → Prog (TpuEff nD τ sig (Elt F) Λ₀ .tc) α} :
    iprop(records V K ∗ holds c src X ∗ hopP (rsp s c, .rsr s) ∗ tokOf (c, .rss s) 0 0 ∗ ow c ((rsp s c, .rsr s) :: l))
      ⊢ iprop(((crOf (c, .rss s) (NX s) ∗ ow c l) -∗ WP c (k ⟨⟩) Q)
          -∗ WP c (.op (.enqueueDma src (.remote (Dev.tc n' : Thread nD τ) dst sS hsc) sR hsrc hdst hsem) k) Q) := by
  unfold hopP
  iintro ⟨#HR, Hs, ⟨Hb, Ht⟩, Hts, HO⟩ Hk
  ihave Hb := (Entails.of_eq hb) $$ Hb
  ihave #Hrf := (records_at V K (c, .rss s)) $$ HR
  icases Hrf with ⟨-, #Hrf⟩
  unfold anyAt holds
  icases Hb with ⟨%fd, Hb⟩
  icases Hs with ⟨%fs, %hfs, Hs⟩
  iapply (sendStep V K c (rsp s c) hn (.rss s) (.rsr s) hS hR 0 Nat.one_pos (by simp) Nat.one_pos (by simp) l
    (src := src) (dst := dst) (fs := fs) (fd := fd) (q := fullShare) hN rfl
    ((anyAt_intro c src fs).trans (Entails.of_eq hp1)) ((holds_of_write (rsp s c) dst X _ hfs fd).trans (Entails.of_eq hp2))) $$ [Hs Hb HO Hts Ht]
  · isplitr; · iexact HR
    isplitl [Hs]; · iexact Hs
    isplitl [Hb]; · iexact Hb
    isplitl [HO]; · iexact HO
    isplitl [Hts]; · iexact Hts
    isplitr; · iexact Hrf
    iexact Ht
  iintro H
  iapply Hk; iexact H

/-! ## The parts of the two halves -/

theorem part51_run (c : D) (Q : S1024x1024.Idx → Elt F .bf16) (KK VV : S1024x8x128.Idx → Elt F .bf16) (v118 : BitVec 32) (v124 : IVec S512x1024 32) (v143 : IVec S512x1024 1) (v : BitVec 32) (Kt) :
    att c Q KK VV ⊢ iprop((att c Q KK VV -∗ Kt ⟨k0_pay50 v124 v143 v, k0_pay51 v124 v143 v (pick (rq1 c) Q) (headsOf KK 0), k0_pay52 v124 v143 v (pick (rq1 c) Q) (headsOf KK 0)⟩) -∗ WP c (k0_part51 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v118 v124 v143 v) Kt) := by
  rw [k0_part51_eq_skeleton]
  unfold k0_part51_skel
  simp only [Prog.lift, Prog.bind_op, Prog.bind_ret, Prog.pure_eq_ret]
  iintro H Hk
  iapply (attQ c Q KK VV (rq1 c)) $$ H; iintro H
  iapply (attK c Q KK VV 0 rfl _) $$ H; iintro H
  iapply (wp_done (F := F))
  iapply Hk; iexact H

theorem part52_run (c : D) (Q : S1024x1024.Idx → Elt F .bf16) (KK VV : S1024x8x128.Idx → Elt F .bf16) (v118 : BitVec 32) (v175 : FVec F S512x1024 .f32) (v182 : FVec F S512x1024 .f32) (v184 : FVec F S512x1 .f32) (Kt) :
    att c Q KK VV ⊢ iprop((att c Q KK VV -∗ Kt ⟨k0_pay53 v182 v184 (headsOf VV 0), k0_pay54 v175 (pick (rq2 c) Q) (headsOf KK 1) (headsOf VV 1), k0_pay56 v175 (pick (rq3 c) Q) (headsOf KK 2), k0_pay57 (headsOf VV 2), k0_pay58 v175 (pick (rq3 c) Q) (headsOf KK 2)⟩) -∗ WP c (k0_part52 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v118 v175 v182 v184) Kt) := by
  rw [k0_part52_eq_skeleton]
  unfold k0_part52_skel
  simp only [Prog.lift, Prog.bind_op, Prog.bind_ret, Prog.pure_eq_ret]
  iintro H Hk
  iapply (attV c Q KK VV 0 rfl _) $$ H; iintro H
  iapply (attQ c Q KK VV (rq2 c)) $$ H; iintro H
  iapply (attK c Q KK VV 1 rfl _) $$ H; iintro H
  iapply (attV c Q KK VV 1 rfl _) $$ H; iintro H
  iapply (attQ c Q KK VV (rq3 c)) $$ H; iintro H
  iapply (attK c Q KK VV 2 rfl _) $$ H; iintro H
  iapply (attV c Q KK VV 2 rfl _) $$ H; iintro H
  iapply (wp_done (F := F))
  iapply Hk; iexact H

theorem part53_run (c : D) (Q : S1024x1024.Idx → Elt F .bf16) (KK VV : S1024x8x128.Idx → Elt F .bf16) (v118 : BitVec 32) (v175 : FVec F S512x1024 .f32) (v216 : FVec F S512x1 .f32) (v218 : FVec F S1024x128 .bf16) (v219 : FVec F S512x1024 .bf16) (Kt) :
    att c Q KK VV ⊢ iprop((att c Q KK VV -∗ Kt ⟨k0_pay59 v216 v218 v219, k0_pay60 v175 (pick (rq4 c) Q) (headsOf KK 3) (headsOf VV 3), k0_pay61 v175 (pick (rq5 c) Q) (headsOf KK 4) (headsOf VV 4)⟩) -∗ WP c (k0_part53 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v118 v175 v216 v218 v219) Kt) := by
  rw [k0_part53_eq_skeleton]
  unfold k0_part53_skel
  simp only [Prog.lift, Prog.bind_op, Prog.bind_ret, Prog.pure_eq_ret]
  iintro H Hk
  iapply (attQ c Q KK VV (rq4 c)) $$ H; iintro H
  iapply (attK c Q KK VV 3 rfl _) $$ H; iintro H
  iapply (attV c Q KK VV 3 rfl _) $$ H; iintro H
  iapply (attQ c Q KK VV (rq5 c)) $$ H; iintro H
  iapply (attK c Q KK VV 4 rfl _) $$ H; iintro H
  iapply (attV c Q KK VV 4 rfl _) $$ H; iintro H
  iapply (wp_done (F := F))
  iapply Hk; iexact H

theorem part54_run (c : D) (Q : S1024x1024.Idx → Elt F .bf16) (KK VV : S1024x8x128.Idx → Elt F .bf16) (v118 : BitVec 32) (v175 : FVec F S512x1024 .f32) (v254 : FVec F S512x128 .f32) (Kt) :
    att c Q KK VV ⊢ iprop((att c Q KK VV -∗ Kt ⟨k0_pay62 v254, k0_pay63 v175 (pick (rq6 c) Q) (headsOf KK 5) (headsOf VV 5), k0_pay64 v175 (pick (rq7 c) Q) (headsOf KK 6) (headsOf VV 6), (pick (rq8 c) Q)⟩) -∗ WP c (k0_part54 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v118 v175 v254) Kt) := by
  rw [k0_part54_eq_skeleton]
  unfold k0_part54_skel
  simp only [Prog.lift, Prog.bind_op, Prog.bind_ret, Prog.pure_eq_ret]
  iintro H Hk
  iapply (attQ c Q KK VV (rq6 c)) $$ H; iintro H
  iapply (attK c Q KK VV 5 rfl _) $$ H; iintro H
  iapply (attV c Q KK VV 5 rfl _) $$ H; iintro H
  iapply (attQ c Q KK VV (rq7 c)) $$ H; iintro H
  iapply (attK c Q KK VV 6 rfl _) $$ H; iintro H
  iapply (attV c Q KK VV 6 rfl _) $$ H; iintro H
  iapply (attQ c Q KK VV (rq8 c)) $$ H; iintro H
  iapply (wp_done (F := F))
  iapply Hk; iexact H

theorem part57_run (c : D) (Q : S1024x1024.Idx → Elt F .bf16) (KK VV : S1024x8x128.Idx → Elt F .bf16) (v119 : BitVec 32) (m : FVec F S512x1024 .f32) (Kt) :
    att c Q KK VV ⊢ iprop((att c Q KK VV -∗ Kt ⟨k0_pay71 m (pick (rq9 c) Q) (headsOf KK 0) (headsOf VV 0), k0_pay72 m (pick (rq10 c) Q) (headsOf KK 1) (headsOf VV 1), (pick (rq11 c) Q)⟩) -∗ WP c (k0_part57 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v119 m) Kt) := by
  rw [k0_part57_eq_skeleton]
  unfold k0_part57_skel
  simp only [Prog.lift, Prog.bind_op, Prog.bind_ret, Prog.pure_eq_ret]
  iintro H Hk
  iapply (attQ c Q KK VV (rq9 c)) $$ H; iintro H
  iapply (attK c Q KK VV 0 rfl _) $$ H; iintro H
  iapply (attV c Q KK VV 0 rfl _) $$ H; iintro H
  iapply (attQ c Q KK VV (rq10 c)) $$ H; iintro H
  iapply (attK c Q KK VV 1 rfl _) $$ H; iintro H
  iapply (attV c Q KK VV 1 rfl _) $$ H; iintro H
  iapply (attQ c Q KK VV (rq11 c)) $$ H; iintro H
  iapply (wp_done (F := F))
  iapply Hk; iexact H

theorem part58_run (c : D) (Q : S1024x1024.Idx → Elt F .bf16) (KK VV : S1024x8x128.Idx → Elt F .bf16) (v119 : BitVec 32) (m : FVec F S512x1024 .f32) (v405 : Vec F S512x128 .bf16) (Kt) :
    att c Q KK VV ⊢ iprop((att c Q KK VV -∗ Kt ⟨k0_pay73 m v405 (headsOf KK 2) (headsOf VV 2), k0_pay74 m (pick (rq12 c) Q) (headsOf KK 3) (headsOf VV 3), (pick (rq13 c) Q), k0_pay75 (headsOf KK 4), constant S512x1024 .f32 0x00000000#32⟩) -∗ WP c (k0_part58 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v119 m v405) Kt) := by
  rw [k0_part58_eq_skeleton]
  unfold k0_part58_skel
  simp only [Prog.lift, Prog.bind_op, Prog.bind_ret, Prog.pure_eq_ret]
  iintro H Hk
  iapply (attK c Q KK VV 2 rfl _) $$ H; iintro H
  iapply (attV c Q KK VV 2 rfl _) $$ H; iintro H
  iapply (attQ c Q KK VV (rq12 c)) $$ H; iintro H
  iapply (attK c Q KK VV 3 rfl _) $$ H; iintro H
  iapply (attV c Q KK VV 3 rfl _) $$ H; iintro H
  iapply (attQ c Q KK VV (rq13 c)) $$ H; iintro H
  iapply (attK c Q KK VV 4 rfl _) $$ H; iintro H
  iapply (wp_done (F := F))
  iapply Hk; iexact H

theorem part59_run (c : D) (Q : S1024x1024.Idx → Elt F .bf16) (KK VV : S1024x8x128.Idx → Elt F .bf16) (v119 : BitVec 32) (m : FVec F S512x1024 .f32) (v437 : Vec F S512x128 .bf16) (v439 : FVec F S1024x128 .bf16) (z : FVec F S512x1024 .f32) (Kt) :
    att c Q KK VV ⊢ iprop((att c Q KK VV -∗ Kt ⟨k0_pay76 m v437 v439 z (headsOf VV 4), k0_pay77 m (pick (rq14 c) Q) (headsOf KK 5) (headsOf VV 5), k0_pay78 m (pick (rq15 c) Q) (headsOf KK 6)⟩) -∗ WP c (k0_part59 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v119 m v437 v439 z) Kt) := by
  rw [k0_part59_eq_skeleton]
  unfold k0_part59_skel
  simp only [Prog.lift, Prog.bind_op, Prog.bind_ret, Prog.pure_eq_ret]
  iintro H Hk
  iapply (attV c Q KK VV 4 rfl _) $$ H; iintro H
  iapply (attQ c Q KK VV (rq14 c)) $$ H; iintro H
  iapply (attK c Q KK VV 5 rfl _) $$ H; iintro H
  iapply (attV c Q KK VV 5 rfl _) $$ H; iintro H
  iapply (attQ c Q KK VV (rq15 c)) $$ H; iintro H
  iapply (attK c Q KK VV 6 rfl _) $$ H; iintro H
  iapply (wp_done (F := F))
  iapply Hk; iexact H

abbrev ssM0 : Memref sig .tc .vmem S512x1024 .bf16 := Memref.whole cc0_scratch7
abbrev ssM1 : Memref sig .tc .vmem S256x1024 .bf16 := Memref.whole cc0_scratch8
abbrev ssM2 : Memref sig .tc .vmem S128x1024 .bf16 := Memref.whole cc0_scratch9
abbrev rsM0 : Memref sig .tc .vmem S512x1024 .bf16 := Memref.whole cc0_scratch10
abbrev rsM1 : Memref sig .tc .vmem S256x1024 .bf16 := Memref.whole cc0_scratch11
abbrev rsM2 : Memref sig .tc .vmem S128x1024 .bf16 := Memref.whole cc0_scratch12

theorem dev31_eq (c : D) : (⟨k0_dev31 c, k0_dev31_lt c⟩ : D) = rsp 0 c := by revert c; decide +kernel
theorem dev32_eq (c : D) : (⟨k0_dev32 c, k0_dev32_lt c⟩ : D) = rsp 1 c := by revert c; decide +kernel
theorem dev33_eq (c : D) : (⟨k0_dev33 c, k0_dev33_lt c⟩ : D) = rsp 2 c := by revert c; decide +kernel
theorem dev34_eq (c : D) : (⟨k0_dev34 c, k0_dev34_lt c⟩ : D) = agp 0 c := by revert c; decide +kernel
theorem dev35_eq (c : D) : (⟨k0_dev35 c, k0_dev35_lt c⟩ : D) = agp 1 c := by revert c; decide +kernel
theorem dev36_eq (c : D) : (⟨k0_dev36 c, k0_dev36_lt c⟩ : D) = agp 2 c := by revert c; decide +kernel

theorem part55_run (c : D) (Q : S1024x1024.Idx → Elt F .bf16) (KK VV : S1024x8x128.Idx → Elt F .bf16) (v46 : FVec F S1024x1024 .bf16) (v116 v119 : BitVec 32)
    (m : FVec F S512x1024 .f32) (v191 v207 v223 v239 v255 v271 v287 : FVec F S512x128 .bf16) (v289 : Vec F S512x128 .bf16)
    (hx : k0_pay65 v46 m v191 v207 v223 v239 v255 v271 v287 v289 (headsOf KK 7) (headsOf VV 7) = V.x0 c) (Kt) :
    iprop(records V K ∗ att c Q KK VV ∗ anyAt c ssM0 ∗ hopP (rsp 0 c, .rsr 0) ∗ tokOf (c, .rss 0) 0 0 ∗ ow c (xch c))
      ⊢ iprop(((att c Q KK VV ∗ crOf (c, .rss 0) (NX 0) ∗ ow c ((xch c).drop 1)) -∗ Kt ⟨k0_pay66 v119, 64#32, k0_pay67 v119, k0_pay68 v119, k0_pay69 v119⟩)
        -∗ WP c (k0_part55 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v46 v116 v119 m v191 v207 v223 v239 v255 v271 v287 v289) Kt) := by
  rw [k0_part55_eq_skeleton]
  unfold k0_part55_skel
  simp only [Prog.lift, Prog.bind_op, Prog.bind_ret, Prog.pure_eq_ret]
  iintro ⟨#HR, H, Hs, Hh, Ht, HO⟩ Hk
  iapply (attK c Q KK VV 7 rfl _) $$ H; iintro H
  iapply (attV c Q KK VV 7 rfl _) $$ H; iintro H
  iapply (loadAny (F := F) c ssM0) $$ Hs; iintro Hs
  ihave ⟨%X0, Hs⟩ := (anyAt_holds (F := F) c ssM0) $$ Hs
  iapply (storeStep c ssM0 _ X0 _) $$ Hs; iintro Hs
  ihave Hs := (Entails.of_eq (congrArg (holds (F := F) c ssM0) ((put_zero (s := S512x1024) ![0, 0] z2 _ _ X0).trans hx))) $$ Hs
  iapply (xSend V K c 0 ((xch c).drop 1) (src := ssM0) (dst := rsM0) (V.x0 c) rfl rfl
      (by show _ = holds (rsp 0 c) rsM0 (V.x0 (rsp 0 (rsp 0 c))); rw [rsp_rsp]) (dev31_eq c) rfl rfl rfl) $$ [Hs Hh Ht HO]
  · isplitr; · iexact HR
    isplitl [Hs]; · iexact Hs
    isplitl [Hh]; · iexact Hh
    isplitl [Ht]; · iexact Ht
    iexact HO
  iintro ⟨Hc, HO⟩
  iapply (wp_done (F := F))
  iapply Hk
  isplitl [H]; · iexact H
  isplitl [Hc]; · iexact Hc
  iexact HO

theorem part56_run (c : D) (v119 : BitVec 32) (v318 : IVec S512x1024 32) (w : BitVec 32) (v320 v323 v326 : IVec S512x1024 32) (Kt) :
    Kt (k0_pay70 (F := F) v318 w v320 v323 v326) ⊢ WP c (k0_part56 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 v119 v318 w v320 v323 v326) Kt := by
  rw [k0_part56_eq_skeleton]
  unfold k0_part56_skel
  exact wp_done (F := F) c _ Kt

theorem part60_run (c : D) (Q : S1024x1024.Idx → Elt F .bf16) (KK VV : S1024x8x128.Idx → Elt F .bf16) (v46 : FVec F S1024x1024 .bf16) (v119 : BitVec 32)
    (m : FVec F S512x1024 .f32) (v387 v403 v419 v435 v451 v467 : FVec F S512x128 .bf16) (v474 : FVec F S512x1024 .f32) (Z : S1024x1024.Idx → Elt F .f32) (Kt) :
    iprop(records V K ∗ levAts L lv ∗ att c Q KK VV ∗ anyAt c accM ∗ crOf (c, .rss 0) (NX 0) ∗ atOf (c, .rss 0) 0 ∗ ow c ((xch c).drop 1))
      ⊢ iprop(((att c Q KK VV ∗ accAt c (put (r17 c) (k0_pay79 v46 m v387 v403 v419 v435 v451 v467 v474 (headsOf VV 6) (pick (rq16 c) Q) (headsOf KK 7) (headsOf VV 7)) Z)
            ∗ (anyAt c ssM0 ∗ atOf (c, .rss 0) 1) ∗ ow c ((xch c).drop 1)) -∗ Kt 1#32)
        -∗ WP c (k0_part60 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v46 v119 m v387 v403 v419 v435 v451 v467 v474) Kt) := by
  rw [k0_part60_eq_skeleton]
  unfold k0_part60_skel
  simp only [Prog.lift, Prog.bind_op, Prog.bind_ret, Prog.pure_eq_ret]
  iintro ⟨#HR, #HL, H, Ha, Hc, Hat, HO⟩ Hk
  iapply (attV c Q KK VV 6 rfl _) $$ H; iintro H
  iapply (attQ c Q KK VV (rq16 c)) $$ H; iintro H
  iapply (attK c Q KK VV 7 rfl _) $$ H; iintro H
  iapply (attV c Q KK VV 7 rfl _) $$ H; iintro H
  iapply (loadAny (F := F) c accM) $$ Ha; iintro Ha
  iapply (accFirst (F := F) c Z) $$ Ha; iintro Ha
  iapply (waitStep V K c (.rss 0) rfl 0 Nat.one_pos (by simp) ((xch c).drop 1) rfl (dstw := ssM0) rfl) $$ [Hc HO Hat]
  · isplitr; · iexact HR
    isplitr; · iexact HL
    isplitl [Hc]; · iexact Hc
    isplitl [HO]; · iexact HO
    iexact Hat
  iintro ⟨HO, Hat, -, Hp⟩
  ihave Hp := (Entails.of_eq (show pay V c (.rss 0) 0 = anyAt c ssM0 from rfl)) $$ Hp
  iapply (wp_done (F := F))
  iapply Hk
  isplitl [H]; · iexact H
  isplitl [Ha]; · iexact Ha
  isplitr [HO]
  · isplitl [Hp]; · iexact Hp
    iexact Hat
  iexact HO

end Cert.Proof.Attn

end
-- ==== Proof.Exchange.lean ====
/-
  The exchanges: the three reduction steps, each partner adding the rows it receives to the half it keeps, and the
  gather steps that hand the finished rows round.
-/
module

public import proofs.«01_k».proof.Proof.Attend

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

theorem slice_set (r : Rect S1024x1024) (h : ∀ a, r.stride a = 1) : (accb.slice r h).view.set = r.set := by
  ext i
  show i ∈ Finset.univ.map _ ↔ _
  rw [← Rect.map_emb_univ]
  simp only [Finset.mem_map, Finset.mem_univ, true_and]
  rfl

theorem cred22 (c : D) : (accb.slice (r22 c) (fun _ => rfl)).view.dmaCredit = amt (.ags 0) :=
  (show _ = (Memref.whole cc0_scratch12).view.dmaCredit from rfl).trans (show NX 2 = amt (.ags 0) from rfl)
theorem cred23 (c : D) : (accb.slice (r23 c) (fun _ => rfl)).view.dmaCredit = amt (.ags 1) :=
  (show _ = (Memref.whole cc0_scratch11).view.dmaCredit from rfl).trans (show NX 1 = amt (.ags 1) from rfl)
theorem cred24 (c : D) : (accb.slice (r24 c) (fun _ => rfl)).view.dmaCredit = amt (.ags 2) :=
  (show _ = (Memref.whole cc0_scratch10).view.dmaCredit from rfl).trans (show NX 0 = amt (.ags 2) from rfl)

/-- The rows device `c` has gathered so far go to its partner of gather step `s`. -/
theorem aSend (c : D) (s : Fin 3) (l : List (D × CK)) (r : Rect S1024x1024) (hr : ∀ a, r.stride a = 1) (hset : r.set = agSet s c)
    {n' : D} (hn : n' = agp s c) {sS sR : SemLoc sig} (hS : sS = csem (.ags s)) (hR : sR = csem (.agr s))
    {hsc : (accb.slice r hr : Memref sig (Dev.tc n' : Thread nD τ).2.kind .vmem r.shape .bf16).view.ref.isScScratch = false}
    {hsrc : (accb.slice r hr).view.WordExact} {hdst : (accb.slice r hr).view.WordExact}
    {hsem : DmaTarget.Typed .vmem sR (.remote (Dev.tc n' : Thread nD τ) (accb.slice r hr) sS hsc)} (hN : (accb.slice r hr).view.amount (csem (.agr s)) = amt (.agr s))
    {α : Type} {Q : α → sProp 𝕄} {k : PUnit → Prog (TpuEff nD τ sig (Elt F) Λ₀ .tc) α} :
    iprop(records V K ∗ outRows V c (agSet s c) ∗ hopP (agp s c, .agr s) ∗ tokOf (c, .ags s) 0 0 ∗ ow c ((agp s c, .agr s) :: l))
      ⊢ iprop(((crOf (c, .ags s) (amt (.ags s)) ∗ ow c l) -∗ WP c (k ⟨⟩) Q)
          -∗ WP c (.op (.enqueueDma (accb.slice r hr) (.remote (Dev.tc n' : Thread nD τ) (accb.slice r hr) sS hsc) sR hsrc hdst hsem) k) Q) := by
  unfold hopP
  iintro ⟨#HR, Hs, ⟨Hb, Ht⟩, Hts, HO⟩ Hk
  ihave Hb := (Entails.of_eq (show buf (F := F) (agp s c) (.agr s) = anyRows (agp s c) (agSet s c) from by
    show anyRows _ (agSet s (agp s (agp s c))) = _; rw [agp_agp])) $$ Hb
  ihave #Hrf := (records_at V K (c, .ags s)) $$ HR
  icases Hrf with ⟨-, #Hrf⟩
  unfold anyRows
  icases Hb with ⟨%fd, Hb⟩
  have hv : (accb.slice r hr).view.set = agSet s c := (slice_set r hr).trans hset
  have hsrc : outRows V c (agSet s c) ⊢ ((accb.slice r hr).view.loc (c : Thread nD τ) ↦[agSet s c]{fullShare} (V.out : Buf (Elt F) ((c : Thread nD τ).loc cc0_scratch5)) : sProp 𝕄) := Entails.of_eq rfl
  iapply (sendStep V K c (agp s c) hn (.ags s) (.agr s) hS hR 0 Nat.one_pos (by simp) Nat.one_pos (by simp) l
    (src := accb.slice r hr) (dst := accb.slice r hr) (fs := (V.out : Buf (Elt F) ((c : Thread nD τ).loc cc0_scratch5))) (fd := fd) (q := fullShare) hN rfl
    (by rw [hv]; exact Entails.of_eq rfl)
    (by
      rw [hv]
      refine Entails.of_eq ?_
      show _ = outRows V (agp s c) (agSet s (agp s (agp s c)))
      rw [agp_agp]
      unfold outRows
      refine pointsTo_congr fun i hi => ?_
      rw [← hv] at hi
      obtain ⟨j, -, rfl⟩ := Finset.mem_map.mp hi
      rw [View.write_emb_of_mem _ _ (Finset.mem_univ j)]
      rfl)) $$ [Hs Hb HO Hts Ht]
  · isplitr; · iexact HR
    isplitl [Hs]; · rw [hv]; iapply hsrc; iexact Hs
    isplitl [Hb]; · rw [hv]; iexact Hb
    isplitl [HO]; · iexact HO
    isplitl [Hts]; · iexact Hts
    isplitr; · iexact Hrf
    iexact Ht
  iintro H
  iapply Hk; iexact H

/-! ## The accumulator through the three reduction steps -/

/-- What the device keeps after each step: its own rows, then with each partner's rows added. -/
abbrev acc0 (c : D) (P : FVec F S512x1024 .f32) : S1024x1024.Idx → Elt F .f32 := put (r17 c) P (fun _ => FloatOps.ofBits .f32 0#32)
abbrev acc1 (c : D) (A : S1024x1024.Idx → Elt F .f32) (x : S512x1024.Idx → Elt F .bf16) : S1024x1024.Idx → Elt F .f32 := put (r17 c) (k0_pay80 (pick (r17 c) A) x) A
abbrev acc2 (c : D) (A : S1024x1024.Idx → Elt F .f32) (x : S256x1024.Idx → Elt F .bf16) : S1024x1024.Idx → Elt F .f32 := put (r19 c) (k0_pay82 (pick (r19 c) A) x) A
abbrev acc3 (c : D) (A : S1024x1024.Idx → Elt F .f32) (x : S128x1024.Idx → Elt F .bf16) : S1024x1024.Idx → Elt F .f32 := put (r21 c) (k0_pay84 (pick (r21 c) A) x) A

theorem part61_run (c : D) (A : S1024x1024.Idx → Elt F .f32) (v102 v115 v116 v119 v : BitVec 32)
    (hx : k0_pay81 (pick (r18 c) (acc1 c A (V.x0 (rsp 0 c)))) = V.x1 c) (Kt : (Σ' (_ : BitVec 32) (_ : BitVec 32), BitVec 32) → sProp 𝕄) :
    iprop(records V K ∗ levAts L lv ∗ accAt c A ∗ (crOf (c, .rsr 0) (NX 0) ∗ atOf (c, .rsr 0) 0)
        ∗ (anyAt c ssM1 ∗ hopP (rsp 1 c, .rsr 1) ∗ tokOf (c, .rss 1) 0 0 ∗ atOf (c, .rss 1) 0) ∗ ow c ((xch c).drop 1))
      ⊢ iprop(((accAt c (acc1 c A (V.x0 (rsp 0 c))) ∗ (anyAt c rsM0 ∗ atOf (c, .rsr 0) 1) ∗ (anyAt c ssM1 ∗ atOf (c, .rss 1) 1) ∗ ow c ((xch c).drop 2))
          -∗ ∀ a : BitVec 32, ∀ b : BitVec 32, ∀ d : BitVec 32, Kt ⟨a, b, d⟩) -∗ WP c (k0_part61 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v102 v115 v116 v119 v) Kt) := by
  rw [k0_part61_eq_skeleton]
  unfold k0_part61_skel
  simp only [Prog.lift, Prog.bind_op, Prog.bind_ret, Prog.pure_eq_ret]
  iintro ⟨#HR, #HL, Ha, ⟨Hc, Hat⟩, ⟨Hs, Hh, Ht, Hat2⟩, HO⟩ Hk
  iapply (waitStep V K c (.rsr 0) rfl 0 Nat.one_pos (by simp) ((xch c).drop 1) rfl (dstw := rsM0) rfl) $$ [Hc HO Hat]
  · isplitr; · iexact HR
    isplitr; · iexact HL
    isplitl [Hc]; · iexact Hc
    isplitl [HO]; · iexact HO
    iexact Hat
  iintro ⟨HO, Hat, -, Hp⟩
  ihave Hr := (Entails.of_eq (show pay V c (.rsr 0) 0 = holds c rsM0 (V.x0 (rsp 0 c)) from rfl)) $$ Hp
  iapply (accLoad (F := F) c (r17 c) (Finset.Subset.refl _) A) $$ Ha; iintro Ha
  iapply (loadStep c rsM0 _ (V.x0 (rsp 0 c))) $$ Hr; iintro Hr
  rw [pick_zero (s := S512x1024) ![0, 0] z2 inb_S512x1024_S512x1024_0_0 (V.x0 (rsp 0 c))]
  iapply (accLoad (F := F) c (r17 c) (Finset.Subset.refl _) A) $$ Ha; iintro Ha
  iapply (accStore (F := F) c (r17 c) A _) $$ Ha; iintro Ha
  iapply (accLoad (F := F) c (r18 c) (sub18 c) _) $$ Ha; iintro Ha
  iapply (loadAny (F := F) c ssM1) $$ Hs; iintro Hs
  ihave ⟨%X0, Hs⟩ := (anyAt_holds (F := F) c ssM1) $$ Hs
  iapply (storeStep c ssM1 _ X0 _) $$ Hs; iintro Hs
  ihave Hs := (Entails.of_eq (congrArg (holds (F := F) c ssM1) ((put_zero (s := S256x1024) ![0, 0] z2 _ _ X0).trans hx))) $$ Hs
  iapply (xSend V K c 1 ((xch c).drop 2) (src := ssM1) (dst := rsM1) (V.x1 c) rfl rfl
      (by show _ = holds (rsp 1 c) rsM1 (V.x1 (rsp 1 (rsp 1 c))); rw [rsp_rsp]) (dev32_eq c) rfl rfl rfl) $$ [Hs Hh Ht HO]
  · isplitr; · iexact HR
    isplitl [Hs]; · iexact Hs
    isplitl [Hh]; · iexact Hh
    isplitl [Ht]; · iexact Ht
    iexact HO
  iintro ⟨Hc, HO⟩
  iapply (waitStep V K c (.rss 1) rfl 0 Nat.one_pos (by simp) ((xch c).drop 2) rfl (dstw := ssM1) rfl) $$ [Hc HO Hat2]
  · isplitr; · iexact HR
    isplitr; · iexact HL
    isplitl [Hc]; · iexact Hc
    isplitl [HO]; · iexact HO
    iexact Hat2
  iintro ⟨HO, Hat2, -, Hp⟩
  ihave Hp := (Entails.of_eq (show pay V c (.rss 1) 0 = anyAt c ssM1 from rfl)) $$ Hp
  iapply (wp_done (F := F))
  ihave H := Hk $$ [Ha Hr Hat Hp Hat2 HO]
  · isplitl [Ha]; · iexact Ha
    isplitl [Hr Hat]
    · isplitl [Hr]; · iapply (holds_any (F := F) c rsM0); iexact Hr
      iexact Hat
    isplitr [HO]
    · isplitl [Hp]; · iexact Hp
      iexact Hat2
    iexact HO
  iapply H

theorem part62_run (c : D) (A : S1024x1024.Idx → Elt F .f32) (v113 v114 v525 v540 v : BitVec 32)
    (hx : k0_pay83 (pick (r20 c) (acc2 c A (V.x1 (rsp 1 c)))) = V.x2 c) (Kt : BitVec 32 → sProp 𝕄) :
    iprop(records V K ∗ levAts L lv ∗ accAt c A ∗ (crOf (c, .rsr 1) (NX 1) ∗ atOf (c, .rsr 1) 0)
        ∗ (anyAt c ssM2 ∗ hopP (rsp 2 c, .rsr 2) ∗ tokOf (c, .rss 2) 0 0 ∗ atOf (c, .rss 2) 0) ∗ ow c ((xch c).drop 2))
      ⊢ iprop(((accAt c (acc2 c A (V.x1 (rsp 1 c))) ∗ (anyAt c rsM1 ∗ atOf (c, .rsr 1) 1) ∗ (anyAt c ssM2 ∗ atOf (c, .rss 2) 1) ∗ ow c ((xch c).drop 3))
          -∗ ∀ a : BitVec 32, Kt a) -∗ WP c (k0_part62 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v113 v114 v525 v540 v) Kt) := by
  rw [k0_part62_eq_skeleton]
  unfold k0_part62_skel
  simp only [Prog.lift, Prog.bind_op, Prog.bind_ret, Prog.pure_eq_ret]
  iintro ⟨#HR, #HL, Ha, ⟨Hc, Hat⟩, ⟨Hs, Hh, Ht, Hat2⟩, HO⟩ Hk
  iapply (waitStep V K c (.rsr 1) rfl 0 Nat.one_pos (by simp) ((xch c).drop 2) rfl (dstw := rsM1) rfl) $$ [Hc HO Hat]
  · isplitr; · iexact HR
    isplitr; · iexact HL
    isplitl [Hc]; · iexact Hc
    isplitl [HO]; · iexact HO
    iexact Hat
  iintro ⟨HO, Hat, -, Hp⟩
  ihave Hr := (Entails.of_eq (show pay V c (.rsr 1) 0 = holds c rsM1 (V.x1 (rsp 1 c)) from rfl)) $$ Hp
  iapply (accLoad (F := F) c (r19 c) (sub19 c) A) $$ Ha; iintro Ha
  iapply (loadStep c rsM1 _ (V.x1 (rsp 1 c))) $$ Hr; iintro Hr
  rw [pick_zero (s := S256x1024) ![0, 0] z2 inb_S256x1024_S256x1024_0_0 (V.x1 (rsp 1 c))]
  iapply (accLoad (F := F) c (r19 c) (sub19 c) A) $$ Ha; iintro Ha
  iapply (accStore (F := F) c (r19 c) A _) $$ Ha; iintro Ha
  iapply (accLoad (F := F) c (r20 c) (sub20 c) _) $$ Ha; iintro Ha
  iapply (loadAny (F := F) c ssM2) $$ Hs; iintro Hs
  ihave ⟨%X0, Hs⟩ := (anyAt_holds (F := F) c ssM2) $$ Hs
  iapply (storeStep c ssM2 _ X0 _) $$ Hs; iintro Hs
  ihave Hs := (Entails.of_eq (congrArg (holds (F := F) c ssM2) ((put_zero (s := S128x1024) ![0, 0] z2 _ _ X0).trans hx))) $$ Hs
  iapply (xSend V K c 2 ((xch c).drop 3) (src := ssM2) (dst := rsM2) (V.x2 c) rfl rfl
      (by show _ = holds (rsp 2 c) rsM2 (V.x2 (rsp 2 (rsp 2 c))); rw [rsp_rsp]) (dev33_eq c) rfl rfl rfl) $$ [Hs Hh Ht HO]
  · isplitr; · iexact HR
    isplitl [Hs]; · iexact Hs
    isplitl [Hh]; · iexact Hh
    isplitl [Ht]; · iexact Ht
    iexact HO
  iintro ⟨Hc, HO⟩
  iapply (waitStep V K c (.rss 2) rfl 0 Nat.one_pos (by simp) ((xch c).drop 3) rfl (dstw := ssM2) rfl) $$ [Hc HO Hat2]
  · isplitr; · iexact HR
    isplitr; · iexact HL
    isplitl [Hc]; · iexact Hc
    isplitl [HO]; · iexact HO
    iexact Hat2
  iintro ⟨HO, Hat2, -, Hp⟩
  ihave Hp := (Entails.of_eq (show pay V c (.rss 2) 0 = anyAt c ssM2 from rfl)) $$ Hp
  iapply (wp_done (F := F))
  ihave H := Hk $$ [Ha Hr Hat Hp Hat2 HO]
  · isplitl [Ha]; · iexact Ha
    isplitl [Hr Hat]
    · isplitl [Hr]; · iapply (holds_any (F := F) c rsM1); iexact Hr
      iexact Hat
    isplitr [HO]
    · isplitl [Hp]; · iexact Hp
      iexact Hat2
    iexact HO
  iapply H

theorem part63_run (c : D) (A : S1024x1024.Idx → Elt F .f32) (v114 v557 : BitVec 32)
    (hx : ∀ j, V.out ((r21 c).emb j) = k0_pay85 (pick (r21 c) (acc3 c A (V.x2 (rsp 2 c)))) j) (Kt) :
    iprop(records V K ∗ levAts L lv ∗ accAt c A ∗ (crOf (c, .rsr 2) (NX 2) ∗ atOf (c, .rsr 2) 0)
        ∗ (anyRows c (agSet 0 c) ∗ hopP (agp 0 c, .agr 0) ∗ tokOf (c, .ags 0) 0 0 ∗ atOf (c, .ags 0) 0) ∗ ow c ((xch c).drop 3))
      ⊢ iprop(((anyAt c accM ∗ (anyAt c rsM2 ∗ atOf (c, .rsr 2) 1) ∗ (outRows V c (agSet 0 c) ∗ atOf (c, .ags 0) 1) ∗ ow c ((xch c).drop 4))
          -∗ Kt ⟨⟩) -∗ WP c (k0_part63 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c v114 v557) Kt) := by
  rw [k0_part63_eq_skeleton]
  unfold k0_part63_skel
  simp only [Prog.lift, Prog.bind_op, Prog.bind_ret, Prog.pure_eq_ret]
  iintro ⟨#HR, #HL, Ha, ⟨Hc, Hat⟩, ⟨Ho, Hh, Ht, Hat2⟩, HO⟩ Hk
  iapply (waitStep V K c (.rsr 2) rfl 0 Nat.one_pos (by simp) ((xch c).drop 3) rfl (dstw := rsM2) rfl) $$ [Hc HO Hat]
  · isplitr; · iexact HR
    isplitr; · iexact HL
    isplitl [Hc]; · iexact Hc
    isplitl [HO]; · iexact HO
    iexact Hat
  iintro ⟨HO, Hat, -, Hp⟩
  ihave Hr := (Entails.of_eq (show pay V c (.rsr 2) 0 = holds c rsM2 (V.x2 (rsp 2 c)) from rfl)) $$ Hp
  iapply (accLoad (F := F) c (r21 c) (sub21 c) A) $$ Ha; iintro Ha
  iapply (loadStep c rsM2 _ (V.x2 (rsp 2 c))) $$ Hr; iintro Hr
  rw [pick_zero (s := S128x1024) ![0, 0] z2 inb_S128x1024_S128x1024_0_0 (V.x2 (rsp 2 c))]
  iapply (accLoad (F := F) c (r21 c) (sub21 c) A) $$ Ha; iintro Ha
  iapply (accStore (F := F) c (r21 c) A _) $$ Ha; iintro Ha
  iapply (accLoad (F := F) c (r21 c) (sub21 c) _) $$ Ha; iintro Ha
  ihave Ho := (Entails.of_eq (congrArg (anyRows (F := F) c) (set21 c).symm)) $$ Ho
  iapply (rowsLoad (F := F) c (r21 c) _ (Finset.Subset.refl _)) $$ Ho; iintro Ho
  iapply (rowsStore V c (r21 c) _ hx) $$ Ho; iintro Ho
  ihave Ho := (Entails.of_eq (congrArg (outRows V c) (set21 c))) $$ Ho
  iapply (aSend V K c 0 ((xch c).drop 4) (r22 c) (fun _ => rfl) rfl (dev34_eq c) rfl rfl (cred22 c)) $$ [Ho Hh Ht HO]
  · isplitr; · iexact HR
    isplitl [Ho]; · iexact Ho
    isplitl [Hh]; · iexact Hh
    isplitl [Ht]; · iexact Ht
    iexact HO
  iintro ⟨Hc, HO⟩
  iapply (waitStep V K c (.ags 0) rfl 0 Nat.one_pos (by simp) ((xch c).drop 4) rfl (dstw := (accb.slice (r22 c) (fun _ => rfl))) (cred22 c)) $$ [Hc HO Hat2]
  · isplitr; · iexact HR
    isplitr; · iexact HL
    isplitl [Hc]; · iexact Hc
    isplitl [HO]; · iexact HO
    iexact Hat2
  iintro ⟨HO, Hat2, -, Hp⟩
  ihave Ho := (Entails.of_eq (show pay V c (.ags 0) 0 = outRows V c (agSet 0 c) from rfl)) $$ Hp
  iapply (wp_done (F := F))
  iapply Hk
  isplitl [Ha]; · iapply (accAt_any (F := F) c _); iexact Ha
  isplitl [Hr Hat]
  · isplitl [Hr]; · iapply (holds_any (F := F) c rsM2); iexact Hr
    iexact Hat
  isplitr [HO]
  · isplitl [Ho]; · iexact Ho
    iexact Hat2
  iexact HO

theorem part64_run (c : D) (a1 a2 a3 a4 a5 : BitVec 32) (Kt) :
    iprop(records V K ∗ levAts L lv ∗ outRows V c (agSet 0 c) ∗ (crOf (c, .agr 0) (amt (.agr 0)) ∗ atOf (c, .agr 0) 0)
        ∗ (hopP (agp 1 c, .agr 1) ∗ tokOf (c, .ags 1) 0 0 ∗ atOf (c, .ags 1) 0) ∗ (crOf (c, .agr 1) (amt (.agr 1)) ∗ atOf (c, .agr 1) 0) ∗ ow c ((xch c).drop 4))
      ⊢ iprop(((outRows V c (agSet 2 c) ∗ atOf (c, .agr 0) 1 ∗ atOf (c, .ags 1) 1 ∗ atOf (c, .agr 1) 1 ∗ ow c ((xch c).drop 5))
          -∗ Kt ⟨⟩) -∗ WP c (k0_part64 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c a1 a2 a3 a4 a5) Kt) := by
  rw [k0_part64_eq_skeleton]
  unfold k0_part64_skel
  simp only [Prog.lift, Prog.bind_op, Prog.bind_ret, Prog.pure_eq_ret]
  iintro ⟨#HR, #HL, Ho, ⟨Hc, Hat⟩, ⟨Hh, Ht, Hat2⟩, ⟨Hc3, Hat3⟩, HO⟩ Hk
  iapply (waitStep V K c (.agr 0) rfl 0 Nat.one_pos (by simp) ((xch c).drop 4) rfl (dstw := (accb.slice (r22 c) (fun _ => rfl))) (cred22 c)) $$ [Hc HO Hat]
  · isplitr; · iexact HR
    isplitr; · iexact HL
    isplitl [Hc]; · iexact Hc
    isplitl [HO]; · iexact HO
    iexact Hat
  iintro ⟨HO, Hat, -, Hp⟩
  ihave Hp := (Entails.of_eq (show pay V c (.agr 0) 0 = outRows V c (agSet 0 (agp 0 c)) from rfl)) $$ Hp
  ihave Ho := ((outRows_union V c _ _ (ag0_disj c)).trans (Entails.of_eq (congrArg (outRows V c) (ag0_union c)))) $$ [Ho Hp]
  · isplitl [Ho]; · iexact Ho
    iexact Hp
  iapply (aSend V K c 1 ((xch c).drop 5) (r23 c) (fun _ => rfl) rfl (dev35_eq c) rfl rfl (cred23 c)) $$ [Ho Hh Ht HO]
  · isplitr; · iexact HR
    isplitl [Ho]; · iexact Ho
    isplitl [Hh]; · iexact Hh
    isplitl [Ht]; · iexact Ht
    iexact HO
  iintro ⟨Hc, HO⟩
  iapply (waitStep V K c (.ags 1) rfl 0 Nat.one_pos (by simp) ((xch c).drop 5) rfl (dstw := (accb.slice (r23 c) (fun _ => rfl))) (cred23 c)) $$ [Hc HO Hat2]
  · isplitr; · iexact HR
    isplitr; · iexact HL
    isplitl [Hc]; · iexact Hc
    isplitl [HO]; · iexact HO
    iexact Hat2
  iintro ⟨HO, Hat2, -, Hp⟩
  ihave Ho := (Entails.of_eq (show pay V c (.ags 1) 0 = outRows V c (agSet 1 c) from rfl)) $$ Hp
  iapply (waitStep V K c (.agr 1) rfl 0 Nat.one_pos (by simp) ((xch c).drop 5) rfl (dstw := (accb.slice (r23 c) (fun _ => rfl))) (cred23 c)) $$ [Hc3 HO Hat3]
  · isplitr; · iexact HR
    isplitr; · iexact HL
    isplitl [Hc3]; · iexact Hc3
    isplitl [HO]; · iexact HO
    iexact Hat3
  iintro ⟨HO, Hat3, -, Hp⟩
  ihave Hp := (Entails.of_eq (show pay V c (.agr 1) 0 = outRows V c (agSet 1 (agp 1 c)) from rfl)) $$ Hp
  ihave Ho := ((outRows_union V c _ _ (ag1_disj c)).trans (Entails.of_eq (congrArg (outRows V c) (ag1_union c)))) $$ [Ho Hp]
  · isplitl [Ho]; · iexact Ho
    iexact Hp
  iapply (wp_done (F := F))
  iapply Hk
  isplitl [Ho]; · iexact Ho
  isplitl [Hat]; · iexact Hat
  isplitl [Hat2]; · iexact Hat2
  isplitl [Hat3]; · iexact Hat3
  iexact HO

end Cert.Proof.Attn

end
-- ==== Proof.Relay.lean ====
/-
  The staging section on the relays and on the devices that only receive.
-/
module

public import proofs.«01_k».proof.Proof.Feeding

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

set_option maxHeartbeats 8000000 in
set_option maxRecDepth 65536 in
theorem part48_relay1 (X : S1x1024x1024.Idx → Elt F .f32) (W O : S1024x1024.Idx → Elt F .f32) (v28 : BitVec 1) (Kt) :
    iprop(records V K ∗ levAts L lv ∗ (rlW 1 0 ∗ rlW 1 1 ∗ rlW 1 2 ∗ hopP (2, .kv 0) ∗ hopP (2, .kv 1) ∗ hopP (5, .kv 0) ∗ ow 1 (outs 1) ∗ kvW 1 0 ∗ kvW 1 1) ∗ winP 1 X W O ∗ anyAt 1 qM)
      ⊢ iprop(((rlB 1 0 ∗ rlB 1 1 ∗ rlB 1 2 ∗ ow 1 (xch 1) ∗ kvG V 1 0 ∗ kvG V 1 1 ∗ winP 1 X W O ∗ holds 1 qM (k0_pay45 X W)) -∗ Kt (r48 1 O))
          -∗ WP 1 (k0_part48 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 (1 : D) (wd 1) v28) Kt) := by
  rw [k0_part48_eq_skeleton]
  unfold k0_part48_skel
  have h9 : ¬ k0_cond9 1 = 1#1 := by decide
  have h10 : k0_cond10 1 = 1#1 := by decide
  have h11 : ¬ k0_cond11 1 = 1#1 := by decide
  have h12 : ¬ k0_cond12 1 = 1#1 := by decide
  have h13 : Scalar.cmpi .ne (Scalar.extui (Scalar.cmpi .ne (wd 1) 0#32) : BitVec 32) 0#32 = 1#1 := by decide
  simp (config := { zeta := false }) only [dif_neg h9, dif_pos h10, dif_neg h11, dif_neg h12]
  simp only [dif_pos h13, k0_part38_eq_skeleton, k0_part38_skel, k0_part39_eq_skeleton, k0_part39_skel, k0_part40_eq_skeleton, k0_part40_skel, Prog.lift, Prog.bind_op, Prog.bind_ret, Prog.pure_eq_ret]
  iintro ⟨#HR, #HL, ⟨Hr0, Hr1, Hr2, Hh0, Hh1, Hh2, HO, Hk0, Hk1⟩, Hw, Hq⟩ Hk
  iapply (projStep 1 X W O) $$ [Hw Hq]
  · isplitl [Hw]; · iexact Hw
    iexact Hq
  iintro ⟨Hw, Hq⟩
  iapply (relayHop V K 1 0 (by decide) 2 0 (by decide) rfl ((outs 1).drop 1) (by decide) rfl (dstw := rlV 0) rfl rfl rfl rfl rfl rfl rfl) $$ [Hr0 Hh0 HO]
  · isplitr; · iexact HR
    isplitr; · iexact HL
    isplitl [Hr0]; · iexact Hr0
    isplitl [Hh0]; · iexact Hh0
    iexact HO
  iintro ⟨Hr0, HO⟩
  iapply (relayHop V K 1 1 (by decide) 2 1 (by decide) rfl ((outs 1).drop 2) (by decide) rfl (dstw := rlV 1) rfl rfl rfl rfl rfl rfl rfl) $$ [Hr1 Hh1 HO]
  · isplitr; · iexact HR
    isplitr; · iexact HL
    isplitl [Hr1]; · iexact Hr1
    isplitl [Hh1]; · iexact Hh1
    iexact HO
  iintro ⟨Hr1, HO⟩
  iapply (relayHop V K 1 2 (by decide) 5 0 (by decide) rfl ((outs 1).drop 3) (by decide) rfl (dstw := rlV 2) rfl rfl rfl rfl rfl rfl rfl) $$ [Hr2 Hh2 HO]
  · isplitr; · iexact HR
    isplitr; · iexact HL
    isplitl [Hr2]; · iexact Hr2
    isplitl [Hh2]; · iexact Hh2
    iexact HO
  iintro ⟨Hr2, HO⟩
  iapply (relayBack V K 1 0 (by decide) (xch 1) (by decide) rfl (dstw := rlV 0) rfl) $$ [Hr0 HO]
  · isplitr; · iexact HR
    isplitr; · iexact HL
    isplitl [Hr0]; · iexact Hr0
    iexact HO
  iintro ⟨Hr0, HO⟩
  iapply (relayBack V K 1 1 (by decide) (xch 1) (by decide) rfl (dstw := rlV 1) rfl) $$ [Hr1 HO]
  · isplitr; · iexact HR
    isplitr; · iexact HL
    isplitl [Hr1]; · iexact Hr1
    iexact HO
  iintro ⟨Hr1, HO⟩
  iapply (relayBack V K 1 2 (by decide) (xch 1) (by decide) rfl (dstw := rlV 2) rfl) $$ [Hr2 HO]
  · isplitr; · iexact HR
    isplitr; · iexact HL
    isplitl [Hr2]; · iexact Hr2
    iexact HO
  iintro ⟨Hr2, HO⟩
  iapply (kvWait V K 1 (by decide) 0 (xch 1) (by decide) rfl (dstw := kvV 0) rfl) $$ [Hk0 HO]
  · isplitr; · iexact HR
    isplitr; · iexact HL
    isplitl [Hk0]; · iexact Hk0
    iexact HO
  iintro ⟨Hk0, HO⟩
  iapply (kvWait V K 1 (by decide) 1 (xch 1) (by decide) rfl (dstw := kvV 1) rfl) $$ [Hk1 HO]
  · isplitr; · iexact HR
    isplitr; · iexact HL
    isplitl [Hk1]; · iexact Hk1
    iexact HO
  iintro ⟨Hk1, HO⟩
  iapply (wp_done (F := F))
  iapply Hk
  isplitl [Hr0]; · iexact Hr0
  isplitl [Hr1]; · iexact Hr1
  isplitl [Hr2]; · iexact Hr2
  isplitl [HO]; · iexact HO
  isplitl [Hk0]; · iexact Hk0
  isplitl [Hk1]; · iexact Hk1
  isplitl [Hw]; · iexact Hw
  iexact Hq

set_option maxHeartbeats 8000000 in
set_option maxRecDepth 65536 in
theorem part48_relay3 (X : S1x1024x1024.Idx → Elt F .f32) (W O : S1024x1024.Idx → Elt F .f32) (v28 : BitVec 1) (Kt) :
    iprop(records V K ∗ levAts L lv ∗ (rlW 3 0 ∗ rlW 3 1 ∗ rlW 3 2 ∗ hopP (7, .kv 0) ∗ hopP (7, .kv 1) ∗ hopP (6, .kv 0) ∗ ow 3 (outs 3) ∗ kvW 3 0 ∗ kvW 3 1) ∗ winP 3 X W O ∗ anyAt 3 qM)
      ⊢ iprop(((rlB 3 0 ∗ rlB 3 1 ∗ rlB 3 2 ∗ ow 3 (xch 3) ∗ kvG V 3 0 ∗ kvG V 3 1 ∗ winP 3 X W O ∗ holds 3 qM (k0_pay45 X W)) -∗ Kt (r48 3 O))
          -∗ WP 3 (k0_part48 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 (3 : D) (wd 3) v28) Kt) := by
  rw [k0_part48_eq_skeleton]
  unfold k0_part48_skel
  have h9 : ¬ k0_cond9 3 = 1#1 := by decide
  have h10 : ¬ k0_cond10 3 = 1#1 := by decide
  have h11 : k0_cond11 3 = 1#1 := by decide
  have h12 : ¬ k0_cond12 3 = 1#1 := by decide
  have h13 : Scalar.cmpi .ne (Scalar.extui (Scalar.cmpi .ne (wd 3) 0#32) : BitVec 32) 0#32 = 1#1 := by decide
  simp (config := { zeta := false }) only [dif_neg h9, dif_neg h10, dif_pos h11, dif_neg h12]
  simp only [dif_pos h13, k0_part41_eq_skeleton, k0_part41_skel, k0_part42_eq_skeleton, k0_part42_skel, k0_part43_eq_skeleton, k0_part43_skel, Prog.lift, Prog.bind_op, Prog.bind_ret, Prog.pure_eq_ret]
  iintro ⟨#HR, #HL, ⟨Hr0, Hr1, Hr2, Hh0, Hh1, Hh2, HO, Hk0, Hk1⟩, Hw, Hq⟩ Hk
  iapply (projStep 3 X W O) $$ [Hw Hq]
  · isplitl [Hw]; · iexact Hw
    iexact Hq
  iintro ⟨Hw, Hq⟩
  iapply (relayHop V K 3 0 (by decide) 7 0 (by decide) rfl ((outs 3).drop 1) (by decide) rfl (dstw := rlV 0) rfl rfl rfl rfl rfl rfl rfl) $$ [Hr0 Hh0 HO]
  · isplitr; · iexact HR
    isplitr; · iexact HL
    isplitl [Hr0]; · iexact Hr0
    isplitl [Hh0]; · iexact Hh0
    iexact HO
  iintro ⟨Hr0, HO⟩
  iapply (relayHop V K 3 1 (by decide) 7 1 (by decide) rfl ((outs 3).drop 2) (by decide) rfl (dstw := rlV 1) rfl rfl rfl rfl rfl rfl rfl) $$ [Hr1 Hh1 HO]
  · isplitr; · iexact HR
    isplitr; · iexact HL
    isplitl [Hr1]; · iexact Hr1
    isplitl [Hh1]; · iexact Hh1
    iexact HO
  iintro ⟨Hr1, HO⟩
  iapply (relayHop V K 3 2 (by decide) 6 0 (by decide) rfl ((outs 3).drop 3) (by decide) rfl (dstw := rlV 2) rfl rfl rfl rfl rfl rfl rfl) $$ [Hr2 Hh2 HO]
  · isplitr; · iexact HR
    isplitr; · iexact HL
    isplitl [Hr2]; · iexact Hr2
    isplitl [Hh2]; · iexact Hh2
    iexact HO
  iintro ⟨Hr2, HO⟩
  iapply (relayBack V K 3 0 (by decide) (xch 3) (by decide) rfl (dstw := rlV 0) rfl) $$ [Hr0 HO]
  · isplitr; · iexact HR
    isplitr; · iexact HL
    isplitl [Hr0]; · iexact Hr0
    iexact HO
  iintro ⟨Hr0, HO⟩
  iapply (relayBack V K 3 1 (by decide) (xch 3) (by decide) rfl (dstw := rlV 1) rfl) $$ [Hr1 HO]
  · isplitr; · iexact HR
    isplitr; · iexact HL
    isplitl [Hr1]; · iexact Hr1
    iexact HO
  iintro ⟨Hr1, HO⟩
  iapply (relayBack V K 3 2 (by decide) (xch 3) (by decide) rfl (dstw := rlV 2) rfl) $$ [Hr2 HO]
  · isplitr; · iexact HR
    isplitr; · iexact HL
    isplitl [Hr2]; · iexact Hr2
    iexact HO
  iintro ⟨Hr2, HO⟩
  iapply (kvWait V K 3 (by decide) 0 (xch 3) (by decide) rfl (dstw := kvV 0) rfl) $$ [Hk0 HO]
  · isplitr; · iexact HR
    isplitr; · iexact HL
    isplitl [Hk0]; · iexact Hk0
    iexact HO
  iintro ⟨Hk0, HO⟩
  iapply (kvWait V K 3 (by decide) 1 (xch 3) (by decide) rfl (dstw := kvV 1) rfl) $$ [Hk1 HO]
  · isplitr; · iexact HR
    isplitr; · iexact HL
    isplitl [Hk1]; · iexact Hk1
    iexact HO
  iintro ⟨Hk1, HO⟩
  iapply (wp_done (F := F))
  iapply Hk
  isplitl [Hr0]; · iexact Hr0
  isplitl [Hr1]; · iexact Hr1
  isplitl [Hr2]; · iexact Hr2
  isplitl [HO]; · iexact HO
  isplitl [Hk0]; · iexact Hk0
  isplitl [Hk1]; · iexact Hk1
  isplitl [Hw]; · iexact Hw
  iexact Hq

set_option maxHeartbeats 8000000 in
set_option maxRecDepth 65536 in
theorem part48_relay4 (X : S1x1024x1024.Idx → Elt F .f32) (W O : S1024x1024.Idx → Elt F .f32) (v28 : BitVec 1) (Kt) :
    iprop(records V K ∗ levAts L lv ∗ (rlW 4 0 ∗ rlW 4 1 ∗ hopP (5, .kv 1) ∗ hopP (6, .kv 1) ∗ ow 4 (outs 4) ∗ kvW 4 0 ∗ kvW 4 1) ∗ winP 4 X W O ∗ anyAt 4 qM)
      ⊢ iprop(((rlB 4 0 ∗ rlB 4 1 ∗ ow 4 (xch 4) ∗ kvG V 4 0 ∗ kvG V 4 1 ∗ winP 4 X W O ∗ holds 4 qM (k0_pay45 X W)) -∗ Kt (r48 4 O))
          -∗ WP 4 (k0_part48 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 (4 : D) (wd 4) v28) Kt) := by
  rw [k0_part48_eq_skeleton]
  unfold k0_part48_skel
  have h9 : ¬ k0_cond9 4 = 1#1 := by decide
  have h10 : ¬ k0_cond10 4 = 1#1 := by decide
  have h11 : ¬ k0_cond11 4 = 1#1 := by decide
  have h12 : k0_cond12 4 = 1#1 := by decide
  have h13 : Scalar.cmpi .ne (Scalar.extui (Scalar.cmpi .ne (wd 4) 0#32) : BitVec 32) 0#32 = 1#1 := by decide
  simp (config := { zeta := false }) only [dif_neg h9, dif_neg h10, dif_neg h11, dif_pos h12]
  simp only [dif_pos h13, k0_part44_eq_skeleton, k0_part44_skel, k0_part45_eq_skeleton, k0_part45_skel, Prog.lift, Prog.bind_op, Prog.bind_ret, Prog.pure_eq_ret]
  iintro ⟨#HR, #HL, ⟨Hr0, Hr1, Hh0, Hh1, HO, Hk0, Hk1⟩, Hw, Hq⟩ Hk
  iapply (projStep 4 X W O) $$ [Hw Hq]
  · isplitl [Hw]; · iexact Hw
    iexact Hq
  iintro ⟨Hw, Hq⟩
  iapply (relayHop V K 4 0 (by decide) 5 1 (by decide) rfl ((outs 4).drop 1) (by decide) rfl (dstw := rlV 0) rfl rfl rfl rfl rfl rfl rfl) $$ [Hr0 Hh0 HO]
  · isplitr; · iexact HR
    isplitr; · iexact HL
    isplitl [Hr0]; · iexact Hr0
    isplitl [Hh0]; · iexact Hh0
    iexact HO
  iintro ⟨Hr0, HO⟩
  iapply (relayHop V K 4 1 (by decide) 6 1 (by decide) rfl ((outs 4).drop 2) (by decide) rfl (dstw := rlV 1) rfl rfl rfl rfl rfl rfl rfl) $$ [Hr1 Hh1 HO]
  · isplitr; · iexact HR
    isplitr; · iexact HL
    isplitl [Hr1]; · iexact Hr1
    isplitl [Hh1]; · iexact Hh1
    iexact HO
  iintro ⟨Hr1, HO⟩
  iapply (relayBack V K 4 0 (by decide) (xch 4) (by decide) rfl (dstw := rlV 0) rfl) $$ [Hr0 HO]
  · isplitr; · iexact HR
    isplitr; · iexact HL
    isplitl [Hr0]; · iexact Hr0
    iexact HO
  iintro ⟨Hr0, HO⟩
  iapply (relayBack V K 4 1 (by decide) (xch 4) (by decide) rfl (dstw := rlV 1) rfl) $$ [Hr1 HO]
  · isplitr; · iexact HR
    isplitr; · iexact HL
    isplitl [Hr1]; · iexact Hr1
    iexact HO
  iintro ⟨Hr1, HO⟩
  iapply (kvWait V K 4 (by decide) 0 (xch 4) (by decide) rfl (dstw := kvV 0) rfl) $$ [Hk0 HO]
  · isplitr; · iexact HR
    isplitr; · iexact HL
    isplitl [Hk0]; · iexact Hk0
    iexact HO
  iintro ⟨Hk0, HO⟩
  iapply (kvWait V K 4 (by decide) 1 (xch 4) (by decide) rfl (dstw := kvV 1) rfl) $$ [Hk1 HO]
  · isplitr; · iexact HR
    isplitr; · iexact HL
    isplitl [Hk1]; · iexact Hk1
    iexact HO
  iintro ⟨Hk1, HO⟩
  iapply (wp_done (F := F))
  iapply Hk
  isplitl [Hr0]; · iexact Hr0
  isplitl [Hr1]; · iexact Hr1
  isplitl [HO]; · iexact HO
  isplitl [Hk0]; · iexact Hk0
  isplitl [Hk1]; · iexact Hk1
  isplitl [Hw]; · iexact Hw
  iexact Hq

set_option maxHeartbeats 8000000 in
set_option maxRecDepth 65536 in
theorem part48_leaf (c : D) (hc : c = 2 ∨ c = 5 ∨ c = 6 ∨ c = 7) (X : S1x1024x1024.Idx → Elt F .f32) (W O : S1024x1024.Idx → Elt F .f32) (v28 : BitVec 1) (Kt) :
    iprop(records V K ∗ levAts L lv ∗ (ow c (outs c) ∗ kvW c 0 ∗ kvW c 1) ∗ winP c X W O ∗ anyAt c qM)
      ⊢ iprop(((ow c (xch c) ∗ kvG V c 0 ∗ kvG V c 1 ∗ winP c X W O ∗ holds c qM (k0_pay45 X W)) -∗ Kt (r48 c O))
          -∗ WP c (k0_part48 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 (c : D) (wd c) v28) Kt) := by
  have hc0 : c ≠ 0 := by rcases hc with rfl | rfl | rfl | rfl <;> decide
  have ho : outs c = xch c := by rcases hc with rfl | rfl | rfl | rfl <;> rfl
  have hl : (xch c).all (fun x => decide (3 < lvk x.2)) = true := by rcases hc with rfl | rfl | rfl | rfl <;> decide
  rw [k0_part48_eq_skeleton, ho]
  unfold k0_part48_skel
  have h9 : ¬ k0_cond9 c = 1#1 := by rcases hc with rfl | rfl | rfl | rfl <;> decide
  have h10 : ¬ k0_cond10 c = 1#1 := by rcases hc with rfl | rfl | rfl | rfl <;> decide
  have h11 : ¬ k0_cond11 c = 1#1 := by rcases hc with rfl | rfl | rfl | rfl <;> decide
  have h12 : ¬ k0_cond12 c = 1#1 := by rcases hc with rfl | rfl | rfl | rfl <;> decide
  have h13 : Scalar.cmpi .ne (Scalar.extui (Scalar.cmpi .ne (wd c) 0#32) : BitVec 32) 0#32 = 1#1 := by rcases hc with rfl | rfl | rfl | rfl <;> decide
  simp (config := { zeta := false }) only [dif_neg h9, dif_neg h10, dif_neg h11, dif_neg h12]
  simp only [dif_pos h13, k0_part1_eq_skeleton, k0_part1_skel, Prog.lift, Prog.bind_op, Prog.bind_ret, Prog.pure_eq_ret]
  iintro ⟨#HR, #HL, ⟨HO, Hk0, Hk1⟩, Hw, Hq⟩ Hk
  iapply (projStep c X W O) $$ [Hw Hq]
  · isplitl [Hw]; · iexact Hw
    iexact Hq
  iintro ⟨Hw, Hq⟩
  iapply (kvWait V K c hc0 0 (xch c) hl rfl (dstw := kvV 0) rfl) $$ [Hk0 HO]
  · isplitr; · iexact HR
    isplitr; · iexact HL
    isplitl [Hk0]; · iexact Hk0
    iexact HO
  iintro ⟨Hk0, HO⟩
  iapply (kvWait V K c hc0 1 (xch c) hl rfl (dstw := kvV 1) rfl) $$ [Hk1 HO]
  · isplitr; · iexact HR
    isplitr; · iexact HL
    isplitl [Hk1]; · iexact Hk1
    iexact HO
  iintro ⟨Hk1, HO⟩
  iapply (wp_done (F := F))
  iapply Hk
  isplitl [HO]; · iexact HO
  isplitl [Hk0]; · iexact Hk0
  isplitl [Hk1]; · iexact Hk1
  isplitl [Hw]; · iexact Hw
  iexact Hq

end Cert.Proof.Attn

end
-- ==== Proof.Bar.lean ====
/-
  The barrier: each device signals the other seven, handing each the buffers that it writes, and waits for theirs.
-/
module

public import proofs.«01_k».proof.Proof.Feeding

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-- The devices a device signals, in program order. -/
def barL : D → List D
  | 0 => [1, 2, 3, 4, 5, 6, 7] | 1 => [0, 2, 3, 4, 5, 6, 7] | 2 => [0, 1, 3, 4, 5, 6, 7] | 3 => [0, 1, 2, 4, 5, 6, 7]
  | 4 => [0, 1, 2, 3, 5, 6, 7] | 5 => [0, 1, 2, 3, 4, 6, 7] | 6 => [0, 1, 2, 3, 4, 5, 7] | 7 => [0, 1, 2, 3, 4, 5, 6]
theorem bars_eq : ∀ c, bars c = (barL c).map (fun d => (d, .bar)) := by decide
theorem barL_ne : ∀ c, ∀ d ∈ barL c, c ≠ d := by decide
theorem barL_nodup : ∀ c, (barL c).Nodup := by decide
theorem barL_set : ∀ c, (barL c).toFinset = Finset.univ.erase c := by decide

/-- The signals still to make: what is owed, and each one's token and what it hands over. -/
def sigs (c : D) (l : List D) : sProp 𝕄 :=
  iprop(⌜∀ d ∈ l, c ≠ d⌝ ∗ ow c (l.map (fun d => (d, CK.bar)) ++ outs c) ∗ bigSepM (l : Multiset D) (fun d => iprop(tokOf (d, .bar) 0 c ∗ barPay d c)))

theorem signalNext (c n : D) {n' : D} (hn : n' = n) (l : List D) {sm : Sem sig} (hs : sm = barS)
    {α : Type} {Q : α → sProp 𝕄} {k : PUnit → Prog (TpuEff nD τ sig (Elt F) Λ₀ .tc) α} :
    iprop(records V K ∗ sigs c (n :: l))
      ⊢ iprop((sigs c l -∗ WP c (k ⟨⟩) Q) -∗ WP c (.op (.semSignal (Dev.tc n' : Thread nD τ) sm (1#32).toInt) k) Q) := by
  unfold sigs
  rw [list_cons]
  iintro ⟨#HR, %hc, HO, ⟨⟨Ht, Hp⟩, Hs⟩⟩ Hk
  iapply (signalStep V K c n hn (hc n List.mem_cons_self) hs (l.map (fun d => (d, CK.bar)) ++ outs c)) $$ [HO Ht Hp]
  · isplitr; · iexact HR
    isplitl [HO]; · iexact HO
    isplitl [Ht]; · iexact Ht
    iexact Hp
  iintro HO
  iapply Hk
  isplitr; · ipureintro; exact fun d hd => hc d (List.mem_cons_of_mem _ hd)
  isplitl [HO]; · iexact HO
  iexact Hs

theorem sig1 : ∀ c : D, k0_cond1 c = 1#1 ↔ c ≠ 0 := by decide
theorem sig2 : ∀ c : D, k0_cond2 c = 1#1 ↔ c ≠ 1 := by decide
theorem sig3 : ∀ c : D, k0_cond3 c = 1#1 ↔ c ≠ 2 := by decide
theorem sig4 : ∀ c : D, k0_cond4 c = 1#1 ↔ c ≠ 3 := by decide
theorem sig5 : ∀ c : D, k0_cond5 c = 1#1 ↔ c ≠ 4 := by decide
theorem sig6 : ∀ c : D, k0_cond6 c = 1#1 ↔ c ≠ 5 := by decide
theorem sig7 : ∀ c : D, k0_cond7 c = 1#1 ↔ c ≠ 6 := by decide
theorem sig8 : ∀ c : D, k0_cond8 c = 1#1 ↔ c ≠ 7 := by decide

theorem devEq (c : D) {α : Type} {Q : α → sProp 𝕄} {k : D → Prog (TpuEff nD τ sig (Elt F) Λ₀ .tc) α} :
    WP c (.op .deviceId k) Q = WP c (k c) Q := wp_deviceId ..

abbrev r47 (c : D) : Σ' (d0 : Dev nD) (v2 : BitVec 32), BitVec 1 := ⟨c, wd c, Scalar.cmpi .eq (wd c) 0#32⟩
theorem wd_eq : ∀ c : D, Scalar.remsi (Scalar.divsi (Dev.word c) 1#32) 8#32 = wd c := by decide

set_option pp.maxSteps 400 in
set_option maxHeartbeats 400000 in
set_option maxRecDepth 65536 in
theorem part47_run (c : D) (Kt) :
    iprop(records V K ∗ levAts L lv ∗ sigs c (barL c) ∗ crOf (c, .bar) 7 ∗ atOf (c, .bar) 0)
      ⊢ iprop(((ow c (outs c) ∗ atOf (c, .bar) 1 ∗ bigSep (Finset.univ.erase c) (fun d => barPay c d)) -∗ Kt (r47 c))
          -∗ WP c (k0_part47 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22) Kt) := by
  have hl : (outs c).all (fun x => decide (1 < lvk x.2)) = true := by revert c; decide
  rw [k0_part47_eq_skeleton]
  unfold k0_part47_skel
  simp (config := { zeta := false }) only [Prog.lift, Prog.bind_op, Prog.bind_ret]
  rw [devEq]
  have hc : c = 0 ∨ c = 1 ∨ c = 2 ∨ c = 3 ∨ c = 4 ∨ c = 5 ∨ c = 6 ∨ c = 7 := by revert c; decide
  rcases hc with rfl | rfl | rfl | rfl | rfl | rfl | rfl | rfl
  all_goals
    simp (config := { zeta := false, decide := true }) only [sig1, sig2, sig3, sig4, sig5, sig6, sig7, sig8, dite_true, dite_false, ne_eq, not_true_eq_false, not_false_eq_true]
    simp only [semSignalWord, semWaitWord, Prog.lift, Prog.bind_op, Prog.bind_ret, Prog.pure_eq_ret, wd_eq]
    iintro ⟨#HR, #HL, Hs, Hc, Ha⟩ Hk
    iterate 7
      iapply (signalNext V K _ _ rfl _ rfl) $$ [Hs]
      · isplitr; · iexact HR
        iexact Hs
      iintro Hs
    unfold sigs
    icases Hs with ⟨-, HO, -⟩
    iapply (barrierStep V K _ rfl (outs _) hl) $$ [Hc HO Ha]
    · isplitr; · iexact HR
      isplitr; · iexact HL
      isplitl [Hc]; · iexact Hc
      isplitl [HO]; · iexact HO
      iexact Ha
    iintro H
    iapply (wp_done (F := F))
    iapply Hk
    iexact H

end Cert.Proof.Attn

end
-- ==== Proof.Ends.lean ====
/-
  The distribution assembled for every device, device 0's last waits, and the copy of the result to the output array.
-/
module

public import proofs.«01_k».proof.Proof.Exchange
public import proofs.«01_k».proof.Proof.Relay
public import proofs.«01_k».proof.Proof.Bar

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-! ## The keys and values arrive: every device -/

/-- What a device brings to its part of the distribution, beside its two key/value slots; -/
def feedIn (A : Arrs F) : D → sProp 𝕄
  | 0 => iprop(feedP A feed ![.free 0, .free 0, .free 0, .free 0] ∗ (anyAt 0 (kvV 0) ∗ atOf (0, .kv 0) 0) ∗ (anyAt 0 (kvV 1) ∗ atOf (0, .kv 1) 0))
  | 1 => iprop(rlW 1 0 ∗ rlW 1 1 ∗ rlW 1 2 ∗ hopP (2, .kv 0) ∗ hopP (2, .kv 1) ∗ hopP (5, .kv 0) ∗ ow 1 (outs 1) ∗ kvW 1 0 ∗ kvW 1 1)
  | 3 => iprop(rlW 3 0 ∗ rlW 3 1 ∗ rlW 3 2 ∗ hopP (7, .kv 0) ∗ hopP (7, .kv 1) ∗ hopP (6, .kv 0) ∗ ow 3 (outs 3) ∗ kvW 3 0 ∗ kvW 3 1)
  | 4 => iprop(rlW 4 0 ∗ rlW 4 1 ∗ hopP (5, .kv 1) ∗ hopP (6, .kv 1) ∗ ow 4 (outs 4) ∗ kvW 4 0 ∗ kvW 4 1)
  | c => iprop(ow c (outs c) ∗ kvW c 0 ∗ kvW c 1)
/-- what it holds afterwards; -/
def feedOut (A : Arrs F) : D → sProp 𝕄
  | 0 => iprop(arrs 0 A ∗ stg0 0 ∗ bigSep Finset.univ (fun b => slotP b ((![.busy 3, .busy 3, .busy 2, .busy 2] : Fin 4 → SSt) b)))
  | 1 => iprop(rlB 1 0 ∗ rlB 1 1 ∗ rlB 1 2)
  | 3 => iprop(rlB 3 0 ∗ rlB 3 1 ∗ rlB 3 2)
  | 4 => iprop(rlB 4 0 ∗ rlB 4 1)
  | _ => iprop(emp)
/-- and at the end, when device 0's slots are its own again. -/
def feedEnd (A : Arrs F) : D → sProp 𝕄
  | 0 => iprop(arrs 0 A ∗ stg0 0 ∗ bigSep Finset.univ (fun b : Fin 4 => iprop(anyAt 0 (sbV b) ∗ atOf (0, .sc b) (nr 0 (.sc b)))))
  | 1 => iprop(rlB 1 0 ∗ rlB 1 1 ∗ rlB 1 2)
  | 3 => iprop(rlB 3 0 ∗ rlB 3 1 ∗ rlB 3 2)
  | 4 => iprop(rlB 4 0 ∗ rlB 4 1)
  | _ => iprop(emp)

theorem feedOut_0 (A : Arrs F) : feedOut A 0 = iprop(arrs 0 A ∗ stg0 0 ∗ bigSep Finset.univ (fun b => slotP b ((![.busy 3, .busy 3, .busy 2, .busy 2] : Fin 4 → SSt) b))) := rfl
theorem feedOut_1 (A : Arrs F) : feedOut A 1 = iprop(rlB 1 0 ∗ rlB 1 1 ∗ rlB 1 2) := rfl
theorem feedOut_3 (A : Arrs F) : feedOut A 3 = iprop(rlB 3 0 ∗ rlB 3 1 ∗ rlB 3 2) := rfl
theorem feedOut_4 (A : Arrs F) : feedOut A 4 = iprop(rlB 4 0 ∗ rlB 4 1) := rfl
theorem feedOut_ne (A : Arrs F) (c : D) (hc : c ≠ 0) : feedOut A c = feedEnd A c := by
  rcases (show c = 0 ∨ c = 1 ∨ c = 2 ∨ c = 3 ∨ c = 4 ∨ c = 5 ∨ c = 6 ∨ c = 7 by revert c; decide) with rfl | rfl | rfl | rfl | rfl | rfl | rfl | rfl
  · exact absurd rfl hc
  all_goals rfl
theorem slots_end : (bigSep Finset.univ (fun b => slotP b ((![.free 4, .free 4, .free 3, .free 3] : Fin 4 → SSt) b)) : sProp 𝕄)
    ⊢ bigSep Finset.univ (fun b : Fin 4 => iprop(anyAt 0 (sbV b) ∗ atOf (0, .sc b) (nr 0 (.sc b)))) := by
  refine bigSep_mono fun b _ => ?_
  have h : ∀ b : Fin 4, ((![.free 4, .free 4, .free 3, .free 3] : Fin 4 → SSt) b) = .free (nr 0 (.sc b)) := by intro b; fin_cases b <;> rfl
  rw [h b]
  show iprop(anyAt 0 (sbV b) ∗ atOf (0, .sc b) (nr 0 (.sc b)) ∗ reached ER (kcell (0, .sc b)) (nr 0 (.sc b))) ⊢ _
  iintro ⟨H, Ha, -⟩
  isplitl [H]; · iexact H
  iexact Ha

theorem dev_cases (c : D) : c = 0 ∨ c = 1 ∨ c = 2 ∨ c = 3 ∨ c = 4 ∨ c = 5 ∨ c = 6 ∨ c = 7 := by revert c; decide

theorem part48_run (A : Arrs F) (hKV : ∀ t d, V.KV d t = kvOf (A t) d) (c : D) (X : S1x1024x1024.Idx → Elt F .f32) (W O : S1024x1024.Idx → Elt F .f32) (v28 : BitVec 1) (Kt) :
    iprop(records V K ∗ levAts L lv ∗ feedIn A c ∗ winP c X W O ∗ anyAt c qM)
      ⊢ iprop(((feedOut A c ∗ ow c (xch c) ∗ kvG V c 0 ∗ kvG V c 1 ∗ winP c X W O ∗ holds c qM (k0_pay45 X W)) -∗ Kt (r48 c O))
          -∗ WP c (k0_part48 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 c (wd c) v28) Kt) := by
  rcases dev_cases c with rfl | rfl | rfl | rfl | rfl | rfl | rfl | rfl
  all_goals
    dsimp only [feedIn]
    first | rw [feedOut_0] | rw [feedOut_1] | rw [feedOut_3] | rw [feedOut_4] | dsimp only [feedOut]
    iintro ⟨#HR, #HL, Hf, Hw, Hq⟩ Hk
  · iapply (part48_zero V K A hKV X W O v28 Kt) $$ [Hf Hw Hq]
    · isplitr; · iexact HR
      isplitr; · iexact HL
      isplitl [Hf]; · iexact Hf
      isplitl [Hw]; · iexact Hw
      iexact Hq
    unfold feedP
    iintro ⟨⟨⟨HA, Hst, Hs, -, HO⟩, H0, H1⟩, Hw, Hq⟩
    iapply Hk
    isplitl [HA Hst Hs]
    · isplitl [HA]; · iexact HA
      isplitl [Hst]; · iexact Hst
      iexact Hs
    isplitl [HO]; · iexact HO
    isplitl [H0]; · iexact H0
    isplitl [H1]; · iexact H1
    isplitl [Hw]; · iexact Hw
    iexact Hq
  · iapply (part48_relay1 V K X W O v28 Kt) $$ [Hf Hw Hq]
    · isplitr; · iexact HR
      isplitr; · iexact HL
      isplitl [Hf]; · iexact Hf
      isplitl [Hw]; · iexact Hw
      iexact Hq
    iintro ⟨B0, B1, B2, HO, H0, H1, Hw, Hq⟩
    iapply Hk
    isplitl [B0 B1 B2]
    · isplitl [B0]; · iexact B0
      isplitl [B1]; · iexact B1
      iexact B2
    isplitl [HO]; · iexact HO
    isplitl [H0]; · iexact H0
    isplitl [H1]; · iexact H1
    isplitl [Hw]; · iexact Hw
    iexact Hq
  · iapply (part48_leaf V K 2 (by decide) X W O v28 Kt) $$ [Hf Hw Hq]
    · isplitr; · iexact HR
      isplitr; · iexact HL
      isplitl [Hf]; · iexact Hf
      isplitl [Hw]; · iexact Hw
      iexact Hq
    iintro ⟨HO, H0, H1, Hw, Hq⟩
    iapply Hk
    isplitr; · iempintro
    isplitl [HO]; · iexact HO
    isplitl [H0]; · iexact H0
    isplitl [H1]; · iexact H1
    isplitl [Hw]; · iexact Hw
    iexact Hq
  · iapply (part48_relay3 V K X W O v28 Kt) $$ [Hf Hw Hq]
    · isplitr; · iexact HR
      isplitr; · iexact HL
      isplitl [Hf]; · iexact Hf
      isplitl [Hw]; · iexact Hw
      iexact Hq
    iintro ⟨B0, B1, B2, HO, H0, H1, Hw, Hq⟩
    iapply Hk
    isplitl [B0 B1 B2]
    · isplitl [B0]; · iexact B0
      isplitl [B1]; · iexact B1
      iexact B2
    isplitl [HO]; · iexact HO
    isplitl [H0]; · iexact H0
    isplitl [H1]; · iexact H1
    isplitl [Hw]; · iexact Hw
    iexact Hq
  · iapply (part48_relay4 V K X W O v28 Kt) $$ [Hf Hw Hq]
    · isplitr; · iexact HR
      isplitr; · iexact HL
      isplitl [Hf]; · iexact Hf
      isplitl [Hw]; · iexact Hw
      iexact Hq
    iintro ⟨B0, B1, HO, H0, H1, Hw, Hq⟩
    iapply Hk
    isplitl [B0 B1]
    · isplitl [B0]; · iexact B0
      iexact B1
    isplitl [HO]; · iexact HO
    isplitl [H0]; · iexact H0
    isplitl [H1]; · iexact H1
    isplitl [Hw]; · iexact Hw
    iexact Hq
  · iapply (part48_leaf V K 5 (by decide) X W O v28 Kt) $$ [Hf Hw Hq]
    · isplitr; · iexact HR
      isplitr; · iexact HL
      isplitl [Hf]; · iexact Hf
      isplitl [Hw]; · iexact Hw
      iexact Hq
    iintro ⟨HO, H0, H1, Hw, Hq⟩
    iapply Hk
    isplitr; · iempintro
    isplitl [HO]; · iexact HO
    isplitl [H0]; · iexact H0
    isplitl [H1]; · iexact H1
    isplitl [Hw]; · iexact Hw
    iexact Hq
  · iapply (part48_leaf V K 6 (by decide) X W O v28 Kt) $$ [Hf Hw Hq]
    · isplitr; · iexact HR
      isplitr; · iexact HL
      isplitl [Hf]; · iexact Hf
      isplitl [Hw]; · iexact Hw
      iexact Hq
    iintro ⟨HO, H0, H1, Hw, Hq⟩
    iapply Hk
    isplitr; · iempintro
    isplitl [HO]; · iexact HO
    isplitl [H0]; · iexact H0
    isplitl [H1]; · iexact H1
    isplitl [Hw]; · iexact Hw
    iexact Hq
  · iapply (part48_leaf V K 7 (by decide) X W O v28 Kt) $$ [Hf Hw Hq]
    · isplitr; · iexact HR
      isplitr; · iexact HL
      isplitl [Hf]; · iexact Hf
      isplitl [Hw]; · iexact Hw
      iexact Hq
    iintro ⟨HO, H0, H1, Hw, Hq⟩
    iapply Hk
    isplitr; · iempintro
    isplitl [HO]; · iexact HO
    isplitl [H0]; · iexact H0
    isplitl [H1]; · iexact H1
    isplitl [Hw]; · iexact Hw
    iexact Hq

/-! ## The end of the body -/

theorem nr0 : nr 0 (.sc 0) = 4 ∧ nr 0 (.sc 1) = 4 ∧ nr 0 (.sc 2) = 3 ∧ nr 0 (.sc 3) = 3 := by decide

/-- The last four waits of device 0. -/
theorem part46_run (Kt) :
    iprop(records V K ∗ levAts L lv ∗ bigSep Finset.univ (fun b => slotP b ((![.busy 3, .busy 3, .busy 2, .busy 2] : Fin 4 → SSt) b)) ∗ ow 0 [])
      ⊢ iprop(((bigSep Finset.univ (fun b => slotP b ((![.free 4, .free 4, .free 3, .busy 2] : Fin 4 → SSt) b)) ∗ ow 0 []) -∗ Kt ⟨⟩)
          -∗ WP 0 (k0_part46 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22) Kt) := by
  rw [k0_part46_eq_skeleton]; unfold k0_part46_skel
  simp only [Prog.lift, Prog.bind_op, Prog.bind_ret, Prog.pure_eq_ret]
  iintro ⟨#HR, #HL, Hs, HO⟩ Hk
  iapply (slotWait V K 0 3 (by decide) (![.busy 3, .busy 3, .busy 2, .busy 2] : Fin 4 → SSt) rfl [] rfl rfl (dstw := sbV 0) rfl) $$ [Hs HO]
  · isplitr; · iexact HR
    isplitr; · iexact HL
    isplitl [Hs]; · iexact Hs
    iexact HO
  iintro ⟨Hs, HO⟩
  rw [show Function.update (![.busy 3, .busy 3, .busy 2, .busy 2] : Fin 4 → SSt) 0 (.free (3 + 1)) = (![.free 4, .busy 3, .busy 2, .busy 2] : Fin 4 → SSt) from by funext b; fin_cases b <;> rfl]
  iapply (slotWait V K 1 3 (by decide) (![.free 4, .busy 3, .busy 2, .busy 2] : Fin 4 → SSt) rfl [] rfl rfl (dstw := sbV 1) rfl) $$ [Hs HO]
  · isplitr; · iexact HR
    isplitr; · iexact HL
    isplitl [Hs]; · iexact Hs
    iexact HO
  iintro ⟨Hs, HO⟩
  rw [show Function.update (![.free 4, .busy 3, .busy 2, .busy 2] : Fin 4 → SSt) 1 (.free (3 + 1)) = (![.free 4, .free 4, .busy 2, .busy 2] : Fin 4 → SSt) from by funext b; fin_cases b <;> rfl]
  iapply (slotWait V K 2 2 (by decide) (![.free 4, .free 4, .busy 2, .busy 2] : Fin 4 → SSt) rfl [] rfl rfl (dstw := sbV 2) rfl) $$ [Hs HO]
  · isplitr; · iexact HR
    isplitr; · iexact HL
    isplitl [Hs]; · iexact Hs
    iexact HO
  iintro ⟨Hs, HO⟩
  rw [show Function.update (![.free 4, .free 4, .busy 2, .busy 2] : Fin 4 → SSt) 2 (.free (2 + 1)) = (![.free 4, .free 4, .free 3, .busy 2] : Fin 4 → SSt) from by funext b; fin_cases b <;> rfl]
  iapply (wp_done (F := F))
  iapply Hk
  isplitl [Hs]
  · iexact Hs
  iexact HO

/-- The result as it lies in the output array. -/
def outIx (i : S1x1024x1024.Idx) : S1024x1024.Idx := fun a => match a with
  | 0 => i 1 | 1 => i 2
def outFull (X : S1024x1024.Idx → Elt F .bf16) : S1x1024x1024.Idx → Elt F .bf16 := fun i => X (outIx i)

abbrev outV : Memref sig .tc .hbm S1024x1024 .bf16 :=
  ((Memref.whole main_v1).slice (Rect.unit (s := S1x1024x1024) ![0, 0, 0] S1x1024x1024.size inb_S1x1024x1024_S1x1024x1024_0_0_0) (fun _ => rfl)).squeeze S1024x1024 squeezes_S1x1024x1024_S1024x1024

theorem outV_emb (i : S1x1024x1024.Idx) : outV.view.emb (outIx i) = i := by
  show (Rect.unit (s := S1x1024x1024) ![0, 0, 0] S1x1024x1024.size inb_S1x1024x1024_S1x1024x1024_0_0_0).emb (Shape.reshapeEquiv _ (outIx i)) = i
  have e := Shape.reshapeEquiv_cons_one (n := 2) (d := ![1024, 1024]) (by decide +kernel) (outIx i)
  refine (congrArg _ e).trans ?_
  funext a
  apply Fin.ext
  rw [Rect.emb_apply]
  have h0 : (i 0).val < 1 := (i 0).isLt
  match a with
  | 0 => show 0 + 1 * 0 = (i 0).val; omega
  | 1 => show 0 + 1 * (i 1).val = (i 1).val; omega
  | 2 => show 0 + 1 * (i 2).val = (i 2).val; omega
theorem outV_set : outV.view.set = Finset.univ := by
  ext i
  simp only [Finset.mem_univ, iff_true]
  rw [← outV_emb i]
  exact Finset.mem_map_of_mem _ (Finset.mem_univ _)
theorem outV_write (c : D) (f : Buf (Elt F) (outV.view.loc (c : Thread nD τ))) (X : S1024x1024.Idx → Elt F .bf16) :
    outV.view.write (Elt F) f X Finset.univ = outFull X := by
  funext i
  conv => lhs; rw [← outV_emb i]
  rw [View.write_emb_of_mem _ _ (Finset.mem_univ _)]
  rfl

/-- The output array of device `c` at contents `X`. -/
def outAt (c : D) (X : S1x1024x1024.Idx → Elt F .bf16) : sProp 𝕄 := ((c : Thread nD τ).loc main_v1) ↦{fullShare} (X : Buf (Elt F) ((c : Thread nD τ).loc main_v1))

theorem accb_set : (accb).view.set = Finset.univ := (Memref.isWhole_whole cc0_scratch5).set_eq_univ

/-- The copy of the result out is under way. -/
theorem hpos : 0 < outV.view.amount (.dma outS) := by show 0 < outV.view.dmaCredit; decide +kernel
theorem outCopy (c : D) {α : Type} (k : PUnit → Prog (TpuEff nD τ sig (Elt F) Λ₀ .tc) α) (Q : α → sProp 𝕄) (Y : S1x1024x1024.Idx → Elt F .bf16)
    {dst : Memref sig .tc .hbm S1024x1024 .bf16} (hd : dst = outV) {a1 a2 a3} :
    iprop(outRows V c Finset.univ ∗ outAt c Y ∗ semVal ((c : Thread nD τ), .dma outS) 0)
      ⊢ iprop((Transfers.Flight EC (c : Thread nD τ) (.dma outS) () outV.view.dmaCredit iprop(outAt c (outFull V.out) ∗ outRows V c Finset.univ) -∗ WP c (k ⟨⟩) Q)
        -∗ WP c (.op (.enqueueDma accb (.here dst) (.dma outS) a1 a2 a3) k) Q) := by
  subst hd
  have e1 : outRows V c Finset.univ = (accb.view.loc (c : Thread nD τ) ↦[accb.view.set]{fullShare} (V.out : Buf (Elt F) ((c : Thread nD τ).loc cc0_scratch5)) : sProp 𝕄) := by
    rw [accb_set]; rfl
  have e2 : (outV.view.loc (c : Thread nD τ) ↦[Finset.univ]{fullShare} (outV.view.write (Elt F) (Y : Buf (Elt F) ((c : Thread nD τ).loc main_v1)) (accb.view.read (Elt F) (V.out : Buf (Elt F) ((c : Thread nD τ).loc cc0_scratch5))) Finset.univ) : sProp 𝕄)
      = outAt c (outFull V.out) := by
    rw [outV_write c]; rfl
  rw [e1, ← e2]
  iintro ⟨Hr, Ho, Hv⟩ Hk
  iapply (Transfers.wp_dmaLocal EC 𝒱₀ (c : Thread nD τ) none (src := accb) (dst := outV) (fs := (V.out : Buf (Elt F) ((c : Thread nD τ).loc cc0_scratch5)))
    (fd := (Y : Buf (Elt F) ((c : Thread nD τ).loc main_v1))) () _ rfl hpos (Finset.subset_univ _)) $$ [Hr Ho Hv]
  · isplitl [Hr]; · iexact Hr
    isplitl [Ho]; · unfold outAt; iexact Ho
    iexact Hv
  iintro HF
  iapply Hk
  iexact HF

end Cert.Proof.Attn

end
-- ==== Proof.Deal.lean ====
/-
  What each device brings to the kernel and gets back: the buffers handed over at the barrier, the tokens it spends,
  and its part of the distribution, device by device.
-/
module

public import proofs.«01_k».proof.Proof.Ends

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-! ## The tokens a device spends -/

/-- The payments a device makes of its own cells while it distributes; -/
def ownT : D → List ((D × CK) × ℕ × D)
  | 0 => feed.map (fun it => ((0, .sc it.b), it.r, 0))
  | 1 => [((1, .fw 0), 0, 0), ((1, .fw 1), 0, 0), ((1, .fw 2), 0, 0)]
  | 3 => [((3, .fw 0), 0, 0), ((3, .fw 1), 0, 0), ((3, .fw 2), 0, 0)]
  | 4 => [((4, .fw 0), 0, 0), ((4, .fw 1), 0, 0)]
  | _ => []
/-- and while it exchanges. -/
def xT (c : D) : List ((D × CK) × ℕ × D) :=
  [((c, .rss 0), 0, 0), ((c, .rss 1), 0, 0), ((c, .rss 2), 0, 0), ((c, .ags 0), 0, 0), ((c, .ags 1), 0, 0), ((c, .ags 2), 0, 0)]
def toksL (c : D) : List ((D × CK) × ℕ × D) :=
  ((barL c).map (fun d => ((d, CK.bar), 0, c)) ++ (outs c).map (fun x => (x, 0, (0 : D)))) ++ (ownT c ++ xT c)
abbrev tok (x : (D × CK) × ℕ × D) : sProp 𝕄 := tokOf x.1 x.2.1 x.2.2

theorem assoc3 (P Q R : sProp 𝕄) : iprop((P ∗ Q) ∗ R) ⊣⊢ iprop(P ∗ Q ∗ R) := by
  constructor
  · iintro ⟨⟨H1, H2⟩, H3⟩
    isplitl [H1]; · iexact H1
    isplitl [H2]; · iexact H2
    iexact H3
  · iintro ⟨H1, H2, H3⟩
    isplitl [H1 H2]
    · isplitl [H1]; · iexact H1
      iexact H2
    iexact H3

theorem list_nil {I : Type} (Φ : I → sProp 𝕄) : bigSepM (([] : List I) : Multiset I) Φ = iprop(emp) := rfl
theorem list_map {I J : Type} (f : I → J) (l : List I) (Φ : J → sProp 𝕄) :
    bigSepM ((l.map f : List J) : Multiset J) Φ = bigSepM (l : Multiset I) (fun i => Φ (f i)) := by
  induction l with
  | nil => rfl
  | cons i l ih => rw [List.map_cons, list_cons, list_cons, ih]
theorem list_sep {I : Type} (l : List I) (Φ Ψ : I → sProp 𝕄) :
    bigSepM (l : Multiset I) (fun i => iprop(Φ i ∗ Ψ i)) ⊣⊢ iprop(bigSepM (l : Multiset I) Φ ∗ bigSepM (l : Multiset I) Ψ) := by
  induction l with
  | nil =>
    rw [list_nil, list_nil, list_nil]
    exact ⟨by iintro H; isplitl; · iexact H
              iempintro, by iintro ⟨H, -⟩; iexact H⟩
  | cons i l ih =>
    rw [list_cons, list_cons, list_cons]
    constructor
    · iintro ⟨⟨H1, H2⟩, H⟩
      ihave H := ih.1 $$ H
      icases H with ⟨H3, H4⟩
      isplitl [H1 H3]
      · isplitl [H1]; · iexact H1
        iexact H3
      isplitl [H2]; · iexact H2
      iexact H4
    · iintro ⟨⟨H1, H3⟩, H2, H4⟩
      isplitl [H1 H2]
      · isplitl [H1]; · iexact H1
        iexact H2
      iapply ih.2
      isplitl [H3]; · iexact H3
      iexact H4

theorem fin2 (Φ : Fin 2 → sProp 𝕄) : bigSep Finset.univ Φ = iprop(Φ 0 ∗ Φ 1) := bigSep_univ_eq_bigSepL [0, 1] (by decide) (by decide) Φ
theorem fin3 (Φ : Fin 3 → sProp 𝕄) : bigSep Finset.univ Φ = iprop(Φ 0 ∗ Φ 1 ∗ Φ 2) := bigSep_univ_eq_bigSepL [0, 1, 2] (by decide) (by decide) Φ
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-! ## The buffers the barrier hands over -/

/-- A buffer no other device writes stays; -/
def kept (c : D) (k : CK) : sProp 𝕄 := match payer c k with | none => buf c k | some _ => iprop(emp)
/-- the others go to the devices that write them; -/
def gone (c : D) (k : CK) : sProp 𝕄 := match payer c k with | none => iprop(emp) | some _ => buf c k
/-- and their landing is a credit the device holds. -/
def credIf (c : D) (k : CK) : sProp 𝕄 := match payer c k with | none => iprop(emp) | some _ => crOf (c, k) (amt k)

theorem buf_split (c : D) (k : CK) : buf (F := F) c k ⊢ iprop(kept c k ∗ gone c k) := by
  unfold kept gone
  cases payer c k with
  | none => iintro H; isplitl; · iexact H
            iempintro
  | some d => iintro H; isplitr; · iempintro
              iexact H

theorem barPay_self (c : D) : barPay (F := F) c c = iprop(emp) := by
  unfold barPay
  rw [bigSep_congr (Ψ := fun _ => iprop(emp)) fun k _ => if_neg (payer_ne c k)]
  exact bigSep_emp_const _
theorem one_payer (c : D) (k : CK) : bigSep Finset.univ (fun d : D => if payer c k = some d then buf (F := F) c k else iprop(emp)) = gone c k := by
  unfold gone
  cases h : payer c k with
  | none =>
    rw [bigSep_congr (Ψ := fun _ => iprop(emp)) fun d _ => if_neg (by simp)]
    exact bigSep_emp_const _
  | some e =>
    rw [bigSep_univ_at _ e, if_pos rfl, bigSep_congr (Ψ := fun _ => iprop(emp)) fun d hd => if_neg (by
      intro h; exact (Finset.ne_of_mem_erase hd) (Option.some.inj h).symm)]
    rw [show bigSep (Finset.univ.erase e) (fun _ : D => (iprop(emp) : sProp 𝕄)) = iprop(emp) from bigSep_emp_const _]
    exact equiv_iff.mp sep_emp
/-- What a device hands out at the barrier. -/
theorem bar_give (c : D) : bigSep Finset.univ (fun k : CK => gone (F := F) c k) ⊢ bigSep (Finset.univ.erase c) (fun d => barPay d c) := by
  have e : bigSep Finset.univ (fun d => barPay (F := F) d c) = iprop(barPay c c ∗ bigSep (Finset.univ.erase c) (fun d => barPay d c)) := bigSep_univ_at _ c
  rw [barPay_self] at e
  refine (Entails.of_eq ?_).trans ((Entails.of_eq e).trans (by iintro ⟨-, H⟩; iexact H))
  unfold barPay
  rw [bigSep_univ_comm]
  exact bigSep_congr fun k _ => (one_payer c k).symm
/-- What it receives. -/
theorem bar_take (c : D) : bigSep (Finset.univ.erase c) (fun d => barPay (F := F) c d) ⊢ bigSepM (outs c : Multiset (D × CK)) (fun x => buf x.1 x.2) := by
  have e : bigSep Finset.univ (fun d => barPay (F := F) c d) = iprop(barPay c c ∗ bigSep (Finset.univ.erase c) (fun d => barPay c d)) := bigSep_univ_at _ c
  rw [barPay_self] at e
  rw [list_set (outs_nodup c), outs_toFinset, bigSep_filter, bigSep_univ_prod]
  refine (show _ ⊢ iprop(emp ∗ bigSep (Finset.univ.erase c) (fun d => barPay (F := F) c d)) from by iintro H; isplitr; · iempintro
                                                                                                    iexact H).trans (Entails.of_eq e.symm)

/-! ## The distribution's resources, device by device -/

/-- Before: the arrays and staging slots, device 0's slots, the key/value and relay slots, the cells' positions, the tokens. -/
def feedRes (A : D → Arrs F) (c : D) : sProp 𝕄 :=
  iprop((arrs c (A c) ∗ stg0 c) ∗ bigSep Finset.univ (fun b : Fin 4 => iprop(anyAt c (sbV b) ∗ atOf (c, .sc b) 0))
    ∗ bigSep Finset.univ (fun t : Fin 2 => iprop(kept c (.kv t) ∗ credIf c (.kv t) ∗ atOf (c, .kv t) 0))
    ∗ bigSep Finset.univ (fun s : Fin 3 => iprop(kept c (.rl s) ∗ credIf c (.rl s) ∗ atOf (c, .rl s) 0 ∗ atOf (c, .fw s) 0))
    ∗ bigSepM (ownT c : Multiset _) tok)
/-- After. -/
def feedDone (A : D → Arrs F) (c : D) : sProp 𝕄 :=
  iprop((arrs c (A c) ∗ stg0 c) ∗ bigSep Finset.univ (fun b : Fin 4 => iprop(anyAt c (sbV b) ∗ atOf (c, .sc b) (nr c (.sc b))))
    ∗ bigSep Finset.univ (fun t : Fin 2 => iprop(anyAt c (kvV t) ∗ atOf (c, .kv t) (nr c (.kv t))))
    ∗ bigSep Finset.univ (fun s : Fin 3 => iprop(anyAt c (rlV s) ∗ atOf (c, .rl s) (nr c (.rl s)) ∗ atOf (c, .fw s) (nr c (.fw s)))))

theorem kvG_done (c : D) (t : Fin 2) : kvG V c t ⊢ iprop(anyAt c (kvV t) ∗ atOf (c, .kv t) (nr c (.kv t))) := by
  unfold kvG
  iintro ⟨H, Ha⟩
  isplitl [H]; · iapply holds_any; iexact H
  iexact Ha

theorem feedEnd_0 (A : Arrs F) : feedEnd A 0 = iprop(arrs 0 A ∗ stg0 0 ∗ bigSep Finset.univ (fun b : Fin 4 => iprop(anyAt 0 (sbV b) ∗ atOf (0, .sc b) (nr 0 (.sc b))))) := rfl
theorem deal_0 (A : D → Arrs F) :
    iprop(feedRes A 0 ∗ bigSepM (hops 0 : Multiset (D × CK)) hopP ∗ ow 0 (outs 0) ∗ records V K)
      ⊢ iprop(feedIn (A 0) 0 ∗ ((feedEnd (A 0) 0 ∗ kvG V 0 0 ∗ kvG V 0 1) -∗ feedDone A 0)) := by
  have hb : ∀ b, iprop(records V K ∗ (anyAt 0 (sbV b) ∗ atOf (0, .sc b) 0)) ⊢ slotP (F := F) b ((![.free 0, .free 0, .free 0, .free 0] : Fin 4 → SSt) b) := by
    intro b
    rw [show (![.free 0, .free 0, .free 0, .free 0] : Fin 4 → SSt) b = .free 0 from by fin_cases b <;> rfl]
    show _ ⊢ iprop(anyAt 0 (sbV b) ∗ atOf (0, .sc b) 0 ∗ reached ER (kcell (0, .sc b)) 0)
    iintro ⟨HR, H, Ha⟩
    ihave Hr := (records_at V K (0, .sc b)) $$ HR
    icases Hr with ⟨-, Hr⟩
    isplitl [H]; · iexact H
    isplitl [Ha]; · iexact Ha
    iexact Hr
  have ht : bigSepM ((ownT 0 : List _) : Multiset ((D × CK) × ℕ × D)) tok = (bigSepM (feed : Multiset Item) (fun it => tokOf (0, .sc it.b) it.r 0) : sProp 𝕄) := list_map _ _ _
  have hh : bigSepM ((hops 0 : List _) : Multiset (D × CK)) hopP = (bigSepM (feed : Multiset Item) (fun it => hopP it.x) : sProp 𝕄) := list_map Item.x feed _
  unfold feedRes
  rw [ht, hh, fin2, fin3]
  iintro ⟨⟨⟨HA, Hst⟩, Hb, ⟨⟨H0, -, Ha0⟩, H1, -, Ha1⟩, ⟨⟨R0, -, B0, C0⟩, ⟨R1, -, B1, C1⟩, R2, -, B2, C2⟩, Ht⟩, Hh, HO, #HR⟩
  ihave Hb := (bigSep_with_persistent (R := records V K) (S := Finset.univ) fun b _ => hb b) $$ [Hb]
  · isplitr; · iexact HR
    iexact Hb
  ihave Hit := (list_sep (F := F) feed (fun it => hopP it.x) (fun it => tokOf (0, .sc it.b) it.r 0)).2 $$ [Hh Ht]
  · isplitl [Hh]; · iexact Hh
    iexact Ht
  have h1 : iprop(feedP (A 0) feed ![.free 0, .free 0, .free 0, .free 0] ∗ (anyAt 0 (kvV 0) ∗ atOf (0, .kv 0) 0) ∗ (anyAt 0 (kvV 1) ∗ atOf (0, .kv 1) 0)) ⊢ feedIn (A 0) 0 := Entails.of_eq rfl
  have hi : bigSepM (feed : Multiset Item) (fun it => iprop(hopP it.x ∗ tokOf (0, .sc it.b) it.r 0)) ⊢ (bigSepM (feed : Multiset Item) itemP : sProp 𝕄) := by
    refine Entails.of_eq (congrArg _ (funext fun it => ?_))
    unfold hopP itemP
    exact equiv_iff.mp ⟨(assoc3 _ _ _).1, (assoc3 _ _ _).2⟩
  have hk0 : kept (F := F) 0 (.kv 0) ⊢ anyAt 0 (kvV 0) := Entails.of_eq rfl
  have hk1 : kept (F := F) 0 (.kv 1) ⊢ anyAt 0 (kvV 1) := Entails.of_eq rfl
  isplitl [HA Hst Hb H0 H1 Ha0 Ha1 HO Hit]
  · iapply h1
    isplitl [HA Hst Hb HO Hit]
    · unfold feedP
      isplitl [HA]; · iexact HA
      isplitl [Hst]; · iexact Hst
      isplitl [Hb]; · iexact Hb
      isplitl [Hit]; · iapply hi; iexact Hit
      iexact HO
    isplitl [H0 Ha0]
    · isplitl [H0]; · iapply hk0; iexact H0
      iexact Ha0
    isplitl [H1]; · iapply hk1; iexact H1
    iexact Ha1
  iintro ⟨He, G0, G1⟩
  ihave He := (Entails.of_eq (feedEnd_0 (A 0))) $$ He
  icases He with ⟨HA, Hst, Hb⟩
  unfold feedDone
  rw [fin2, fin3]
  isplitl [HA Hst]
  · isplitl [HA]; · iexact HA
    iexact Hst
  isplitl [Hb]; · iexact Hb
  isplitl [G0 G1]
  · isplitl [G0]; · iapply (kvG_done V 0 0); iexact G0
    iapply (kvG_done V 0 1); iexact G1
  have hr : ∀ s, iprop(kept (F := F) 0 (.rl s) ∗ atOf (0, .rl s) 0 ∗ atOf (0, .fw s) 0) ⊢ iprop(anyAt 0 (rlV s) ∗ atOf (0, .rl s) (nr 0 (.rl s)) ∗ atOf (0, .fw s) (nr 0 (.fw s))) := fun s => Entails.of_eq (by fin_cases s <;> rfl)
  isplitl [R0 B0 C0]
  · iapply (hr 0)
    isplitl [R0]; · iexact R0
    isplitl [B0]; · iexact B0
    iexact C0
  isplitl [R1 B1 C1]
  · iapply (hr 1)
    isplitl [R1]; · iexact R1
    isplitl [B1]; · iexact B1
    iexact C1
  iapply (hr 2)
  isplitl [R2]; · iexact R2
  isplitl [B2]; · iexact B2
  iexact C2

theorem deal_1 (A : D → Arrs F) :
    iprop(feedRes A 1 ∗ bigSepM (hops 1 : Multiset (D × CK)) hopP ∗ ow 1 (outs 1))
      ⊢ iprop(feedIn (A 0) 1 ∗ ((feedEnd (A 0) 1 ∗ kvG V 1 0 ∗ kvG V 1 1) -∗ feedDone A 1)) := by
  have ht : bigSepM ((ownT 1 : List _) : Multiset ((D × CK) × ℕ × D)) tok = (iprop(tokOf (1, .fw 0) 0 0 ∗ tokOf (1, .fw 1) 0 0 ∗ tokOf (1, .fw 2) 0 0 ∗ emp) : sProp 𝕄) := by
    show bigSepM (([((1, .fw 0), 0, 0), ((1, .fw 1), 0, 0), ((1, .fw 2), 0, 0)] : List ((D × CK) × ℕ × D)) : Multiset ((D × CK) × ℕ × D)) tok = _
    simp only [list_cons, list_nil]
  have hh : bigSepM ((hops 1 : List _) : Multiset (D × CK)) hopP = (iprop(hopP (2, .kv 0) ∗ hopP (2, .kv 1) ∗ hopP (5, .kv 0) ∗ emp) : sProp 𝕄) := by
    show bigSepM (([(2, .kv 0), (2, .kv 1), (5, .kv 0)] : List (D × CK)) : Multiset (D × CK)) hopP = _
    simp only [list_cons, list_nil]
  have hb : ∀ b : Fin 4, nr 1 (.sc b) = 0 := by decide
  have h1 : iprop(rlW 1 0 ∗ rlW 1 1 ∗ rlW 1 2 ∗ hopP (2, .kv 0) ∗ hopP (2, .kv 1) ∗ hopP (5, .kv 0) ∗ ow 1 (outs 1) ∗ kvW 1 0 ∗ kvW 1 1) ⊢ feedIn (F := F) (A 0) 1 := Entails.of_eq rfl
  have h2 : feedEnd (F := F) (A 0) 1 ⊢ iprop(rlB 1 0 ∗ rlB 1 1 ∗ rlB 1 2) := Entails.of_eq rfl
  have c0 : credIf (F := F) 1 (.kv 0) ⊢ crOf (1, .kv 0) NSlot := Entails.of_eq rfl
  have c1 : credIf (F := F) 1 (.kv 1) ⊢ crOf (1, .kv 1) NSlot := Entails.of_eq rfl
  have cr : ∀ s : Fin 3, s.val < 3 → credIf (F := F) 1 (.rl s) ⊢ crOf (1, .rl s) NSlot := fun s hs => Entails.of_eq (by fin_cases s <;> first | rfl | exact absurd hs (by decide))
  have hrb : ∀ s : Fin 3, s.val < 3 → rlB (F := F) 1 s ⊢ iprop(anyAt 1 (rlV s) ∗ atOf (1, .rl s) (nr 1 (.rl s)) ∗ atOf (1, .fw s) (nr 1 (.fw s))) := fun s hs => Entails.of_eq (by fin_cases s <;> first | rfl | exact absurd hs (by decide))
  unfold feedRes
  rw [ht, hh, fin2, fin3]
  iintro ⟨⟨⟨HA, Hst⟩, Hb, ⟨⟨-, H0, Ha0⟩, -, H1, Ha1⟩, ⟨⟨-, D0, B0, C0⟩, ⟨-, D1, B1, C1⟩, -, D2, B2, C2⟩, ⟨T0, T1, T2, -⟩⟩, ⟨P0, P1, P2, -⟩, HO⟩
  isplitl [D0 B0 C0 T0 P0 D1 B1 C1 T1 P1 D2 B2 C2 T2 P2 H0 H1 Ha0 Ha1 HO]
  · iapply h1
    isplitl [D0 B0 C0 T0]
    · unfold rlW
      isplitl [D0]; · iapply (cr 0 (by decide)); iexact D0
      isplitl [B0]; · iexact B0
      isplitl [C0]; · iexact C0
      iexact T0
    isplitl [D1 B1 C1 T1]
    · unfold rlW
      isplitl [D1]; · iapply (cr 1 (by decide)); iexact D1
      isplitl [B1]; · iexact B1
      isplitl [C1]; · iexact C1
      iexact T1
    isplitl [D2 B2 C2 T2]
    · unfold rlW
      isplitl [D2]; · iapply (cr 2 (by decide)); iexact D2
      isplitl [B2]; · iexact B2
      isplitl [C2]; · iexact C2
      iexact T2
    isplitl [P0]; · iexact P0
    isplitl [P1]; · iexact P1
    isplitl [P2]; · iexact P2
    isplitl [HO]; · iexact HO
    isplitl [H0 Ha0]
    · unfold kvW
      isplitl [H0]; · iapply c0; iexact H0
      iexact Ha0
    unfold kvW
    isplitl [H1]; · iapply c1; iexact H1
    iexact Ha1
  iintro ⟨He, G0, G1⟩
  ihave He := h2 $$ He
  icases He with ⟨E0, E1, E2⟩
  unfold feedDone
  rw [fin2, fin3]
  simp only [hb]
  isplitl [HA Hst]
  · isplitl [HA]; · iexact HA
    iexact Hst
  isplitl [Hb]; · iexact Hb
  isplitl [G0 G1]
  · isplitl [G0]; · iapply (kvG_done V 1 0); iexact G0
    iapply (kvG_done V 1 1); iexact G1
  isplitl [E0]; · iapply (hrb 0 (by decide)); iexact E0
  isplitl [E1]; · iapply (hrb 1 (by decide)); iexact E1
  iapply (hrb 2 (by decide)); iexact E2

theorem deal_3 (A : D → Arrs F) :
    iprop(feedRes A 3 ∗ bigSepM (hops 3 : Multiset (D × CK)) hopP ∗ ow 3 (outs 3))
      ⊢ iprop(feedIn (A 0) 3 ∗ ((feedEnd (A 0) 3 ∗ kvG V 3 0 ∗ kvG V 3 1) -∗ feedDone A 3)) := by
  have ht : bigSepM ((ownT 3 : List _) : Multiset ((D × CK) × ℕ × D)) tok = (iprop(tokOf (3, .fw 0) 0 0 ∗ tokOf (3, .fw 1) 0 0 ∗ tokOf (3, .fw 2) 0 0 ∗ emp) : sProp 𝕄) := by
    show bigSepM (([((3, .fw 0), 0, 0), ((3, .fw 1), 0, 0), ((3, .fw 2), 0, 0)] : List ((D × CK) × ℕ × D)) : Multiset ((D × CK) × ℕ × D)) tok = _
    simp only [list_cons, list_nil]
  have hh : bigSepM ((hops 3 : List _) : Multiset (D × CK)) hopP = (iprop(hopP (7, .kv 0) ∗ hopP (7, .kv 1) ∗ hopP (6, .kv 0) ∗ emp) : sProp 𝕄) := by
    show bigSepM (([(7, .kv 0), (7, .kv 1), (6, .kv 0)] : List (D × CK)) : Multiset (D × CK)) hopP = _
    simp only [list_cons, list_nil]
  have hb : ∀ b : Fin 4, nr 3 (.sc b) = 0 := by decide
  have h1 : iprop(rlW 3 0 ∗ rlW 3 1 ∗ rlW 3 2 ∗ hopP (7, .kv 0) ∗ hopP (7, .kv 1) ∗ hopP (6, .kv 0) ∗ ow 3 (outs 3) ∗ kvW 3 0 ∗ kvW 3 1) ⊢ feedIn (F := F) (A 0) 3 := Entails.of_eq rfl
  have h2 : feedEnd (F := F) (A 0) 3 ⊢ iprop(rlB 3 0 ∗ rlB 3 1 ∗ rlB 3 2) := Entails.of_eq rfl
  have c0 : credIf (F := F) 3 (.kv 0) ⊢ crOf (3, .kv 0) NSlot := Entails.of_eq rfl
  have c1 : credIf (F := F) 3 (.kv 1) ⊢ crOf (3, .kv 1) NSlot := Entails.of_eq rfl
  have cr : ∀ s : Fin 3, s.val < 3 → credIf (F := F) 3 (.rl s) ⊢ crOf (3, .rl s) NSlot := fun s hs => Entails.of_eq (by fin_cases s <;> first | rfl | exact absurd hs (by decide))
  have hrb : ∀ s : Fin 3, s.val < 3 → rlB (F := F) 3 s ⊢ iprop(anyAt 3 (rlV s) ∗ atOf (3, .rl s) (nr 3 (.rl s)) ∗ atOf (3, .fw s) (nr 3 (.fw s))) := fun s hs => Entails.of_eq (by fin_cases s <;> first | rfl | exact absurd hs (by decide))
  unfold feedRes
  rw [ht, hh, fin2, fin3]
  iintro ⟨⟨⟨HA, Hst⟩, Hb, ⟨⟨-, H0, Ha0⟩, -, H1, Ha1⟩, ⟨⟨-, D0, B0, C0⟩, ⟨-, D1, B1, C1⟩, -, D2, B2, C2⟩, ⟨T0, T1, T2, -⟩⟩, ⟨P0, P1, P2, -⟩, HO⟩
  isplitl [D0 B0 C0 T0 P0 D1 B1 C1 T1 P1 D2 B2 C2 T2 P2 H0 H1 Ha0 Ha1 HO]
  · iapply h1
    isplitl [D0 B0 C0 T0]
    · unfold rlW
      isplitl [D0]; · iapply (cr 0 (by decide)); iexact D0
      isplitl [B0]; · iexact B0
      isplitl [C0]; · iexact C0
      iexact T0
    isplitl [D1 B1 C1 T1]
    · unfold rlW
      isplitl [D1]; · iapply (cr 1 (by decide)); iexact D1
      isplitl [B1]; · iexact B1
      isplitl [C1]; · iexact C1
      iexact T1
    isplitl [D2 B2 C2 T2]
    · unfold rlW
      isplitl [D2]; · iapply (cr 2 (by decide)); iexact D2
      isplitl [B2]; · iexact B2
      isplitl [C2]; · iexact C2
      iexact T2
    isplitl [P0]; · iexact P0
    isplitl [P1]; · iexact P1
    isplitl [P2]; · iexact P2
    isplitl [HO]; · iexact HO
    isplitl [H0 Ha0]
    · unfold kvW
      isplitl [H0]; · iapply c0; iexact H0
      iexact Ha0
    unfold kvW
    isplitl [H1]; · iapply c1; iexact H1
    iexact Ha1
  iintro ⟨He, G0, G1⟩
  ihave He := h2 $$ He
  icases He with ⟨E0, E1, E2⟩
  unfold feedDone
  rw [fin2, fin3]
  simp only [hb]
  isplitl [HA Hst]
  · isplitl [HA]; · iexact HA
    iexact Hst
  isplitl [Hb]; · iexact Hb
  isplitl [G0 G1]
  · isplitl [G0]; · iapply (kvG_done V 3 0); iexact G0
    iapply (kvG_done V 3 1); iexact G1
  isplitl [E0]; · iapply (hrb 0 (by decide)); iexact E0
  isplitl [E1]; · iapply (hrb 1 (by decide)); iexact E1
  iapply (hrb 2 (by decide)); iexact E2

theorem deal_4 (A : D → Arrs F) :
    iprop(feedRes A 4 ∗ bigSepM (hops 4 : Multiset (D × CK)) hopP ∗ ow 4 (outs 4))
      ⊢ iprop(feedIn (A 0) 4 ∗ ((feedEnd (A 0) 4 ∗ kvG V 4 0 ∗ kvG V 4 1) -∗ feedDone A 4)) := by
  have ht : bigSepM ((ownT 4 : List _) : Multiset ((D × CK) × ℕ × D)) tok = (iprop(tokOf (4, .fw 0) 0 0 ∗ tokOf (4, .fw 1) 0 0 ∗ emp) : sProp 𝕄) := by
    show bigSepM (([((4, .fw 0), 0, 0), ((4, .fw 1), 0, 0)] : List ((D × CK) × ℕ × D)) : Multiset ((D × CK) × ℕ × D)) tok = _
    simp only [list_cons, list_nil]
  have hh : bigSepM ((hops 4 : List _) : Multiset (D × CK)) hopP = (iprop(hopP (5, .kv 1) ∗ hopP (6, .kv 1) ∗ emp) : sProp 𝕄) := by
    show bigSepM (([(5, .kv 1), (6, .kv 1)] : List (D × CK)) : Multiset (D × CK)) hopP = _
    simp only [list_cons, list_nil]
  have hb : ∀ b : Fin 4, nr 4 (.sc b) = 0 := by decide
  have h1 : iprop(rlW 4 0 ∗ rlW 4 1 ∗ hopP (5, .kv 1) ∗ hopP (6, .kv 1) ∗ ow 4 (outs 4) ∗ kvW 4 0 ∗ kvW 4 1) ⊢ feedIn (F := F) (A 0) 4 := Entails.of_eq rfl
  have h2 : feedEnd (F := F) (A 0) 4 ⊢ iprop(rlB 4 0 ∗ rlB 4 1) := Entails.of_eq rfl
  have c0 : credIf (F := F) 4 (.kv 0) ⊢ crOf (4, .kv 0) NSlot := Entails.of_eq rfl
  have c1 : credIf (F := F) 4 (.kv 1) ⊢ crOf (4, .kv 1) NSlot := Entails.of_eq rfl
  have cr : ∀ s : Fin 3, s.val < 2 → credIf (F := F) 4 (.rl s) ⊢ crOf (4, .rl s) NSlot := fun s hs => Entails.of_eq (by fin_cases s <;> first | rfl | exact absurd hs (by decide))
  have hr : ∀ s : Fin 3, 2 ≤ s.val → iprop(kept (F := F) 4 (.rl s) ∗ atOf (4, .rl s) 0 ∗ atOf (4, .fw s) 0) ⊢ iprop(anyAt 4 (rlV s) ∗ atOf (4, .rl s) (nr 4 (.rl s)) ∗ atOf (4, .fw s) (nr 4 (.fw s))) := fun s hs => Entails.of_eq (by fin_cases s <;> first | rfl | exact absurd hs (by decide))
  have hrb : ∀ s : Fin 3, s.val < 2 → rlB (F := F) 4 s ⊢ iprop(anyAt 4 (rlV s) ∗ atOf (4, .rl s) (nr 4 (.rl s)) ∗ atOf (4, .fw s) (nr 4 (.fw s))) := fun s hs => Entails.of_eq (by fin_cases s <;> first | rfl | exact absurd hs (by decide))
  unfold feedRes
  rw [ht, hh, fin2, fin3]
  iintro ⟨⟨⟨HA, Hst⟩, Hb, ⟨⟨-, H0, Ha0⟩, -, H1, Ha1⟩, ⟨⟨-, D0, B0, C0⟩, ⟨-, D1, B1, C1⟩, R2, -, B2, C2⟩, ⟨T0, T1, -⟩⟩, ⟨P0, P1, -⟩, HO⟩
  isplitl [D0 B0 C0 T0 P0 D1 B1 C1 T1 P1 H0 H1 Ha0 Ha1 HO]
  · iapply h1
    isplitl [D0 B0 C0 T0]
    · unfold rlW
      isplitl [D0]; · iapply (cr 0 (by decide)); iexact D0
      isplitl [B0]; · iexact B0
      isplitl [C0]; · iexact C0
      iexact T0
    isplitl [D1 B1 C1 T1]
    · unfold rlW
      isplitl [D1]; · iapply (cr 1 (by decide)); iexact D1
      isplitl [B1]; · iexact B1
      isplitl [C1]; · iexact C1
      iexact T1
    isplitl [P0]; · iexact P0
    isplitl [P1]; · iexact P1
    isplitl [HO]; · iexact HO
    isplitl [H0 Ha0]
    · unfold kvW
      isplitl [H0]; · iapply c0; iexact H0
      iexact Ha0
    unfold kvW
    isplitl [H1]; · iapply c1; iexact H1
    iexact Ha1
  iintro ⟨He, G0, G1⟩
  ihave He := h2 $$ He
  icases He with ⟨E0, E1⟩
  unfold feedDone
  rw [fin2, fin3]
  simp only [hb]
  isplitl [HA Hst]
  · isplitl [HA]; · iexact HA
    iexact Hst
  isplitl [Hb]; · iexact Hb
  isplitl [G0 G1]
  · isplitl [G0]; · iapply (kvG_done V 4 0); iexact G0
    iapply (kvG_done V 4 1); iexact G1
  isplitl [E0]; · iapply (hrb 0 (by decide)); iexact E0
  isplitl [E1]; · iapply (hrb 1 (by decide)); iexact E1
  iapply (hr 2 (by decide))
  isplitl [R2]; · iexact R2
  isplitl [B2]; · iexact B2
  iexact C2

theorem deal_leaf (c : D) (hc : c = 2 ∨ c = 5 ∨ c = 6 ∨ c = 7) (A : D → Arrs F) :
    iprop(feedRes A c ∗ bigSepM (hops c : Multiset (D × CK)) hopP ∗ ow c (outs c))
      ⊢ iprop(feedIn (A 0) c ∗ ((feedEnd (A 0) c ∗ kvG V c 0 ∗ kvG V c 1) -∗ feedDone A c)) := by
  have hb : ∀ b : Fin 4, nr c (.sc b) = 0 := by rcases hc with rfl | rfl | rfl | rfl <;> decide
  have h1 : iprop(ow c (outs c) ∗ kvW c 0 ∗ kvW c 1) ⊢ feedIn (F := F) (A 0) c := by rcases hc with rfl | rfl | rfl | rfl <;> exact Entails.of_eq rfl
  have h2 : feedEnd (F := F) (A 0) c ⊢ iprop(emp) := by rcases hc with rfl | rfl | rfl | rfl <;> exact Entails.of_eq rfl
  have c0 : credIf (F := F) c (.kv 0) ⊢ crOf (c, .kv 0) NSlot := by rcases hc with rfl | rfl | rfl | rfl <;> exact Entails.of_eq rfl
  have c1 : credIf (F := F) c (.kv 1) ⊢ crOf (c, .kv 1) NSlot := by rcases hc with rfl | rfl | rfl | rfl <;> exact Entails.of_eq rfl
  have cr : ∀ s : Fin 3, s.val < 0 → credIf (F := F) c (.rl s) ⊢ crOf (c, .rl s) NSlot := fun s hs => Entails.of_eq (by rcases hc with rfl | rfl | rfl | rfl <;> fin_cases s <;> first | rfl | exact absurd hs (by decide))
  have hr : ∀ s : Fin 3, 0 ≤ s.val → iprop(kept (F := F) c (.rl s) ∗ atOf (c, .rl s) 0 ∗ atOf (c, .fw s) 0) ⊢ iprop(anyAt c (rlV s) ∗ atOf (c, .rl s) (nr c (.rl s)) ∗ atOf (c, .fw s) (nr c (.fw s))) := fun s hs => Entails.of_eq (by rcases hc with rfl | rfl | rfl | rfl <;> fin_cases s <;> first | rfl | exact absurd hs (by decide))
  have hrb : ∀ s : Fin 3, s.val < 0 → rlB (F := F) c s ⊢ iprop(anyAt c (rlV s) ∗ atOf (c, .rl s) (nr c (.rl s)) ∗ atOf (c, .fw s) (nr c (.fw s))) := fun s hs => Entails.of_eq (by rcases hc with rfl | rfl | rfl | rfl <;> fin_cases s <;> first | rfl | exact absurd hs (by decide))
  unfold feedRes
  rw [fin2, fin3]
  iintro ⟨⟨⟨HA, Hst⟩, Hb, ⟨⟨-, H0, Ha0⟩, -, H1, Ha1⟩, ⟨⟨R0, -, B0, C0⟩, ⟨R1, -, B1, C1⟩, R2, -, B2, C2⟩, -⟩, -, HO⟩
  isplitl [H0 H1 Ha0 Ha1 HO]
  · iapply h1
    isplitl [HO]; · iexact HO
    isplitl [H0 Ha0]
    · unfold kvW
      isplitl [H0]; · iapply c0; iexact H0
      iexact Ha0
    unfold kvW
    isplitl [H1]; · iapply c1; iexact H1
    iexact Ha1
  iintro ⟨He, G0, G1⟩
  ihave He := h2 $$ He
  unfold feedDone
  rw [fin2, fin3]
  simp only [hb]
  isplitl [HA Hst]
  · isplitl [HA]; · iexact HA
    iexact Hst
  isplitl [Hb]; · iexact Hb
  isplitl [G0 G1]
  · isplitl [G0]; · iapply (kvG_done V c 0); iexact G0
    iapply (kvG_done V c 1); iexact G1
  isplitl [R0 B0 C0]
  · iapply (hr 0 (by decide))
    isplitl [R0]; · iexact R0
    isplitl [B0]; · iexact B0
    iexact C0
  isplitl [R1 B1 C1]
  · iapply (hr 1 (by decide))
    isplitl [R1]; · iexact R1
    isplitl [B1]; · iexact B1
    iexact C1
  iapply (hr 2 (by decide))
  isplitl [R2]; · iexact R2
  isplitl [B2]; · iexact B2
  iexact C2

/-- The distribution's resources for any device. -/
theorem feed_deal (A : D → Arrs F) (c : D) :
    iprop(feedRes A c ∗ bigSepM (hops c : Multiset (D × CK)) hopP ∗ ow c (outs c) ∗ records V K)
      ⊢ iprop(feedIn (A 0) c ∗ ((feedEnd (A 0) c ∗ kvG V c 0 ∗ kvG V c 1) -∗ feedDone A c)) := by
  have hd : iprop(feedRes A c ∗ bigSepM (hops c : Multiset (D × CK)) hopP ∗ ow c (outs c) ∗ records V K)
      ⊢ iprop(feedRes A c ∗ bigSepM (hops c : Multiset (D × CK)) hopP ∗ ow c (outs c)) := by
    iintro ⟨H1, H2, H3, -⟩
    isplitl [H1]; · iexact H1
    isplitl [H2]; · iexact H2
    iexact H3
  rcases dev_cases c with rfl | rfl | rfl | rfl | rfl | rfl | rfl | rfl
  · exact deal_0 V K A
  · exact hd.trans (deal_1 V A)
  · exact hd.trans (deal_leaf V 2 (by decide) A)
  · exact hd.trans (deal_3 V A)
  · exact hd.trans (deal_4 V A)
  · exact hd.trans (deal_leaf V 5 (by decide) A)
  · exact hd.trans (deal_leaf V 6 (by decide) A)
  · exact hd.trans (deal_leaf V 7 (by decide) A)

end Cert.Proof.Attn

end
-- ==== Proof.Body.lean ====
/-
  The kernel body on one device, from the barrier to the copy of the result, assembled from its sections.
-/
module

public import proofs.«01_k».proof.Proof.Deal

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : Vals F) (K : D × CK → ℕ)

/-! ## What the exchange needs -/

def exAt (c : D) (n : ℕ) : sProp 𝕄 :=
  bigSep Finset.univ (fun s : Fin 3 => iprop(atOf (c, .rss s) n ∗ atOf (c, .rsr s) n ∗ atOf (c, .ags s) n ∗ atOf (c, .agr s) n))
def exCr (c : D) : sProp 𝕄 :=
  bigSep Finset.univ (fun s : Fin 3 => iprop(crOf (c, .rsr s) (amt (.rsr s)) ∗ crOf (c, .agr s) (amt (.agr s))))
def exRes (c : D) : sProp 𝕄 :=
  iprop(anyAt c qM ∗ anyAt c accM ∗ anyRows c (agSet 0 c) ∗ anyAt c ssM0 ∗ anyAt c ssM1 ∗ anyAt c ssM2 ∗ exAt c 0 ∗ exCr c ∗ bigSepM (xT c : Multiset _) tok)
def exDone (c : D) : sProp 𝕄 :=
  iprop(anyAt c qM ∗ anyAt c accM ∗ anyRows c Finset.univ ∗ anyAt c ssM0 ∗ anyAt c ssM1 ∗ anyAt c ssM2 ∗ anyAt c rsM0 ∗ anyAt c rsM1 ∗ anyAt c rsM2 ∗ exAt c 1)

theorem drop_emp (P : sProp 𝕄) : iprop(P ∗ emp) = P := Entails.antisymm (show iprop(P ∗ emp) ⊢ P from by iintro ⟨H, -⟩; iexact H)
  (show P ⊢ iprop(P ∗ emp) from by
    iintro H
    isplitl; · iexact H
    iempintro)
theorem bind_step (c : D) {α β : Type} (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ _ _ _
theorem bind_in (c : D) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := Entails.of_eq (bind_step c p k Q).symm

theorem xch_hops (c : D) : bigSepM ((xch c : List _) : Multiset (D × CK)) (hopP (F := F))
    = iprop(hopP (rsp 0 c, .rsr 0) ∗ hopP (rsp 1 c, .rsr 1) ∗ hopP (rsp 2 c, .rsr 2) ∗ hopP (agp 0 c, .agr 0) ∗ hopP (agp 1 c, .agr 1) ∗ hopP (agp 2 c, .agr 2)) := by
  unfold xch
  simp only [list_cons, list_nil]
  rw [drop_emp]
theorem xT_toks (c : D) : bigSepM ((xT c : List _) : Multiset ((D × CK) × ℕ × D)) (tok (F := F))
    = iprop(tokOf (c, .rss 0) 0 0 ∗ tokOf (c, .rss 1) 0 0 ∗ tokOf (c, .rss 2) 0 0 ∗ tokOf (c, .ags 0) 0 0 ∗ tokOf (c, .ags 1) 0 0 ∗ tokOf (c, .ags 2) 0 0) := by
  unfold xT
  simp only [list_cons, list_nil]
  rw [drop_emp]

theorem att_intro (c : D) (Q : S1024x1024.Idx → Elt F .bf16) (KK VV : S1024x8x128.Idx → Elt F .bf16) :
    iprop(holds c qM Q ∗ holds c (kvV 0) KK ∗ holds c (kvV 1) VV) ⊢ att c Q KK VV := Entails.of_eq rfl

theorem exDone_intro (c : D) :
    iprop(anyAt c qM ∗ anyAt c accM ∗ anyRows c Finset.univ ∗ anyAt c ssM0 ∗ anyAt c ssM1 ∗ anyAt c ssM2 ∗ anyAt c rsM0 ∗ anyAt c rsM1 ∗ anyAt c rsM2
      ∗ (atOf (c, .rss 0) 1 ∗ atOf (c, .rsr 0) 1 ∗ atOf (c, .ags 0) 1 ∗ atOf (c, .agr 0) 1)
      ∗ (atOf (c, .rss 1) 1 ∗ atOf (c, .rsr 1) 1 ∗ atOf (c, .ags 1) 1 ∗ atOf (c, .agr 1) 1)
      ∗ (atOf (c, .rss 2) 1 ∗ atOf (c, .rsr 2) 1 ∗ atOf (c, .ags 2) 1 ∗ atOf (c, .agr 2) 1)) ⊢ exDone (F := F) c := by
  unfold exDone exAt
  rw [fin3]

/-- The rows device `c` keeps, before any partner's are added. -/
def keep0 (c : D) (X : S1x1024x1024.Idx → Elt F .f32) (W O : S1024x1024.Idx → Elt F .f32) (KK VV : S1024x8x128.Idx → Elt F .bf16) : FVec F S512x1024 .f32 :=
  keepP (k0_pay46 O) (keepM c) (keepQ c (k0_pay45 X W)) (headsOf KK) (headsOf VV)
abbrev accK (c : D) (X : S1x1024x1024.Idx → Elt F .f32) (W O : S1024x1024.Idx → Elt F .f32) : S1024x1024.Idx → Elt F .f32 :=
  acc0 c (keep0 c X W O (V.KV c 0) (V.KV c 1))

set_option maxHeartbeats 4000000 in
/-- Device 0 waits for its last copies; the others have none. -/
theorem last_waits (c : D) (A : Arrs F) {α : Type} (k : Prog (TpuEff nD τ sig (Elt F) Λ₀ .tc) α) (Q : α → sProp 𝕄)
    {sm : DmaSem sig} (hs : sm = sem4 cc0_scratch15 3) {srcw dstw : Memref sig .tc .vmem S1024x8x128 .bf16} (hN : dstw = sbV 3)
    {a1 : srcw.view.WordExact} {a2 : dstw.view.WordExact} :
    iprop(records V K ∗ levAts L lv ∗ feedOut A c ∗ ow c [])
      ⊢ iprop(((feedEnd A c ∗ ow c []) -∗ WP c (k) Q)
          -∗ WP c (if h : Scalar.cmpi .ne (Scalar.extui (Scalar.cmpi .eq (wd c) 0#32) : BitVec 32) 0#32 = 1#1
              then ((k0_part46 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22) >>= fun _ => Prog.op (.waitDma2 sm srcw dstw a1 a2) fun _ => k) else k) Q) := by
  subst hN hs
  by_cases hc : c = 0
  · subst hc
    have h : Scalar.cmpi .ne (Scalar.extui (Scalar.cmpi .eq (wd 0) 0#32) : BitVec 32) 0#32 = 1#1 := by decide
    rw [dif_pos h, bind_step, feedOut_0]
    iintro ⟨#HR, #HL, ⟨HA, Hst, Hs⟩, HO⟩ Hk
    iapply (part46_run V K _) $$ [Hs HO]
    · isplitr; · iexact HR
      isplitr; · iexact HL
      isplitl [Hs]; · iexact Hs
      iexact HO
    iintro ⟨Hs, HO⟩
    iapply (slotWait V K 3 2 (by decide) (![.free 4, .free 4, .free 3, .busy 2] : Fin 4 → SSt) rfl [] rfl rfl (dstw := sbV 3) rfl) $$ [Hs HO]
    · isplitr; · iexact HR
      isplitr; · iexact HL
      isplitl [Hs]; · iexact Hs
      iexact HO
    iintro ⟨Hs, HO⟩
    rw [show Function.update (![.free 4, .free 4, .free 3, .busy 2] : Fin 4 → SSt) 3 (.free (2 + 1)) = (![.free 4, .free 4, .free 3, .free 3] : Fin 4 → SSt) from by funext b; fin_cases b <;> rfl]
    iapply Hk
    isplitr [HO]
    · rw [feedEnd_0]
      isplitl [HA]; · iexact HA
      isplitl [Hst]; · iexact Hst
      iapply (slots_end (F := F)); iexact Hs
    iexact HO
  · have h : ¬ Scalar.cmpi .ne (Scalar.extui (Scalar.cmpi .eq (wd c) 0#32) : BitVec 32) 0#32 = 1#1 := by
      revert hc; revert c; decide
    rw [dif_neg h, feedOut_ne A c hc]
    iintro ⟨-, -, Hf, HO⟩ Hk
    iapply Hk
    isplitl [Hf]; · iexact Hf
    iexact HO

/-! ## The whole kernel body on one device -/

set_option pp.maxSteps 80 in
set_option maxHeartbeats 4000000 in
set_option maxRecDepth 65536 in
theorem body_run (A : D → Arrs F) (hKV : ∀ t d, V.KV d t = kvOf (A 0 t) d) (c : D) (X : S1x1024x1024.Idx → Elt F .f32) (W O : S1024x1024.Idx → Elt F .f32)
    (hx0 : V.x0 c = sendP (k0_pay46 O) (sendM c) (sendQ c (k0_pay45 X W)) (headsOf (V.KV c 0)) (headsOf (V.KV c 1)))
    (hx1 : V.x1 c = k0_pay81 (pick (r18 c) (acc1 c (accK V c X W O) (V.x0 (rsp 0 c)))))
    (hx2 : V.x2 c = k0_pay83 (pick (r20 c) (acc2 c (acc1 c (accK V c X W O) (V.x0 (rsp 0 c))) (V.x1 (rsp 1 c)))))
    (hout : ∀ j, V.out ((r21 c).emb j) = k0_pay85 (pick (r21 c) (acc3 c (acc2 c (acc1 c (accK V c X W O) (V.x0 (rsp 0 c))) (V.x1 (rsp 1 c))) (V.x2 (rsp 2 c)))) j)
    (Y : S1x1024x1024.Idx → Elt F .bf16) (Kt : PUnit → sProp 𝕄) :
    iprop(records V K ∗ levAts L lv ∗ sigs c (barL c) ∗ crOf (c, .bar) 7 ∗ atOf (c, .bar) 0 ∗ bigSepM (outs c : Multiset (D × CK)) (fun x => tokOf x 0 0)
        ∗ feedRes A c ∗ exRes c ∗ winP c X W O ∗ outAt c Y ∗ semVal ((c : Thread nD τ), .dma outS) 0)
      ⊢ iprop(((ow c [] ∗ atOf (c, .bar) 1 ∗ feedDone A c ∗ winP c X W O ∗ outAt c (outFull V.out) ∗ semVal ((c : Thread nD τ), .dma outS) 0 ∗ exDone c) -∗ Kt ⟨⟩)
          -∗ WP c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22) Kt) := by
  rw [cc0_body_eq_skeleton]
  unfold cc0_body_skel
  rw [k0_part65_eq_skeleton]
  unfold k0_part65_skel
  unfold exRes exAt exCr
  rw [fin3, fin3, xT_toks]
  iintro ⟨#HR, #HL, Hs, Hcb, Hab, Ht, Hf, Hex, Hw, Hout, Hv⟩ Hk
  icases Hex with ⟨Hq, Hacc, Ho, Hs0, Hs1, Hs2, Hat, Hcr, Htk⟩
  icases Hat with ⟨⟨As0, Ar0, Ag0, Br0⟩, ⟨As1, Ar1, Ag1, Br1⟩, As2, Ar2, Ag2, Br2⟩
  icases Hcr with ⟨⟨Cr0, Cg0⟩, ⟨Cr1, Cg1⟩, Cr2, Cg2⟩
  icases Htk with ⟨Ts0, Ts1, Ts2, Tg0, Tg1, Tg2⟩
  iapply (bind_in c)
  iapply (bind_in c)
  iapply (part47_run V K c _) $$ [Hs Hcb Hab]
  · isplitr; · iexact HR
    isplitr; · iexact HL
    isplitl [Hs]; · iexact Hs
    isplitl [Hcb]; · iexact Hcb
    iexact Hab
  iintro ⟨HO, Hab, Hg⟩
  try dsimp only
  ihave Hg := (bar_take (F := F) c) $$ Hg
  ihave Hh := (list_sep (F := F) (outs c) (fun x => buf x.1 x.2) (fun x => tokOf x 0 0)).2 $$ [Hg Ht]
  · isplitl [Hg]; · iexact Hg
    iexact Ht
  ihave Hh := (Entails.of_eq (show bigSepM ((outs c : List _) : Multiset (D × CK)) (fun x => iprop(buf (F := F) x.1 x.2 ∗ tokOf x 0 0)) = iprop(bigSepM ((hops c : List _) : Multiset (D × CK)) hopP ∗ bigSepM ((xch c : List _) : Multiset (D × CK)) hopP) from list_append _ _ _)) $$ Hh
  icases Hh with ⟨Hh, Hx⟩
  ihave Hx := (Entails.of_eq (xch_hops (F := F) c)) $$ Hx
  icases Hx with ⟨X0, X1, X2, Y0, Y1, Y2⟩
  ihave Hf := (feed_deal V K A c) $$ [Hf Hh HO]
  · isplitl [Hf]; · iexact Hf
    isplitl [Hh]; · iexact Hh
    isplitl [HO]; · iexact HO
    iexact HR
  icases Hf with ⟨Hf, Hend⟩
  iapply (bind_in c)
  iapply (part48_run V K (A 0) hKV c X W O _ _) $$ [Hf Hw Hq]
  · isplitr; · iexact HR
    isplitr; · iexact HL
    isplitl [Hf]; · iexact Hf
    isplitl [Hw]; · iexact Hw
    iexact Hq
  iintro ⟨Hf, HO, HG0, HG1, Hw, Hq⟩
  unfold kvG
  icases HG0 with ⟨Hk0, G0⟩
  icases HG1 with ⟨Hk1, G1⟩
  try dsimp only
  iapply (bind_in c)
  iapply (part49_run (F := F) c _)
  iintro %a %b
  dsimp only
  iapply (bind_in c)
  iapply (part50_run (F := F) c a b _)
  iintro %z0 %z1 %z2 %z3 %z4
  dsimp only
  ihave Ha := (att_intro c (k0_pay45 X W) (V.KV c 0) (V.KV c 1)) $$ [Hq Hk0 Hk1]
  · isplitl [Hq]; · iexact Hq
    isplitl [Hk0]; · iexact Hk0
    iexact Hk1
  iapply (bind_in c)
  iapply (part51_run c (k0_pay45 X W) (V.KV c 0) (V.KV c 1) _ _ _ _ _) $$ Ha; iintro Ha
  dsimp only
  iapply (bind_in c)
  iapply (part52_run c (k0_pay45 X W) (V.KV c 0) (V.KV c 1) _ _ _ _ _) $$ Ha; iintro Ha
  dsimp only
  iapply (bind_in c)
  iapply (part53_run c (k0_pay45 X W) (V.KV c 0) (V.KV c 1) _ _ _ _ _ _) $$ Ha; iintro Ha
  dsimp only
  iapply (bind_in c)
  iapply (part54_run c (k0_pay45 X W) (V.KV c 0) (V.KV c 1) _ _ _ _) $$ Ha; iintro Ha
  dsimp only
  iapply (bind_in c)
  iapply (part55_run V K c (k0_pay45 X W) (V.KV c 0) (V.KV c 1) (k0_pay46 O) _ _ _ _ _ _ _ _ _ _ _ hx0.symm _) $$ [Ha Hs0 X0 Ts0 HO]
  · isplitr; · iexact HR
    isplitl [Ha]; · iexact Ha
    isplitl [Hs0]; · iexact Hs0
    isplitl [X0]; · iexact X0
    isplitl [Ts0]; · iexact Ts0
    iexact HO
  iintro ⟨Ha, Cs0, HO⟩
  try dsimp only
  iapply (bind_in c)
  iapply (part56_run (F := F) c _ _ _ _ _ _ _)
  iapply (bind_in c)
  iapply (part57_run c (k0_pay45 X W) (V.KV c 0) (V.KV c 1) _ _ _) $$ Ha; iintro Ha
  dsimp only
  iapply (bind_in c)
  iapply (part58_run c (k0_pay45 X W) (V.KV c 0) (V.KV c 1) _ _ _ _) $$ Ha; iintro Ha
  dsimp only
  iapply (bind_in c)
  iapply (part59_run c (k0_pay45 X W) (V.KV c 0) (V.KV c 1) _ _ _ _ _ _) $$ Ha; iintro Ha
  dsimp only
  iapply (bind_in c)
  iapply (part60_run V K c (k0_pay45 X W) (V.KV c 0) (V.KV c 1) (k0_pay46 O) _ _ _ _ _ _ _ _ _ (fun _ => FloatOps.ofBits .f32 0#32) _) $$ [Ha Hacc Cs0 As0 HO]
  · isplitr; · iexact HR
    isplitr; · iexact HL
    isplitl [Ha]; · iexact Ha
    isplitl [Hacc]; · iexact Hacc
    isplitl [Cs0]; · iexact Cs0
    isplitl [As0]; · iexact As0
    iexact HO
  iintro ⟨Ha, Hacc, ⟨Hs0, As0⟩, HO⟩
  try dsimp only
  iapply (bind_in c)
  iapply (part61_run V K c (accK V c X W O) _ _ _ _ _ hx1.symm _) $$ [Hacc Cr0 Ar0 Hs1 X1 Ts1 As1 HO]
  · isplitr; · iexact HR
    isplitr; · iexact HL
    isplitl [Hacc]; · iexact Hacc
    isplitl [Cr0 Ar0]
    · isplitl [Cr0]; · iexact Cr0
      iexact Ar0
    isplitl [Hs1 X1 Ts1 As1]
    · isplitl [Hs1]; · iexact Hs1
      isplitl [X1]; · iexact X1
      isplitl [Ts1]; · iexact Ts1
      iexact As1
    iexact HO
  iintro ⟨Hacc, ⟨Hr0, Ar0⟩, ⟨Hs1, As1⟩, HO⟩ %u1 %u2 %u3
  try dsimp only
  iapply (bind_in c)
  iapply (part62_run V K c _ _ _ _ _ _ hx2.symm _) $$ [Hacc Cr1 Ar1 Hs2 X2 Ts2 As2 HO]
  · isplitr; · iexact HR
    isplitr; · iexact HL
    isplitl [Hacc]; · iexact Hacc
    isplitl [Cr1 Ar1]
    · isplitl [Cr1]; · iexact Cr1
      iexact Ar1
    isplitl [Hs2 X2 Ts2 As2]
    · isplitl [Hs2]; · iexact Hs2
      isplitl [X2]; · iexact X2
      isplitl [Ts2]; · iexact Ts2
      iexact As2
    iexact HO
  iintro ⟨Hacc, ⟨Hr1, Ar1⟩, ⟨Hs2, As2⟩, HO⟩ %u4
  try dsimp only
  iapply (bind_in c)
  iapply (part63_run V K c _ _ _ hout _) $$ [Hacc Cr2 Ar2 Ho Y0 Tg0 Ag0 HO]
  · isplitr; · iexact HR
    isplitr; · iexact HL
    isplitl [Hacc]; · iexact Hacc
    isplitl [Cr2 Ar2]
    · isplitl [Cr2]; · iexact Cr2
      iexact Ar2
    isplitl [Ho Y0 Tg0 Ag0]
    · isplitl [Ho]; · iexact Ho
      isplitl [Y0]; · iexact Y0
      isplitl [Tg0]; · iexact Tg0
      iexact Ag0
    iexact HO
  iintro ⟨Hacc, ⟨Hr2, Ar2⟩, ⟨Ho, Ag0⟩, HO⟩
  try dsimp only
  iapply (bind_in c)
  iapply (part64_run V K c _ _ _ _ _ _) $$ [Ho Cg0 Br0 Y1 Tg1 Ag1 Cg1 Br1 HO]
  · isplitr; · iexact HR
    isplitr; · iexact HL
    isplitl [Ho]; · iexact Ho
    isplitl [Cg0 Br0]
    · isplitl [Cg0]; · iexact Cg0
      iexact Br0
    isplitl [Y1 Tg1 Ag1]
    · isplitl [Y1]; · iexact Y1
      isplitl [Tg1]; · iexact Tg1
      iexact Ag1
    isplitl [Cg1 Br1]
    · isplitl [Cg1]; · iexact Cg1
      iexact Br1
    iexact HO
  iintro ⟨Ho, Br0, Ag1, Br1, HO⟩
  try dsimp only
  simp only [Prog.lift, Prog.bind_op, Prog.bind_ret, Prog.pure_eq_ret]
  iapply (aSend V K c 2 [] (r24 c) (fun _ => rfl) rfl (dev36_eq c) rfl rfl (cred24 c)) $$ [Ho Y2 Tg2 HO]
  · isplitr; · iexact HR
    isplitl [Ho]; · iexact Ho
    isplitl [Y2]; · iexact Y2
    isplitl [Tg2]; · iexact Tg2
    iexact HO
  iintro ⟨Cs, HO⟩
  iapply (waitStep V K c (.ags 2) rfl 0 Nat.one_pos (by simp) [] rfl (dstw := (accb.slice (r24 c) (fun _ => rfl))) (cred24 c)) $$ [Cs HO Ag2]
  · isplitr; · iexact HR
    isplitr; · iexact HL
    isplitl [Cs]; · iexact Cs
    isplitl [HO]; · iexact HO
    iexact Ag2
  iintro ⟨HO, Ag2, -, Hp⟩
  ihave Ho := (Entails.of_eq (show pay V c (.ags 2) 0 = outRows V c (agSet 2 c) from rfl)) $$ Hp
  iapply (waitStep V K c (.agr 2) rfl 0 Nat.one_pos (by simp) [] rfl (dstw := (accb.slice (r24 c) (fun _ => rfl))) (cred24 c)) $$ [Cg2 HO Br2]
  · isplitr; · iexact HR
    isplitr; · iexact HL
    isplitl [Cg2]; · iexact Cg2
    isplitl [HO]; · iexact HO
    iexact Br2
  iintro ⟨HO, Br2, -, Hp⟩
  ihave Hp := (Entails.of_eq (show pay V c (.agr 2) 0 = outRows V c (agSet 2 (agp 2 c)) from rfl)) $$ Hp
  ihave Ho := ((outRows_union V c _ _ (ag2_disj c)).trans (Entails.of_eq (congrArg (outRows V c) (ag2_union c)))) $$ [Ho Hp]
  · isplitl [Ho]; · iexact Ho
    iexact Hp
  iapply (last_waits V K c (A 0) _ _ rfl rfl) $$ [Hf HO]
  · isplitr; · iexact HR
    isplitr; · iexact HL
    isplitl [Hf]; · iexact Hf
    iexact HO
  iintro ⟨Hf, HO⟩
  iapply (outCopy V c _ _ Y rfl) $$ [Ho Hout Hv]
  · isplitl [Ho]; · iexact Ho
    isplitl [Hout]; · iexact Hout
    iexact Hv
  iintro HF
  iapply (wp_done (F := F))
  try dsimp only
  try simp only [Prog.lift, Prog.bind_op, Prog.bind_ret, Prog.pure_eq_ret]
  iapply (localWait c tag_out [] rfl (dstw := outV) rfl) $$ [HF HO]
  · isplitr; · iexact HL
    isplitl [HF]; · iexact HF
    iexact HO
  iintro ⟨⟨Hout, Ho⟩, Hv, HO⟩
  iapply (wp_done (F := F))
  unfold att
  icases Ha with ⟨Hq, Hk0, Hk1⟩
  ihave Hend := Hend $$ [Hf Hk0 G0 Hk1 G1]
  · isplitl [Hf]; · iexact Hf
    isplitl [Hk0 G0]
    · isplitl [Hk0]; · iexact Hk0
      iexact G0
    isplitl [Hk1]; · iexact Hk1
    iexact G1
  iapply Hk
  isplitl [HO]; · iexact HO
  isplitl [Hab]; · iexact Hab
  isplitl [Hend]; · iexact Hend
  isplitl [Hw]; · iexact Hw
  isplitl [Hout]; · iexact Hout
  isplitl [Hv]; · iexact Hv
  iapply (exDone_intro (F := F) c)
  isplitl [Hq]; · iapply (holds_any (F := F) c qM); iexact Hq
  isplitl [Hacc]; · iexact Hacc
  isplitl [Ho]; · iapply (outRows_any V c Finset.univ); iexact Ho
  isplitl [Hs0]; · iexact Hs0
  isplitl [Hs1]; · iexact Hs1
  isplitl [Hs2]; · iexact Hs2
  isplitl [Hr0]; · iexact Hr0
  isplitl [Hr1]; · iexact Hr1
  isplitl [Hr2]; · iexact Hr2
  isplitl [As0 Ar0 Ag0 Br0]
  · isplitl [As0]; · iexact As0
    isplitl [Ar0]; · iexact Ar0
    isplitl [Ag0]; · iexact Ag0
    iexact Br0
  isplitl [As1 Ar1 Ag1 Br1]
  · isplitl [As1]; · iexact As1
    isplitl [Ar1]; · iexact Ar1
    isplitl [Ag1]; · iexact Ag1
    iexact Br1
  isplitl [As2]; · iexact As2
  isplitl [Ar2]; · iexact Ar2
  isplitl [Ag2]; · iexact Ag2
  iexact Br2

end Cert.Proof.Attn

end
-- ==== Proof.Pieces.lean ====
/-
  How a device's scratch buffers and cells split into the pieces the kernel body works with, and how they come back
  together when it is done.
-/
module

public import proofs.«01_k».proof.Proof.Body

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells by kind -/

theorem assocE (P Q R : sProp 𝕄) : iprop((P ∗ Q) ∗ R) = iprop(P ∗ Q ∗ R) := Entails.antisymm (assoc3 P Q R).1 (assoc3 P Q R).2

theorem kinds_split (Φ : CK → sProp 𝕄) : bigSep Finset.univ Φ
    = iprop(Φ .bar ∗ bigSep Finset.univ (fun b : Fin 4 => Φ (.sc b)) ∗ bigSep Finset.univ (fun t : Fin 2 => Φ (.kv t))
      ∗ bigSep Finset.univ (fun s : Fin 3 => Φ (.rl s)) ∗ bigSep Finset.univ (fun s : Fin 3 => Φ (.fw s)) ∗ bigSep Finset.univ (fun s : Fin 3 => Φ (.rss s))
      ∗ bigSep Finset.univ (fun s : Fin 3 => Φ (.rsr s)) ∗ bigSep Finset.univ (fun s : Fin 3 => Φ (.ags s)) ∗ bigSep Finset.univ (fun s : Fin 3 => Φ (.agr s))) := by
  rw [bigSep_univ_eq_bigSepL kinds (by decide) (by decide) Φ]
  simp only [fin2, fin3, fin4, assocE]
  rfl

/-! ## Slots -/

theorem split_any {ℓ : Loc nD τ sig} {n : ℕ} (S : Fin n → Finset (Idx ℓ)) (hd : ∀ t t', t ≠ t' → Disjoint (S t) (S t')) (hu : ∀ i, ∃ t, i ∈ S t) :
    iprop(∃ f : Buf (Elt F) ℓ, ℓ ↦{fullShare} f) ⊢ (bigSep Finset.univ fun t => iprop(∃ f : Buf (Elt F) ℓ, ℓ ↦[S t]{fullShare} f) : sProp 𝕄) := by
  have e : Finset.univ.biUnion S = Finset.univ := Finset.eq_univ_iff_forall.mpr fun i => Finset.mem_biUnion.mpr ((hu i).imp fun t h => ⟨Finset.mem_univ t, h⟩)
  iintro ⟨%f, H⟩
  ihave H := (Entails.of_eq (show (ℓ ↦{fullShare} f : sProp 𝕄) = bigSep Finset.univ fun t => ℓ ↦[S t]{fullShare} f from by
    rw [← e]; exact pointsTo_biUnion _ S fun t _ t' _ => hd t t')) $$ H
  iapply (show (bigSep Finset.univ fun t => ℓ ↦[S t]{fullShare} f : sProp 𝕄) ⊢ (bigSep Finset.univ fun t => iprop(∃ f : Buf (Elt F) ℓ, ℓ ↦[S t]{fullShare} f) : sProp 𝕄) from
    bigSep_mono fun t _ => show (ℓ ↦[S t]{fullShare} f : sProp 𝕄) ⊢ iprop(∃ f : Buf (Elt F) ℓ, ℓ ↦[S t]{fullShare} f) from by
      iintro H; iexists f; iexact H)
  iexact H
theorem join_any {ℓ : Loc nD τ sig} {n : ℕ} (S : Fin (n + 1) → Finset (Idx ℓ)) (hd : ∀ t t', t ≠ t' → Disjoint (S t) (S t')) (hu : ∀ i, ∃ t, i ∈ S t) :
    (bigSep Finset.univ fun t => iprop(∃ f : Buf (Elt F) ℓ, ℓ ↦[S t]{fullShare} f) : sProp 𝕄) ⊢ iprop(∃ f : Buf (Elt F) ℓ, ℓ ↦{fullShare} f) := by
  have e : Finset.univ.biUnion S = Finset.univ := Finset.eq_univ_iff_forall.mpr fun i => Finset.mem_biUnion.mpr ((hu i).imp fun t h => ⟨Finset.mem_univ t, h⟩)
  iintro H
  ihave H := (BI.bigSep_exists_pi Finset.univ (fun t (f : Buf (Elt F) ℓ) => (ℓ ↦[S t]{fullShare} f : sProp 𝕄))) $$ H
  icases H with ⟨%fs, H⟩
  ihave H := (pointsTo_biUnion_join Finset.univ S fs (fs 0) fun t _ t' _ => hd t t') $$ H
  icases H with ⟨%g, -, H⟩
  iexists g
  rw [e]
  iexact H

theorem mem_slot {n k : ℕ} (b : ℕ) (hb : ∀ a, (![b, 0, 0, 0] : Fin 4 → ℕ) a + (![1, k, 8, 128] : Fin 4 → ℕ) a ≤ (⟨4, ![n, k, 8, 128]⟩ : Shape).size a)
    (i : (⟨4, ![n, k, 8, 128]⟩ : Shape).Idx) : i ∈ (Rect.unit (s := ⟨4, ![n, k, 8, 128]⟩) ![b, 0, 0, 0] ![1, k, 8, 128] hb).set ↔ (i 0).val = b := by
  rw [Rect.mem_set_unit]
  constructor
  · intro h
    have h1 : b ≤ (i 0).val := (h 0).1
    have h2 : (i 0).val < b + 1 := (h 0).2
    omega
  · intro h a
    match a with
    | 0 => exact ⟨h.ge, by show (i 0).val < b + 1; omega⟩
    | 1 => exact ⟨Nat.zero_le _, by show (i 1).val < 0 + k; rw [Nat.zero_add]; exact (i 1).isLt⟩
    | 2 => exact ⟨Nat.zero_le _, by show (i 2).val < 0 + 8; rw [Nat.zero_add]; exact (i 2).isLt⟩
    | 3 => exact ⟨Nat.zero_le _, by show (i 3).val < 0 + 128; rw [Nat.zero_add]; exact (i 3).isLt⟩

/-- The slots of a buffer of `n` slots of `k` rows are disjoint and cover it. -/
theorem slot_disj {n k : ℕ} {S : Fin n → Finset (⟨4, ![n, k, 8, 128]⟩ : Shape).Idx} (h : ∀ t i, i ∈ S t ↔ (i 0).val = t.val) (t t' : Fin n) (ht : t ≠ t') :
    Disjoint (S t) (S t') :=
  Finset.disjoint_left.mpr fun i h1 h2 => ht (Fin.ext (by rw [h] at h1 h2; omega))
theorem slot_cover {n k : ℕ} {S : Fin n → Finset (⟨4, ![n, k, 8, 128]⟩ : Shape).Idx} (h : ∀ t i, i ∈ S t ↔ (i 0).val = t.val) (i : (⟨4, ![n, k, 8, 128]⟩ : Shape).Idx) :
    ∃ t, i ∈ S t := ⟨⟨(i 0).val, (i 0).isLt⟩, (h _ i).mpr rfl⟩

theorem inbKsF (t : Fin 2) : ∀ a, (![t.val, 0, 0, 0] : Fin 4 → Nat) a + S1x512x8x128.size a ≤ S2x512x8x128.size a := by revert t; decide

theorem mem_ks (t : Fin 2) (i : (⟨4, ![2, 512, 8, 128]⟩ : Shape).Idx) : i ∈ (ksV t.val (inbKsF t)).view.set ↔ (i 0).val = t.val := by
  rw [show (ksV t.val (inbKsF t)).view.set = (rKs t.val (inbKsF t)).set from (View.set_reshape _ _).trans (View.set_slice_whole _ _)]
  exact mem_slot t.val _ i
theorem ks_split (c : D) : iprop(∃ f : Buf (Elt F) ((c : Thread nD τ).loc cc0_scratch0), ((c : Thread nD τ).loc cc0_scratch0) ↦{fullShare} f) ⊢ (bigSep Finset.univ fun t : Fin 2 => anyAt c (ksV t.val (inbKsF t)) : sProp 𝕄) :=
  split_any (ℓ := (c : Thread nD τ).loc cc0_scratch0) (fun t : Fin 2 => (ksV t.val (inbKsF t)).view.set) (slot_disj mem_ks) (slot_cover mem_ks)
theorem ks_join (c : D) : (bigSep Finset.univ fun t : Fin 2 => anyAt c (ksV t.val (inbKsF t)) : sProp 𝕄) ⊢ iprop(∃ f : Buf (Elt F) ((c : Thread nD τ).loc cc0_scratch0), ((c : Thread nD τ).loc cc0_scratch0) ↦{fullShare} f) :=
  join_any (ℓ := (c : Thread nD τ).loc cc0_scratch0) (fun t : Fin 2 => (ksV t.val (inbKsF t)).view.set) (slot_disj mem_ks) (slot_cover mem_ks)

theorem mem_sb (t : Fin 4) (i : (⟨4, ![4, 1024, 8, 128]⟩ : Shape).Idx) : i ∈ (sbV t).view.set ↔ (i 0).val = t.val := by
  rw [show (sbV t).view.set = (rSb t).set from (View.set_reshape _ _).trans (View.set_slice_whole _ _)]
  exact mem_slot t.val _ i
theorem sb_split (c : D) : iprop(∃ f : Buf (Elt F) ((c : Thread nD τ).loc cc0_scratch1), ((c : Thread nD τ).loc cc0_scratch1) ↦{fullShare} f) ⊢ (bigSep Finset.univ fun t : Fin 4 => anyAt c (sbV t) : sProp 𝕄) :=
  split_any (ℓ := (c : Thread nD τ).loc cc0_scratch1) (fun t : Fin 4 => (sbV t).view.set) (slot_disj mem_sb) (slot_cover mem_sb)
theorem sb_join (c : D) : (bigSep Finset.univ fun t : Fin 4 => anyAt c (sbV t) : sProp 𝕄) ⊢ iprop(∃ f : Buf (Elt F) ((c : Thread nD τ).loc cc0_scratch1), ((c : Thread nD τ).loc cc0_scratch1) ↦{fullShare} f) :=
  join_any (ℓ := (c : Thread nD τ).loc cc0_scratch1) (fun t : Fin 4 => (sbV t).view.set) (slot_disj mem_sb) (slot_cover mem_sb)

theorem mem_rl (t : Fin 3) (i : (⟨4, ![3, 1024, 8, 128]⟩ : Shape).Idx) : i ∈ (rlV t).view.set ↔ (i 0).val = t.val := by
  rw [show (rlV t).view.set = (rRl t).set from (View.set_reshape _ _).trans (View.set_slice_whole _ _)]
  exact mem_slot t.val _ i
theorem rl_split (c : D) : iprop(∃ f : Buf (Elt F) ((c : Thread nD τ).loc cc0_scratch2), ((c : Thread nD τ).loc cc0_scratch2) ↦{fullShare} f) ⊢ (bigSep Finset.univ fun t : Fin 3 => anyAt c (rlV t) : sProp 𝕄) :=
  split_any (ℓ := (c : Thread nD τ).loc cc0_scratch2) (fun t : Fin 3 => (rlV t).view.set) (slot_disj mem_rl) (slot_cover mem_rl)
theorem rl_join (c : D) : (bigSep Finset.univ fun t : Fin 3 => anyAt c (rlV t) : sProp 𝕄) ⊢ iprop(∃ f : Buf (Elt F) ((c : Thread nD τ).loc cc0_scratch2), ((c : Thread nD τ).loc cc0_scratch2) ↦{fullShare} f) :=
  join_any (ℓ := (c : Thread nD τ).loc cc0_scratch2) (fun t : Fin 3 => (rlV t).view.set) (slot_disj mem_rl) (slot_cover mem_rl)

theorem mem_kv (t : Fin 2) (i : (⟨4, ![2, 1024, 8, 128]⟩ : Shape).Idx) : i ∈ (kvV t).view.set ↔ (i 0).val = t.val := by
  rw [show (kvV t).view.set = (rKv t).set from (View.set_reshape _ _).trans (View.set_slice_whole _ _)]
  exact mem_slot t.val _ i
theorem kv_split (c : D) : iprop(∃ f : Buf (Elt F) ((c : Thread nD τ).loc cc0_scratch3), ((c : Thread nD τ).loc cc0_scratch3) ↦{fullShare} f) ⊢ (bigSep Finset.univ fun t : Fin 2 => anyAt c (kvV t) : sProp 𝕄) :=
  split_any (ℓ := (c : Thread nD τ).loc cc0_scratch3) (fun t : Fin 2 => (kvV t).view.set) (slot_disj mem_kv) (slot_cover mem_kv)
theorem kv_join (c : D) : (bigSep Finset.univ fun t : Fin 2 => anyAt c (kvV t) : sProp 𝕄) ⊢ iprop(∃ f : Buf (Elt F) ((c : Thread nD τ).loc cc0_scratch3), ((c : Thread nD τ).loc cc0_scratch3) ↦{fullShare} f) :=
  join_any (ℓ := (c : Thread nD τ).loc cc0_scratch3) (fun t : Fin 2 => (kvV t).view.set) (slot_disj mem_kv) (slot_cover mem_kv)

theorem whole_any (c : D) {b : Ref sig .tc} {s : Shape} {e : EltTy} (M : Memref sig .tc .vmem s e) (h : M.IsWhole) : anyAt (F := F) c M
    = iprop(∃ f : Buf (Elt F) (M.view.loc (c : Thread nD τ)), M.view.loc (c : Thread nD τ) ↦{fullShare} f) := by
  unfold anyAt; rw [h.set_eq_univ]

/-! ## The result's rows -/

theorem rows_two (c : D) {S T U : Finset S1024x1024.Idx} (hd : Disjoint S T) (hu : S ∪ T = U) : anyRows (F := F) c U ⊢ iprop(anyRows c S ∗ anyRows c T) := by
  subst hu
  unfold anyRows
  iintro ⟨%f, H⟩
  ihave H := (pointsTo_union (ℓ := (c : Thread nD τ).loc cc0_scratch5) (f := f) hd).1 $$ H
  icases H with ⟨H1, H2⟩
  isplitl [H1]
  · iexists f; iexact H1
  · iexists f; iexact H2
theorem rows_split (c : D) : anyRows (F := F) c Finset.univ ⊢ iprop(anyRows c (agSet 0 c) ∗ bigSep Finset.univ (fun s : Fin 3 => anyRows c (agSet s (agp s c)))) := by
  rw [fin3]
  iintro H
  ihave H := (rows_two c (ag2_disj c) (ag2_union c)) $$ H
  icases H with ⟨H, H2⟩
  ihave H := (rows_two c (ag1_disj c) (ag1_union c)) $$ H
  icases H with ⟨H, H1⟩
  ihave H := (rows_two c (ag0_disj c) (ag0_union c)) $$ H
  icases H with ⟨H, H0⟩
  isplitl [H]; · iexact H
  isplitl [H0]; · iexact H0
  isplitl [H1]; · iexact H1
  iexact H2

/-! ## Before the body -/

theorem sep3 {I : Type} [Fintype I] (Φ Ψ Θ : I → sProp 𝕄) : bigSep Finset.univ (fun i => iprop(Φ i ∗ Ψ i ∗ Θ i)) = iprop(bigSep Finset.univ Φ ∗ bigSep Finset.univ Ψ ∗ bigSep Finset.univ Θ) := by
  rw [bigSep_sep', bigSep_sep']
theorem bufs_intro (c : D) : iprop(bigSep Finset.univ (fun t : Fin 2 => anyAt c (kvV t)) ∗ bigSep Finset.univ (fun s : Fin 3 => anyAt c (rlV s))
      ∗ (anyAt c rsM0 ∗ anyAt c rsM1 ∗ anyAt c rsM2) ∗ bigSep Finset.univ (fun s : Fin 3 => anyRows c (agSet s (agp s c))))
    ⊢ (bigSep Finset.univ fun k : CK => iprop(kept (F := F) c k ∗ gone c k)) := by
  refine BIBase.Entails.trans ?_ (bigSep_mono fun k _ => buf_split c k)
  rw [kinds_split]
  iintro ⟨H1, H2, H3, H4⟩
  isplitr; · iapply (Entails.of_eq (show iprop(emp) = buf (F := F) c .bar from rfl)); iempintro
  isplitr; · iapply (Entails.of_eq (show iprop(emp) = bigSep Finset.univ (fun b : Fin 4 => buf (F := F) c (.sc b)) from (bigSep_emp_const _).symm)); iempintro
  isplitl [H1]; · iexact H1
  isplitl [H2]; · iexact H2
  isplitr; · iapply (Entails.of_eq (show iprop(emp) = bigSep Finset.univ (fun b : Fin 3 => buf (F := F) c (.fw b)) from (bigSep_emp_const _).symm)); iempintro
  isplitr; · iapply (Entails.of_eq (show iprop(emp) = bigSep Finset.univ (fun b : Fin 3 => buf (F := F) c (.rss b)) from (bigSep_emp_const _).symm)); iempintro
  isplitl [H3]; · iapply (Entails.of_eq (show iprop(anyAt c rsM0 ∗ anyAt c rsM1 ∗ anyAt c rsM2) = bigSep Finset.univ (fun b : Fin 3 => buf (F := F) c (.rsr b)) from (fin3 (fun b : Fin 3 => buf (F := F) c (.rsr b))).symm)); iexact H3
  isplitr; · iapply (Entails.of_eq (show iprop(emp) = bigSep Finset.univ (fun b : Fin 3 => buf (F := F) c (.ags b)) from (bigSep_emp_const _).symm)); iempintro
  iexact H4

theorem toks_split (c : D) : bigSepM ((toksL c : List _) : Multiset ((D × CK) × ℕ × D)) (tok (F := F))
    = iprop((bigSepM ((barL c : List D) : Multiset D) (fun d => tokOf (d, .bar) 0 c) ∗ bigSepM ((outs c : List (D × CK)) : Multiset (D × CK)) (fun x => tokOf x 0 0))
      ∗ (bigSepM ((ownT c : List _) : Multiset _) tok ∗ bigSepM ((xT c : List _) : Multiset _) tok)) := by
  unfold toksL
  rw [list_append, list_append, list_append, list_map, list_map]

def linear (c : D) : sProp 𝕄 := iprop(bigSep Finset.univ (fun k : CK => atOf (F := F) (c, k) 0) ∗ bigSepM ((toksL c : List _) : Multiset ((D × CK) × ℕ × D)) tok)

/-- A device's scratch buffers, each at some contents. -/
def scratch (c : D) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f))
theorem scratch_eq (c : D) : (Pipeline.scopedRest (Ix := Unit) (Name := ℕ) (U := UU) (Lvl := ℕ) (Val := Elt F) spec0 c : sProp 𝕄) = scratch c := scopedRest0_eq c

/-- The pieces of the scratch buffers: what the body keeps, and what the barrier hands over. -/
theorem scratch_split (c : D) : scratch (F := F) c ⊢ iprop((anyAt c (ksV 0 (inbKs 0)) ∗ anyAt c (ksV 1 (inbKs 1))) ∗ bigSep Finset.univ (fun b : Fin 4 => anyAt c (sbV b))
    ∗ (anyAt c qM ∗ anyAt c accM ∗ anyRows c (agSet 0 c) ∗ anyAt c ssM0 ∗ anyAt c ssM1 ∗ anyAt c ssM2)
    ∗ bigSep Finset.univ (fun k : CK => iprop(kept (F := F) c k ∗ gone c k))) := by
  unfold scratch
  iintro ⟨H0, H1, H2, H3, H4, H5, H6, H7, H8, H9, H10, H11, H12⟩
  ihave H0 := (ks_split c) $$ H0
  ihave H0 := (Entails.of_eq (fin2 _)) $$ H0
  ihave H1 := (sb_split c) $$ H1
  ihave H2 := (rl_split c) $$ H2
  ihave H3 := (kv_split c) $$ H3
  ihave H5 := (show iprop(∃ f : Buf (Elt F) ((c : Thread nD τ).loc cc0_scratch5), ((c : Thread nD τ).loc cc0_scratch5) ↦{fullShare} f) ⊢ anyRows (F := F) c Finset.univ from Entails.of_eq rfl) $$ H5
  ihave H5 := (rows_split c) $$ H5
  icases H5 with ⟨H5, H5'⟩
  ihave H4 := (Entails.of_eq (whole_any (b := cc0_scratch4) c accM (Memref.isWhole_whole _)).symm) $$ H4
  ihave H6 := (Entails.of_eq (whole_any (b := cc0_scratch6) c qM (Memref.isWhole_whole _)).symm) $$ H6
  ihave H7 := (Entails.of_eq (whole_any (b := cc0_scratch7) c ssM0 (Memref.isWhole_whole _)).symm) $$ H7
  ihave H8 := (Entails.of_eq (whole_any (b := cc0_scratch8) c ssM1 (Memref.isWhole_whole _)).symm) $$ H8
  ihave H9 := (Entails.of_eq (whole_any (b := cc0_scratch9) c ssM2 (Memref.isWhole_whole _)).symm) $$ H9
  ihave H10 := (Entails.of_eq (whole_any (b := cc0_scratch10) c rsM0 (Memref.isWhole_whole _)).symm) $$ H10
  ihave H11 := (Entails.of_eq (whole_any (b := cc0_scratch11) c rsM1 (Memref.isWhole_whole _)).symm) $$ H11
  ihave H12 := (Entails.of_eq (whole_any (b := cc0_scratch12) c rsM2 (Memref.isWhole_whole _)).symm) $$ H12
  ihave HB := (bufs_intro c) $$ [H3 H2 H10 H11 H12 H5']
  · isplitl [H3]; · iexact H3
    isplitl [H2]; · iexact H2
    isplitr [H5']
    · isplitl [H10]; · iexact H10
      isplitl [H11]; · iexact H11
      iexact H12
    iexact H5'
  isplitl [H0]; · iexact H0
  isplitl [H1]; · iexact H1
  isplitr [HB]
  · isplitl [H6]; · iexact H6
    isplitl [H4]; · iexact H4
    isplitl [H5]; · iexact H5
    isplitl [H7]; · iexact H7
    isplitl [H8]; · iexact H8
    iexact H9
  iexact HB

theorem scratch_join (c : D) : iprop((anyAt c (ksV 0 (inbKs 0)) ∗ anyAt c (ksV 1 (inbKs 1))) ∗ bigSep Finset.univ (fun b : Fin 4 => anyAt c (sbV b))
    ∗ bigSep Finset.univ (fun t : Fin 2 => anyAt c (kvV t)) ∗ bigSep Finset.univ (fun s : Fin 3 => anyAt c (rlV s))
    ∗ (anyAt c qM ∗ anyAt c accM ∗ anyRows c Finset.univ ∗ anyAt c ssM0 ∗ anyAt c ssM1 ∗ anyAt c ssM2 ∗ anyAt c rsM0 ∗ anyAt c rsM1 ∗ anyAt c rsM2)) ⊢ scratch (F := F) c := by
  unfold scratch
  iintro ⟨H0, H1, H3, H2, H6, H4, H5, H7, H8, H9, H10, H11, H12⟩
  ihave H0 := (show iprop(anyAt c (ksV 0 (inbKs 0)) ∗ anyAt c (ksV 1 (inbKs 1))) ⊢ bigSep Finset.univ (fun t : Fin 2 => anyAt (F := F) c (ksV t.val (inbKsF t))) from Entails.of_eq (fin2 (fun t : Fin 2 => anyAt (F := F) c (ksV t.val (inbKsF t)))).symm) $$ H0
  ihave H0 := (ks_join c) $$ H0
  ihave H1 := (sb_join c) $$ H1
  ihave H2 := (rl_join c) $$ H2
  ihave H3 := (kv_join c) $$ H3
  ihave H4 := (Entails.of_eq (whole_any (b := cc0_scratch4) c accM (Memref.isWhole_whole _))) $$ H4
  ihave H6 := (Entails.of_eq (whole_any (b := cc0_scratch6) c qM (Memref.isWhole_whole _))) $$ H6
  ihave H7 := (Entails.of_eq (whole_any (b := cc0_scratch7) c ssM0 (Memref.isWhole_whole _))) $$ H7
  ihave H8 := (Entails.of_eq (whole_any (b := cc0_scratch8) c ssM1 (Memref.isWhole_whole _))) $$ H8
  ihave H9 := (Entails.of_eq (whole_any (b := cc0_scratch9) c ssM2 (Memref.isWhole_whole _))) $$ H9
  ihave H10 := (Entails.of_eq (whole_any (b := cc0_scratch10) c rsM0 (Memref.isWhole_whole _))) $$ H10
  ihave H11 := (Entails.of_eq (whole_any (b := cc0_scratch11) c rsM1 (Memref.isWhole_whole _))) $$ H11
  ihave H12 := (Entails.of_eq (whole_any (b := cc0_scratch12) c rsM2 (Memref.isWhole_whole _))) $$ H12
  isplitl [H0]; · iexact H0
  isplitl [H1]; · iexact H1
  isplitl [H2]; · iexact H2
  isplitl [H3]; · iexact H3
  isplitl [H4]; · iexact H4
  isplitl [H5]; · iapply (show anyRows (F := F) c Finset.univ ⊢ iprop(∃ f : Buf (Elt F) ((c : Thread nD τ).loc cc0_scratch5), ((c : Thread nD τ).loc cc0_scratch5) ↦{fullShare} f) from Entails.of_eq rfl); iexact H5
  isplitl [H6]; · iexact H6
  isplitl [H7]; · iexact H7
  isplitl [H8]; · iexact H8
  isplitl [H9]; · iexact H9
  isplitl [H10]; · iexact H10
  isplitl [H11]; · iexact H11
  iexact H12

/-- The credits a device starts with. -/
def credits (c : D) : sProp 𝕄 := iprop(crOf (c, .bar) 7 ∗ bigSep Finset.univ (fun k : CK => credIf (F := F) c k))

theorem body_pre (A : D → Arrs F) (c : D) :
    iprop(ow c (bars c ++ outs c) ∗ linear c ∗ credits c ∗ arrs c (A c) ∗ scratch c ∗ (semVal ((c : Thread nD τ), .dma (stS 0)) 0 ∗ semVal ((c : Thread nD τ), .dma (stS 1)) 0))
      ⊢ iprop(sigs c (barL c) ∗ crOf (c, .bar) 7 ∗ atOf (c, .bar) 0 ∗ bigSepM ((outs c : List (D × CK)) : Multiset (D × CK)) (fun x => tokOf x 0 0) ∗ feedRes A c ∗ exRes c) := by
  unfold linear credits feedRes exRes sigs exAt exCr stg0
  rw [toks_split, kinds_split (fun k => atOf (F := F) (c, k) 0), kinds_split (fun k => credIf (F := F) c k), bars_eq]
  simp only [bigSep_sep']
  iintro ⟨HO, ⟨⟨Ab, Asc, Akv, Arl, Afw, Arss, Arsr, Aags, Aagr⟩, ⟨Tb, To⟩, Tw, Tx⟩, ⟨C7, -, -, Ckv, Crl, -, -, Crsr, -, Cagr⟩, HA, HS, Hs0, Hs1⟩
  ihave HS := (scratch_split c) $$ HS
  icases HS with ⟨⟨K0, K1⟩, Sb, ⟨Q, Acc, R0, Z0, Z1, Z2⟩, HB⟩
  ihave HB := (Entails.of_eq (bigSep_sep' Finset.univ (fun k : CK => kept (F := F) c k) (fun k => gone c k))) $$ HB
  icases HB with ⟨Hk, Hg⟩
  ihave Hg := (bar_give c) $$ Hg
  ihave Hk := (Entails.of_eq (kinds_split (fun k => kept (F := F) c k))) $$ Hk
  icases Hk with ⟨-, -, Kkv, Krl, -⟩
  ihave Hg := (Entails.of_eq (show bigSep (Finset.univ.erase c) (fun d => barPay (F := F) d c) = bigSepM ((barL c : List D) : Multiset D) (fun d => barPay d c) from by
    rw [list_set (barL_nodup c), barL_set])) $$ Hg
  isplitl [HO Tb Hg]
  · isplitr; · ipureintro; exact barL_ne c
    isplitl [HO]; · iexact HO
    iapply (list_sep (barL c) (fun d => tokOf (F := F) (d, .bar) 0 c) (fun d => barPay d c)).2
    isplitl [Tb]; · iexact Tb
    iexact Hg
  isplitl [C7]; · iexact C7
  isplitl [Ab]; · iexact Ab
  isplitl [To]; · iexact To
  isplitl [HA K0 Hs0 K1 Hs1 Sb Asc Kkv Ckv Akv Krl Crl Arl Afw Tw]
  · isplitl [HA K0 Hs0 K1 Hs1]
    · isplitl [HA]; · iexact HA
      isplitl [K0 Hs0]
      · isplitl [K0]; · iexact K0
        iexact Hs0
      isplitl [K1]; · iexact K1
      iexact Hs1
    isplitl [Sb Asc]
    · isplitl [Sb]; · iexact Sb
      iexact Asc
    isplitl [Kkv Ckv Akv]
    · isplitl [Kkv]; · iexact Kkv
      isplitl [Ckv]; · iexact Ckv
      iexact Akv
    isplitl [Krl Crl Arl Afw]
    · isplitl [Krl]; · iexact Krl
      isplitl [Crl]; · iexact Crl
      isplitl [Arl]; · iexact Arl
      iexact Afw
    iexact Tw
  isplitl [Q]; · iexact Q
  isplitl [Acc]; · iexact Acc
  isplitl [R0]; · iexact R0
  isplitl [Z0]; · iexact Z0
  isplitl [Z1]; · iexact Z1
  isplitl [Z2]; · iexact Z2
  isplitl [Arss Arsr Aags Aagr]
  · isplitl [Arss]; · iexact Arss
    isplitl [Arsr]; · iexact Arsr
    isplitl [Aags]; · iexact Aags
    iexact Aagr
  isplitl [Crsr Cagr]
  · isplitl [Crsr]; · iexact Crsr
    iexact Cagr
  iexact Tx

variable (V : Vals F) (K : D × CK → ℕ)

/-! ## After it -/

theorem close_all (c : D) : iprop(records V K ∗ bigSep Finset.univ (fun k : CK => atOf (c, k) (nr c k))) ⊢ iprop(|={Set.univ}=> bigSep Finset.univ (fun k : CK => semVal (kcell (c, k)) 0) : sProp 𝕄) :=
  (show _ ⊢ bigSep Finset.univ (fun k : CK => iprop(|={Set.univ}=> semVal (kcell (c, k)) 0 : sProp 𝕄)) from
    (sep_mono_left (BI.bigSep_of_persistent Finset.univ (records V K))).trans (by
      rw [← bigSep_sep']; exact bigSep_mono fun k _ => closeStep V K c k (nr c k) le_rfl)).trans (bigSep_fupd _ _)

theorem body_post (A : D → Arrs F) (c : D) :
    iprop(records V K ∗ atOf (c, .bar) 1 ∗ feedDone A c ∗ exDone c)
      ⊢ iprop(|={Set.univ}=> (arrs c (A c) ∗ scratch c ∗ (semVal ((c : Thread nD τ), .dma (stS 0)) 0 ∗ semVal ((c : Thread nD τ), .dma (stS 1)) 0)
        ∗ bigSep Finset.univ (fun k : CK => semVal (kcell (c, k)) 0)) : sProp 𝕄) := by
  unfold feedDone exDone exAt stg0
  simp only [bigSep_sep']
  iintro ⟨#HR, Ab, ⟨⟨HA, ⟨K0, Hs0⟩, K1, Hs1⟩, ⟨Sb, Asc⟩, ⟨Kv, Akv⟩, Rl, Arl, Afw⟩, Q, Acc, Rw, Z0, Z1, Z2, Y0, Y1, Y2, Arss, Arsr, Aags, Aagr⟩
  imod (close_all V K c) $$ [Ab Asc Akv Arl Afw Arss Arsr Aags Aagr] with HV
  · isplitr; · iexact HR
    rw [kinds_split]
    isplitl [Ab]; · iexact Ab
    isplitl [Asc]; · iexact Asc
    isplitl [Akv]; · iexact Akv
    isplitl [Arl]; · iexact Arl
    isplitl [Afw]; · iexact Afw
    isplitl [Arss]; · iexact Arss
    isplitl [Arsr]; · iexact Arsr
    isplitl [Aags]; · iexact Aags
    iexact Aagr
  imodintro
  isplitl [HA]; · iexact HA
  isplitr [Hs0 Hs1 HV]
  · iapply (scratch_join c)
    isplitl [K0 K1]
    · isplitl [K0]; · iexact K0
      iexact K1
    isplitl [Sb]; · iexact Sb
    isplitl [Kv]; · iexact Kv
    isplitl [Rl]; · iexact Rl
    isplitl [Q]; · iexact Q
    isplitl [Acc]; · iexact Acc
    isplitl [Rw]; · iexact Rw
    isplitl [Z0]; · iexact Z0
    isplitl [Z1]; · iexact Z1
    isplitl [Z2]; · iexact Z2
    isplitl [Y0]; · iexact Y0
    isplitl [Y1]; · iexact Y1
    iexact Y2
  isplitl [Hs0 Hs1]
  · isplitl [Hs0]; · iexact Hs0
    iexact Hs1
  iexact HV

end Cert.Proof.Attn
-- ==== Proof.Glob.lean ====
/-
  The launch of the kernel on the eight devices: the cells and tokens made at launch, dealt to the devices, and the
  credits each device starts with.
-/
module

public import proofs.«01_k».proof.Proof.Pieces

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells and the tokens -/

/-- The kernel's own semaphores: the local copies' three, then the cells. -/
abbrev osem : Fin 27 → SemLoc sig := ![.dma outS, .dma (stS 0), .dma (stS 1), csem (.sc 0), csem (.sc 1), csem (.sc 2), csem (.sc 3), csem (.kv 0), csem (.kv 1), csem (.rl 0), csem (.rl 1), csem (.rl 2), csem (.fw 0), csem (.fw 1), csem (.fw 2), csem (.rss 0), csem (.rss 1), csem (.rss 2), csem (.rsr 0), csem (.rsr 1), csem (.rsr 2), csem (.ags 0), csem (.ags 1), csem (.ags 2), csem (.agr 0), csem (.agr 1), csem (.agr 2)]
theorem ownSemFacts : Pipeline.OwnSemFacts cfg0.spec osem := by decide +kernel

def cells : Finset (GSem nD τ sig) := Finset.univ.map ⟨kcell, kcell_inj⟩
def tokKey (x : (D × CK) × ℕ × D) : GSem nD τ sig × ℕ × D := (kcell x.1, x.2.1, x.2.2)
theorem tokKey_inj : Function.Injective tokKey := by
  rintro ⟨x, r, d⟩ ⟨y, r', d'⟩ h
  have h1 : kcell x = kcell y := congrArg Prod.fst h
  have h2 : (r, d) = (r', d') := congrArg Prod.snd h
  rw [kcell_inj h1, h2]
theorem toksL_nodup : ∀ c, (toksL c).Nodup := by decide +kernel
theorem toksL_disj : ∀ c c', c ≠ c' → ∀ x ∈ toksL c, x ∉ toksL c' := by decide +kernel
def toks : Finset (GSem nD τ sig × ℕ × D) := (Finset.univ.biUnion fun c => (toksL c).toFinset).map ⟨tokKey, tokKey_inj⟩

variable (V : Vals F)

/-- What the launch deals device `c`. -/
def G (c : D) : sProp 𝕄 :=
  iprop(bigSep Finset.univ (fun k : CK => roundState ER (Rd V) (kcell (c, k)) 0)
    ∗ bigSep Finset.univ (fun k : CK => iprop(atOf (F := F) (c, k) 0 ∗ reached ER (kcell (c, k)) 0)) ∗ bigSepM ((toksL c : List _) : Multiset ((D × CK) × ℕ × D)) tok)

/-- The local copies' semaphores, at rest. -/
def plain (c : D) : sProp 𝕄 :=
  iprop(semVal ((c : Thread nD τ), .dma outS) 0 ∗ semVal ((c : Thread nD τ), .dma (stS 0)) 0 ∗ semVal ((c : Thread nD τ), .dma (stS 1)) 0)
def G' (c : D) : sProp 𝕄 := iprop((∃ K, iprop(records V K ∗ linear c)) ∗ plain c)

theorem cells_eq (Φ : GSem nD τ sig → sProp 𝕄) : bigSep cells Φ = bigSep Finset.univ fun c : D => bigSep Finset.univ fun k : CK => Φ (kcell (c, k)) := by
  unfold cells; rw [bigSep_map, bigSep_univ_prod]; rfl
theorem toks_eq : bigSep toks (fun x => (dutyTok ER x.1 x.2.1 x.2.2 : sProp 𝕄)) = bigSep Finset.univ fun c : D => bigSepM ((toksL c : List _) : Multiset ((D × CK) × ℕ × D)) tok := by
  unfold toks
  rw [bigSep_map, bigSep_biUnion_eq _ _ _ fun c _ c' _ h => Finset.disjoint_left.mpr fun x hx hx' =>
    toksL_disj c c' h x (List.mem_toFinset.mp hx) (List.mem_toFinset.mp hx')]
  exact bigSep_congr fun c _ => (list_set (toksL_nodup c) _).symm

theorem fund : BI.own (ER (initOf cells toks)) ⊢ (|==> bigSep Finset.univ (G V) : sProp 𝕄) := by
  iintro HX
  imod (Rounds.fund ER (Rd V) cells toks) $$ HX with ⟨Hst, Hr, Hat, Htok⟩
  imodintro
  ihave Hst' := (Entails.of_eq (cells_eq fun g => roundState ER (Rd V) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq (toks_eq (F := F))) $$ Htok
  unfold G; simp only [bigSep_sep']
  isplitl [Hst']; · iexact Hst'
  isplitl [Hat' Hr']
  · isplitl [Hat']; · iexact Hat'
    iexact Hr'
  iexact Htok'

/-! ## The semaphores -/

theorem ownSems_eq (c : D) : (Pipeline.ownSems0 (Ix := Unit) (Name := ℕ) (U := UU) (Lvl := ℕ) (Val := Elt F) (τ := τ) osem c : sProp 𝕄)
    = iprop(plain c ∗ bigSep Finset.univ (fun b : Fin 4 => semVal (kcell (c, .sc b)) 0) ∗ bigSep Finset.univ (fun t : Fin 2 => semVal (kcell (c, .kv t)) 0)
      ∗ bigSep Finset.univ (fun s : Fin 3 => semVal (kcell (c, .rl s)) 0) ∗ bigSep Finset.univ (fun s : Fin 3 => semVal (kcell (c, .fw s)) 0) ∗ bigSep Finset.univ (fun s : Fin 3 => semVal (kcell (c, .rss s)) 0)
      ∗ bigSep Finset.univ (fun s : Fin 3 => semVal (kcell (c, .rsr s)) 0) ∗ bigSep Finset.univ (fun s : Fin 3 => semVal (kcell (c, .ags s)) 0) ∗ bigSep Finset.univ (fun s : Fin 3 => semVal (kcell (c, .agr s)) 0)) := by
  rw [Pipeline.ownSems0_eq_of_list c osem [0, 1, 2, 3, 4, 5, 6, 7, 8, 9, 10, 11, 12, 13, 14, 15, 16, 17, 18, 19, 20, 21, 22, 23, 24, 25, 26] (by decide) (by decide)]
  unfold plain
  simp only [fin2, fin3, fin4, assocE]
  rfl
theorem unscopedSems_eq (c : D) : (unscopedSems0 c : sProp 𝕄) = semVal (kcell (c, .bar)) 0 := by
  unfold unscopedSems0; rw [bigSep_eq_bigSepL_of_eq [SemLoc.reg barS] (by decide) (by decide)]; rfl

theorem sems_eq (c : D) : iprop(Pipeline.ownSems0 (Ix := Unit) (Name := ℕ) (U := UU) (Lvl := ℕ) (Val := Elt F) (τ := τ) osem c ∗ unscopedSems0 c)
    ⊣⊢ (iprop(plain c ∗ bigSep Finset.univ fun k : CK => semVal (kcell (c, k)) 0) : sProp 𝕄) := by
  rw [ownSems_eq, unscopedSems_eq, kinds_split]
  constructor
  · iintro ⟨⟨HP, HR⟩, HB⟩
    isplitl [HP]; · iexact HP
    isplitl [HB]; · iexact HB
    iexact HR
  · iintro ⟨HP, HB, HR⟩
    isplitr [HB]
    · isplitl [HP]; · iexact HP
      iexact HR
    iexact HB

/-! ## The global step -/

theorem core_alloc (c : D) :
    iprop(Pipeline.ownSems0 (Ix := Unit) (Name := ℕ) (U := UU) (Lvl := ℕ) (Val := Elt F) (τ := τ) osem c ∗ unscopedSems0 c ∗ G V c)
      ⊢ |={Set.univ}=> iprop(bigSep Finset.univ (fun k : CK => iprop(∃ κ : ℕ, cellInv ER (Rd V) κ (kcell (c, k))))
          ∗ bigSep Finset.univ (fun k : CK => iprop(atOf (F := F) (c, k) 0 ∗ reached ER (kcell (c, k)) 0))
          ∗ bigSepM ((toksL c : List _) : Multiset ((D × CK) × ℕ × D)) tok ∗ plain c) := by
  unfold G
  iintro ⟨Hos, Hus, Hst, Hat, Htok⟩
  ihave Hv := (sems_eq (F := F) c).1 $$ [Hos Hus]
  · isplitl [Hos]; · iexact Hos
    iexact Hus
  icases Hv with ⟨HP, Hv⟩
  imod (show iprop((bigSep Finset.univ fun k : CK => semVal (kcell (c, k)) 0) ∗ bigSep Finset.univ fun k : CK => roundState ER (Rd V) (kcell (c, k)) 0)
      ⊢ (|={Set.univ}=> bigSep Finset.univ fun k : CK => iprop(∃ κ : ℕ, cellInv ER (Rd V) κ (kcell (c, k))) : sProp 𝕄) from by
        rw [← bigSep_sep']
        exact (bigSep_mono fun k _ => (Rounds.body_intro ER (Rd V) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact HP

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : D => iprop(bigSep Finset.univ (fun k : CK => iprop(∃ κ : ℕ, cellInv ER (Rd V) κ (kcell (c, k))))
          ∗ bigSep Finset.univ (fun k : CK => iprop(atOf (F := F) (c, k) 0 ∗ reached ER (kcell (c, k)) 0))
          ∗ bigSepM ((toksL c : List _) : Multiset ((D × CK) × ℕ × D)) tok ∗ plain c) : sProp 𝕄)
      ⊢ bigSep Finset.univ (G' V) := by
  rw [bigSep_sep', bigSep_sep', ← bigSep_univ_prod (fun ck : D × CK => iprop(∃ κ : ℕ, cellInv ER (Rd V) κ (kcell ck))),
    bigSep_congr (s := Finset.univ) (fun (c : D) _ => bigSep_sep' Finset.univ (fun k : CK => atOf (F := F) (c, k) 0) (fun k => reached ER (kcell (c, k)) 0)),
    bigSep_sep', ← bigSep_univ_prod (fun ck : D × CK => (reached ER (kcell ck) 0 : sProp 𝕄))]
  iintro ⟨HI, ⟨Hat, #HR⟩, Htok⟩
  ihave HK := (BI.bigSep_exists_pi Finset.univ (fun (ck : D × CK) (κ : ℕ) => (cellInv ER (Rd V) κ (kcell ck) : sProp 𝕄))) $$ HI
  icases HK with ⟨%K, #HI⟩
  iapply (share_out (R := records V K) (S := Finset.univ) (Ψ := G' V) (Φ := fun c : D => iprop(linear c ∗ plain c)) fun c _ => show iprop(records V K ∗ linear c ∗ plain c) ⊢ G' V c from by
    unfold G'
    iintro ⟨#HR, Hl, HP⟩
    isplitr [HP]
    · iexists K
      isplitr; · iexact HR
      iexact Hl
    iexact HP)
  isplitr
  · unfold records
    rw [bigSep_sep']
    isplitl; · iexact HI
    iexact HR
  · iapply (show iprop(bigSep Finset.univ (fun c : D => bigSep Finset.univ fun k : CK => atOf (F := F) (c, k) 0)
        ∗ bigSep Finset.univ (fun c : D => iprop(bigSepM ((toksL c : List _) : Multiset ((D × CK) × ℕ × D)) tok ∗ plain c)))
          ⊢ bigSep Finset.univ (fun c : D => iprop(linear (F := F) c ∗ plain c)) from by
      rw [← bigSep_sep']
      exact bigSep_mono fun c _ => show iprop((bigSep Finset.univ fun k : CK => atOf (F := F) (c, k) 0) ∗ (bigSepM ((toksL c : List _) : Multiset ((D × CK) × ℕ × D)) tok ∗ plain c)) ⊢ iprop(linear c ∗ plain c) from by
        unfold linear
        iintro ⟨H1, H2, H3⟩
        isplitr [H3]
        · isplitl [H1]; · iexact H1
          iexact H2
        iexact H3)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch credits -/

/-- How much of a cell the other devices owe. -/
def dueOf (c : D) (k : CK) : ℕ := if k = .bar then 7 else match payer c k with | none => 0 | some _ => amt k
theorem due_count : ∀ c k, (∑ d : D, (bars d ++ outs d).count (c, k)) = if k = .bar then 7 else match payer c k with | none => 0 | some _ => 1 := by decide +kernel
theorem due_eq (c : D) (k : CK) : (∑ d : D, O₀ d (kcell (c, k)) ()) = dueOf c k := by
  unfold O₀
  rw [Finset.sum_congr rfl fun d _ => owe_apply (bars d ++ outs d) (c, k), ← Finset.sum_mul, due_count]
  unfold dueOf
  by_cases h : k = .bar
  · subst h; rfl
  · rw [if_neg h, if_neg h]
    cases payer c k with
    | none => exact Nat.zero_mul _
    | some d => exact Nat.one_mul _
theorem launch_at (c : D) (k : CK) :
    tallyOn (kcell (c, k)) (launchCredit (Pipeline.owing O₀) 0 (kcell (c, k))) = (tallyAt (kcell (c, k)) () (dueOf c k) : CellTallies nD τ sig Unit) := by
  unfold tallyAt; refine congrArg _ (Finsupp.ext fun u => ?_); cases u
  rw [Pipeline.launchCredit_owing, Finsupp.single_eq_same]
  exact due_eq c k

theorem creds (c : D) : (Pipeline.launchCred O₀ c : sProp 𝕄) ⊢ credits c := by
  unfold Pipeline.launchCred credits
  refine (bigSep_subset (Finset.subset_univ ((Finset.univ : Finset CK).map ⟨csem, csem_inj⟩))).trans ?_
  rw [bigSep_map, bigSep_univ_at _ CK.bar, bigSep_univ_at (fun k : CK => credIf (F := F) c k) CK.bar]
  show iprop(cred (tallyOn (kcell (c, .bar)) (launchCredit (Pipeline.owing O₀) 0 (kcell (c, .bar))))
      ∗ bigSep (Finset.univ.erase CK.bar) (fun k : CK => cred (tallyOn (kcell (c, k)) (launchCredit (Pipeline.owing O₀) 0 (kcell (c, k))))))
    ⊢ iprop(crOf (c, .bar) 7 ∗ credIf (F := F) c .bar ∗ bigSep (Finset.univ.erase CK.bar) (fun k : CK => credIf (F := F) c k))
  iintro ⟨HB, H⟩
  isplitl [HB]
  · iapply (Entails.of_eq (show cred (tallyOn (kcell (c, .bar)) (launchCredit (Pipeline.owing O₀) 0 (kcell (c, .bar)))) = crOf (F := F) (c, .bar) 7 from by rw [launch_at]; rfl))
    iexact HB
  isplitr
  · iapply (Entails.of_eq (show iprop(emp) = credIf (F := F) c .bar from rfl)); iempintro
  iapply (show bigSep (Finset.univ.erase CK.bar) (fun k : CK => cred (tallyOn (kcell (c, k)) (launchCredit (Pipeline.owing O₀) 0 (kcell (c, k)))))
      ⊢ bigSep (Finset.univ.erase CK.bar) (fun k : CK => credIf (F := F) c k) from bigSep_mono fun k hk => by
    rw [launch_at]
    unfold credIf dueOf
    rw [if_neg (Finset.ne_of_mem_erase hk)]
    cases payer c k with
    | none => exact show cred (tallyAt (kcell (c, k)) () 0) ⊢ (iprop(emp) : sProp 𝕄) from by iintro -; iempintro
    | some d => exact show crOf (c, k) (amt k) ⊢ crOf (F := F) (c, k) (amt k) from Entails.of_eq rfl)
  iexact H

end Cert.Proof.Attn
-- ==== Proof.Run.lean ====
/-
  The kernel's run on the eight devices, from any memory: it ends, the arguments are unchanged, every semaphore is at
  rest, and every device's result is the value computed here from the arguments.
-/
module

public import proofs.«01_k».proof.Proof.Glob
public import Idealize.ShloMosaic.Lib.Pipeline.CollectiveSegs
public import Idealize.ShloMosaic.Lib.Quiescent

@[expose] public section

noncomputable section

namespace Cert.Proof.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The values -/

/-- The staged arguments, and the keys and values. -/
def argX (c : D) : S1x1024x1024.Idx → Elt F .f32 := (win0_0.blk t0_0).view.read (Elt F) (m ((c : Thread nD τ).loc main_arg0))
def argW (c : D) : S1024x1024.Idx → Elt F .f32 := (win0_1.blk t0_0).view.read (Elt F) (m ((c : Thread nD τ).loc main_arg1))
def argO (c : D) : S1024x1024.Idx → Elt F .f32 := (win0_2.blk t0_0).view.read (Elt F) (m ((c : Thread nD τ).loc main_arg4))
def argA (c : D) : Arrs F := fun t => match t with
  | 0 => m ((c : Thread nD τ).loc main_arg2)
  | 1 => m ((c : Thread nD τ).loc main_arg3)
/-- The keys or values as device `d` holds them. -/
def kvAt (d : D) (t : Fin 2) : S1024x8x128.Idx → Elt F .bf16 := kvOf (argA m 0 t) d
/-- A device's sums as it keeps them, and what it passes on in each exchange. -/
def part0 (c : D) : S1024x1024.Idx → Elt F .f32 := acc0 c (keep0 c (argX m c) (argW m c) (argO m c) (kvAt m c 0) (kvAt m c 1))
def send0 (c : D) : S512x1024.Idx → Elt F .bf16 :=
  sendP (k0_pay46 (argO m c)) (sendM c) (sendQ c (k0_pay45 (argX m c) (argW m c))) (headsOf (kvAt m c 0)) (headsOf (kvAt m c 1))
def part1 (c : D) : S1024x1024.Idx → Elt F .f32 := acc1 c (part0 m c) (send0 m (rsp 0 c))
def send1 (c : D) : S256x1024.Idx → Elt F .bf16 := k0_pay81 (pick (r18 c) (part1 m c))
def part2 (c : D) : S1024x1024.Idx → Elt F .f32 := acc2 c (part1 m c) (send1 m (rsp 1 c))
def send2 (c : D) : S128x1024.Idx → Elt F .bf16 := k0_pay83 (pick (r20 c) (part2 m c))
def part3 (c : D) : S1024x1024.Idx → Elt F .f32 := acc3 c (part2 m c) (send2 m (rsp 2 c))
/-- The rows device `c` ends with. -/
def rowsOf (c : D) : S128x1024.Idx → Elt F .bf16 := k0_pay85 (pick (r21 c) (part3 m c))

/-- Who ends with each block of 128 rows. -/
def own : Fin 8 → D := ![0, 1, 3, 2, 4, 5, 7, 6]
theorem own_lo : ∀ c, lo128 c < 1024 ∧ own ⟨lo128 c / 128 % 8, Nat.mod_lt _ (by decide)⟩ = c ∧ lo128 c % 128 = 0 := by decide
def rowIn (i : S1024x1024.Idx) : S128x1024.Idx := fun a => match a with
  | 0 => ⟨(i 0).val % 128, Nat.mod_lt _ (by decide)⟩
  | 1 => ⟨(i 1).val, (i 1).isLt⟩
def result (i : S1024x1024.Idx) : Elt F .bf16 := rowsOf m (own ⟨(i 0).val / 128 % 8, Nat.mod_lt _ (by decide)⟩) (rowIn i)
theorem result_row (c : D) (j : S128x1024.Idx) : result m ((r21 c).emb j) = rowsOf m c j := by
  have h0 : ((r21 c).emb j 0).val = lo128 c + (j 0).val := by
    show k0_off21 c 0 + 1 * (j 0).val = _
    rw [(off21_eq c).1, Nat.one_mul]
  have h1 : ((r21 c).emb j 1).val = (j 1).val := by
    show k0_off21 c 1 + 1 * (j 1).val = _
    rw [(off21_eq c).2, Nat.one_mul, Nat.zero_add]
  have hj : (j 0).val < 128 := (j 0).isLt
  have ho := own_lo c
  have e1 : own ⟨((r21 c).emb j 0).val / 128 % 8, Nat.mod_lt _ (by decide)⟩ = c := by
    have : ((r21 c).emb j 0).val / 128 = lo128 c / 128 := by rw [h0]; omega
    simp only [this]; exact ho.2.1
  have e2 : rowIn ((r21 c).emb j) = j := by
    funext a
    match a with
    | 0 => exact Fin.ext (by show ((r21 c).emb j 0).val % 128 = (j 0).val; rw [h0]; omega)
    | 1 => exact Fin.ext h1
  unfold result
  rw [e1, e2]

def vals : Vals F where
  KV := kvAt m
  x0 := send0 m
  x1 := send1 m
  x2 := send2 m
  out := result m

/-! ## The proof data of the launch -/

def start (c : D) : sProp 𝕄 :=
  iprop(G' (vals m) c ∗ credits c ∗ levAts L lv ∗ arrs c (argA m c) ∗ outAt c (m ((c : Thread nD τ).loc main_v1)))
def Φ₀ (c : D) : sProp 𝕄 := iprop(start m c ∗ scratch c)
def Φ₁ (c : D) : sProp 𝕄 :=
  iprop(arrs c (argA m c) ∗ outAt c (outFull (result m)) ∗ scratch c ∗ plain c ∗ bigSep Finset.univ (fun k : CK => semVal (kcell (c, k)) 0))

def dats (_ : Fin 1) (c : Dev nD) : Dat τ (Elt F) Unit ℕ UU ℕ cfg0 c where
  A w := m ((cfg0.win w).arr.view.loc (c : Thread nD τ))
  after w _ := match w with
    | ⟨0, _⟩ => argX m c
    | ⟨1, _⟩ => argW m c
    | ⟨2, _⟩ => argO m c
  Φ t := match t with
    | ⟨0, _⟩ => Φ₀ m c
    | ⟨_ + 1, _⟩ => Φ₁ m c
  q _ := fullShare
  owed t := match t with
    | ⟨0, _⟩ => O₀ c
    | ⟨_ + 1, _⟩ => owe []

theorem share_eq (c : Dev nD) (w : Fin cfg0.W) : (dats m 0 c).share w = fullShare := by unfold Dat.share; split <;> rfl

theorem fetch_all (w : Fin cfg0.W) (t : Fin cfg0.N) : (cfg0.win w).fetch t = true := by
  rw [fin_N0 t]; revert w; decide

def bodyPre (c : Dev nD) : sProp 𝕄 :=
  iprop(Φ₀ m c ∗ (dats m 0 c).owesAt () t0_0.castSucc
    ∗ (∃ d, holds c (Memref.whole cc0_stg0_0) ((dats m 0 c).before (0 : Fin 3) t0_0 d))
    ∗ (∃ d, holds c (Memref.whole cc0_stg1_0) ((dats m 0 c).before (1 : Fin 3) t0_0 d))
    ∗ (∃ d, holds c (Memref.whole cc0_stg2_0) ((dats m 0 c).before (2 : Fin 3) t0_0 d)))
def bodyPost (c : Dev nD) : sProp 𝕄 :=
  iprop(Φ₁ m c ∗ (dats m 0 c).owesAt () t0_0.succ ∗ holds c (Memref.whole cc0_stg0_0) (argX m c) ∗ holds c (Memref.whole cc0_stg1_0) (argW m c)
    ∗ holds c (Memref.whole cc0_stg2_0) (argO m c))

theorem before_0 (c : Dev nD) (d) : (dats m 0 c).before (0 : Fin 3) t0_0 d = argX m c := by
  unfold Dat.before; rw [if_pos (fetch_all 0 t0_0)]; rfl
theorem before_1 (c : Dev nD) (d) : (dats m 0 c).before (1 : Fin 3) t0_0 d = argW m c := by
  unfold Dat.before; rw [if_pos (fetch_all 1 t0_0)]; rfl
theorem before_2 (c : Dev nD) (d) : (dats m 0 c).before (2 : Fin 3) t0_0 d = argO m c := by
  unfold Dat.before; rw [if_pos (fetch_all 2 t0_0)]; rfl

set_option maxHeartbeats 4000000 in
theorem sound (c : Dev nD) : bodyPre m c ⊢ WP c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22) (fun _ => bodyPost m c) := by
  unfold bodyPre Φ₀ start G' plain Dat.owesAt Pipeline.owesWithin
  simp only [before_0, before_1, before_2]
  iintro ⟨⟨⟨⟨⟨%K, #HR, Hl⟩, Hp, Hs0, Hs1⟩, Hcr, #HL, HA, HY⟩, HS⟩, ⟨%W, -, HO⟩, ⟨%d0, HX⟩, ⟨%d1, HW⟩, ⟨%d2, HOo⟩⟩
  ihave HB := (body_pre (argA m) c) $$ [HO Hl Hcr HA HS Hs0 Hs1]
  · isplitl [HO]
    · iapply (show owes (c : Thread nD τ) (O₀ c) W ⊢ ow (F := F) c (bars c ++ outs c) from by unfold ow; iintro H; iexists W; iexact H)
      iexact HO
    isplitl [Hl]; · iexact Hl
    isplitl [Hcr]; · iexact Hcr
    isplitl [HA]; · iexact HA
    isplitl [HS]; · iexact HS
    isplitl [Hs0]; · iexact Hs0
    iexact Hs1
  icases HB with ⟨Hsig, H7, Hab, Hto, Hfe, Hex⟩
  iapply (show WP c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22) (fun _ => iprop(|={Set.univ}=> bodyPost m c)) ⊢ WP c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22) (fun _ => bodyPost m c) from wp_fupd _ _ _ _ (fun _ => bodyPost m c))
  iapply (body_run (vals m) K (argA m) (fun _ _ => rfl) c (argX m c) (argW m c) (argO m c) rfl rfl rfl (fun j => result_row m c j) (m ((c : Thread nD τ).loc main_v1))
    (fun _ => iprop(|={Set.univ}=> bodyPost m c))) $$ [Hsig H7 Hab Hto Hfe Hex HX HW HOo HY Hp]
  · isplitr; · iexact HR
    isplitr; · iexact HL
    isplitl [Hsig]; · iexact Hsig
    isplitl [H7]; · iexact H7
    isplitl [Hab]; · iexact Hab
    isplitl [Hto]; · iexact Hto
    isplitl [Hfe]; · iexact Hfe
    isplitl [Hex]; · iexact Hex
    isplitl [HX HW HOo]
    · unfold winP
      isplitl [HX]; · iexact HX
      isplitl [HW]; · iexact HW
      iexact HOo
    isplitl [HY]; · iexact HY
    iexact Hp
  iintro ⟨HO, Hab, Hfe, Hw, HY, Hp, Hex⟩
  imod (body_post (vals m) K (argA m) c) $$ [Hab Hfe Hex] with ⟨HA, HS, ⟨Hs0, Hs1⟩, HV⟩
  · isplitr; · iexact HR
    isplitl [Hab]; · iexact Hab
    isplitl [Hfe]; · iexact Hfe
    iexact Hex
  imodintro
  unfold bodyPost Φ₁ Dat.owesAt Pipeline.owesWithin plain winP
  icases Hw with ⟨HX, HW, HOo⟩
  isplitl [HA HY HS Hp Hs0 Hs1 HV]
  · isplitl [HA]; · iexact HA
    isplitl [HY]; · iexact HY
    isplitl [HS]; · iexact HS
    isplitl [Hp Hs0 Hs1]
    · isplitl [Hp]; · iexact Hp
      isplitl [Hs0]; · iexact Hs0
      iexact Hs1
    iexact HV
  isplitl [HO]
  · ihave HO := (show ow (F := F) c [] ⊢ iprop(∃ W, owes (c : Thread nD τ) (owe []) W) from Entails.of_eq rfl) $$ HO
    icases HO with ⟨%W', HO⟩
    iexists W'
    isplitr; · ipureintro; exact fun _ _ => Or.inl trivial
    iexact HO
  isplitl [HX]; · iexact HX
  isplitl [HW]; · iexact HW
  iexact HOo

set_option maxRecDepth 8000 in
theorem body_obligation (c : Dev nD) : BodyObligation (dats m 0 c) (defs₀ (F := F)) 𝒱₀ () Set.univ := fun t => by
  rw [fin_N0 t]
  rw [bigSep_W0, bigSep_W0]
  exact sound m c

/-! ## The side conditions of the launch -/

def u₀ : UU := (initOf (Pipeline.cells cfgs cellOf_inj) (Pipeline.launchToks cfgs cellOf_inj), (initOf cells toks, 1))

theorem own_split (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (vals m) c)
      ⊢ |={Set.univ}=> iprop(start m c ∗ emp) := by
  rw [Pipeline.unscopedRestP_none, show Pipeline.unscopedRest (Ix := Unit) (Name := ℕ) (U := UU) (Lvl := ℕ) cfg0.spec c (fun b => m ((c : Thread nD τ).loc b)) = _ from unscopedRest0_eq c _]
  iintro ⟨⟨H2, H3, H1⟩, Hlev, Hcr, -, HG⟩
  ihave Hc := (creds (F := F) c) $$ Hcr
  imodintro
  unfold start outAt
  isplitl
  · isplitl [HG]; · iexact HG
    isplitl [Hc]; · iexact Hc
    isplitl [Hlev]; · iexact Hlev
    isplitl [H2 H3]
    · unfold arrs arrP
      isplitl [H2]
      · iexists (m ((c : Thread nD τ).loc main_arg2))
        isplitr; · ipureintro; exact View.read_whole _ _
        iapply (Entails.of_eq (show (((c : Thread nD τ).loc main_arg2) ↦{fullShare} m ((c : Thread nD τ).loc main_arg2) : sProp 𝕄)
          = (((c : Thread nD τ).loc main_arg2) ↦[(arrM 0).view.set]{fullShare} m ((c : Thread nD τ).loc main_arg2)) from by rw [show (arrM 0).view.set = Finset.univ from View.set_whole _]; rfl))
        iexact H2
      · iexists (m ((c : Thread nD τ).loc main_arg3))
        isplitr; · ipureintro; exact View.read_whole _ _
        iapply (Entails.of_eq (show (((c : Thread nD τ).loc main_arg3) ↦{fullShare} m ((c : Thread nD τ).loc main_arg3) : sProp 𝕄)
          = (((c : Thread nD τ).loc main_arg3) ↦[(arrM 1).view.set]{fullShare} m ((c : Thread nD τ).loc main_arg3)) from by rw [show (arrM 1).view.set = Finset.univ from View.set_whole _]; rfl))
        iexact H3
    iexact H1
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (Entails.of_eq (scratch_eq (F := F) c)); iexact Hr

theorem phi1_exit (c : Dev nD) :
    (dats m 0 c).Φ (Fin.last cfg0.N) ⊢ iprop((arrs c (argA m c) ∗ outAt c (outFull (result m)) ∗ unscopedSems0 c) ∗ Pipeline.ownSems0 osem c ∗ Pipeline.scopedRest cfg0.spec c) := by
  rw [show (dats m 0 c).Φ (Fin.last cfg0.N) = Φ₁ m c from rfl]
  unfold Φ₁
  iintro ⟨HA, HY, HS, HP, HV⟩
  ihave H := (sems_eq (F := F) c).2 $$ [HP HV]
  · isplitl [HP]; · iexact HP
    iexact HV
  icases H with ⟨Hos, Hus⟩
  isplitl [HA HY Hus]
  · isplitl [HA]; · iexact HA
    isplitl [HY]; · iexact HY
    iexact Hus
  isplitl [Hos]; · iexact Hos
  iapply (Entails.of_eq (scratch_eq (F := F) c).symm); iexact HS

theorem O₀_high : ∀ c, (bars c ++ outs c).all (fun x => decide (0 < lvk x.2)) = true := by decide
theorem stage_low : ∀ (w : Fin cfg0.W) (s : Fin (cfg0.win w).nbuf), tag (.dma ((cfg0.spec w).sem s)) = none := by decide
theorem waits (c : Dev nD) : (levAts L lv : sProp 𝕄) ⊢ Pipeline.cellsWaits cfgs (dats m) () 0 c :=
  Pipeline.cellsWaits_intro cfgs (dats m) () 0 c fun w s t => by
    have h : lv ((c : Thread nD τ), .dma ((cfg0.spec w).sem s)) () = 0 := by unfold lv; rw [stage_low w s]
    rcases t with ⟨_ | _, ht⟩
    · exact mayWait_of c _ 0 h (bars c ++ outs c) (O₀_high c)
    · exact mayWait_of c _ 0 h [] rfl

/-! ## The run -/

def post (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)
    ∧ s.mem ((c : Thread nD τ).loc main_v1) = (outFull (result m) : Buf (Elt F) ((c : Thread nD τ).loc main_v1))

theorem read_arr (c : Dev nD) (b : Ref sig .tc) (f : Buf (Elt F) ((c : Thread nD τ).loc b)) (s' : Phys nD τ sig (Elt F)) :
    iprop(SI s' ∗ ((c : Thread nD τ).loc b) ↦{fullShare} f) ⊢ (⌜s'.mem.mem ((c : Thread nD τ).loc b) = f⌝ : sProp 𝕄) := by
  iintro ⟨H, H'⟩
  ihave %h := (SI_pointsTo_agree (st := s') (ℓ := (c : Thread nD τ).loc b) (I := Finset.univ) (q := fullShare) (f := f)) $$ [H H']
  · isplitl [H]; · iexact H
    iexact H'
  ipureintro
  exact funext fun i => h i (Finset.mem_univ i)

theorem arrs_whole (c : Dev nD) : arrs c (argA m c) ⊢ (iprop((((c : Thread nD τ).loc main_arg2) ↦{fullShare} m ((c : Thread nD τ).loc main_arg2))
    ∗ (((c : Thread nD τ).loc main_arg3) ↦{fullShare} m ((c : Thread nD τ).loc main_arg3))) : sProp 𝕄) := by
  unfold arrs arrP
  iintro ⟨⟨%f, %h, H⟩, ⟨%g, %h', H'⟩⟩
  have e1 : f = m ((c : Thread nD τ).loc main_arg2) := by rw [← show (arrM 0).view.read (Elt F) f = f from View.read_whole _ _]; exact h
  have e2 : g = m ((c : Thread nD τ).loc main_arg3) := by rw [← show (arrM 1).view.read (Elt F) g = g from View.read_whole _ _]; exact h'
  subst e1 e2
  isplitl [H]
  · iapply (Entails.of_eq (show (((c : Thread nD τ).loc main_arg2) ↦[(arrM 0).view.set]{fullShare} m ((c : Thread nD τ).loc main_arg2) : sProp 𝕄)
        = (((c : Thread nD τ).loc main_arg2) ↦{fullShare} m ((c : Thread nD τ).loc main_arg2)) from by rw [show (arrM 0).view.set = Finset.univ from View.set_whole _]; rfl))
    iexact H
  · iapply (Entails.of_eq (show (((c : Thread nD τ).loc main_arg3) ↦[(arrM 1).view.set]{fullShare} m ((c : Thread nD τ).loc main_arg3) : sProp 𝕄)
        = (((c : Thread nD τ).loc main_arg3) ↦{fullShare} m ((c : Thread nD τ).loc main_arg3)) from by rw [show (arrM 1).view.set = Finset.univ from View.set_whole _]; rfl))
    iexact H'

theorem read_post (c : Dev nD) (s' : Phys nD τ sig (Elt F)) :
    iprop((arrs c (argA m c) ∗ outAt c (outFull (result m)) ∗ unscopedSems0 c) ∗ emp ∗ SI s')
      ⊢ |={Set.univ}=> iprop(⌜post m c s'.mem ∧ ∀ sm : SemLoc sig, sm.isScoped .tc = false → s'.mem.sem ((c.tc : Thread nD τ), sm) = 0⌝ ∗ SI s' : sProp 𝕄) := by
  iintro ⟨⟨HA, HY, Hu⟩, -, HSI⟩
  ihave HA := (arrs_whole m c) $$ HA
  icases HA with ⟨H2, H3⟩
  ihave %h2 := (read_arr c main_arg2 _ s') $$ [H2 HSI]
  · isplitl [HSI]; · iexact HSI
    iexact H2
  ihave %h3 := (read_arr c main_arg3 _ s') $$ [H3 HSI]
  · isplitl [HSI]; · iexact HSI
    iexact H3
  ihave %h1 := (read_arr c main_v1 (outFull (result m)) s') $$ [HY HSI]
  · isplitl [HSI]; · iexact HSI
    unfold outAt; iexact HY
  imod (Pipeline.unscopedSems0_read (X := unscopedSems0 c) (c := c) fupd_intro s') $$ [Hu HSI] with ⟨%h, HSI⟩
  · isplitl [Hu]; · iexact Hu
    iexact HSI
  imodintro
  isplitr; · ipureintro; exact ⟨⟨h2, h3, h1⟩, h⟩
  iexact HSI

/-- What is left in memory. -/
def Done (s : MemSt nD τ sig (Elt F)) : Prop :=
  (∀ c : Dev nD, s.mem ((c : Thread nD τ).loc main_arg0) = m ((c : Thread nD τ).loc main_arg0) ∧ s.mem ((c : Thread nD τ).loc main_arg1) = m ((c : Thread nD τ).loc main_arg1)
      ∧ s.mem ((c : Thread nD τ).loc main_arg4) = m ((c : Thread nD τ).loc main_arg4) ∧ post m c s)
    ∧ s.sem = fun _ => 0

set_option maxHeartbeats 4000000 in
set_option maxRecDepth 8000 in
theorem run_main : θ_run defs (onTc (τ := τ) (main (F := F))) (s₀ m ρ) (fun r => Done m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (vals m)) (G' := G' (vals m)) (u₀ := u₀)
    (hu₀ := by
      unfold u₀
      iintro Hu
      ihave H := (own_split _ _) $$ Hu
      icases H with ⟨HP, HX⟩
      imod (fund (vals m)) $$ HX with HG
      imodintro
      isplitl [HP]; · iexact HP
      iexact HG)
    (hglob := glob (vals m))
    (hA := fun _ _ => rfl) (hpf := fun _ k => k.elim0)
    (X := start m) (Y := fun c => iprop(arrs c (argA m c) ∗ outAt c (outFull (result m)) ∗ unscopedSems0 c)) (Z := fun _ => iprop(emp))
    (hX := start_intro m ρ) (hin := phi0_intro m) (hout := phi1_exit m)
    (QY := fun c s => post m c s ∧ ∀ sm : SemLoc sig, sm.isScoped .tc = false → s.sem ((c.tc : Thread nD τ), sm) = 0)
    (hY := read_post m)
    (hQ := fun s h hs => ⟨fun c => ⟨((h c).1 0).trans ((dats m 0 c).arrAt_in (0 : Fin 3) rfl _), ((h c).1 1).trans ((dats m 0 c).arrAt_in (1 : Fin 3) rfl _),
        ((h c).1 2).trans ((dats m 0 c).arrAt_in (2 : Fin 3) rfl _), (h c).2.2.1⟩, sem_eq_zero hs fun c => (h c).2.2.2⟩)

end Cert.Proof.Attn
-- ==== Proof.Frames.lean ====
/-
  The two kernels' frames, both from the one run: the kernel over the machine's floats reads its mask constant as the
  float its bits name.
-/
module

public import proofs.«01_k».proof.Proof.Run
public import proofs.«01_k».proof.Proof.Gen.Kernel
public import proofs.«01_k».proof.Defs

@[expose] public section

noncomputable section

namespace Cert.Proof

open Idealize.ShloMosaic Idealize.SL.Sem

/-- A named constant over the machine's floats: the float of its bits. -/
local instance namedBits : Named Bits := ⟨fun _ _ _ bits => Scalar.ofBits _ bits⟩

attribute [local instance] Cert.Kernel.Gen.facts Cert.KernelIdeal.Gen.facts

theorem frame_ideal : Cert.quiescent_KernelIdeal := fun m ρ _ =>
  (θ_run Cert.KernelIdeal.defs _ _).mono (fun _ h => ⟨fun c => ⟨(h.1 c).1, (h.1 c).2.1, (h.1 c).2.2.2.1, (h.1 c).2.2.2.2.1, (h.1 c).2.2.1⟩, h.2⟩)
    (Attn.run_main (F := Ideal) m ρ)

theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
theorem defs_eq : Cert.Kernel.defs (F := Bits) = Cert.KernelIdeal.defs (F := Bits) := by
  unfold Cert.Kernel.defs Cert.KernelIdeal.defs
  exact congrArg (Pipeline.defs _) bodies_eq

theorem frame_kernel : Cert.quiescent_Kernel := fun m ρ _ => by
  refine (congrArg (fun d => (θ_run d (onTc (τ := Cert.Kernel.τ) (Cert.Kernel.main (F := Bits))) ⟨m, fun _ => 0, ρ⟩) _) defs_eq).mpr ?_
  exact (θ_run (Cert.KernelIdeal.defs (F := Bits)) _ _).mono
    (fun _ h => ⟨fun c => ⟨(h.1 c).1, (h.1 c).2.1, (h.1 c).2.2.2.1, (h.1 c).2.2.2.2.1, (h.1 c).2.2.1⟩, h.2⟩) (Attn.run_main (F := Bits) m ρ)

theorem preserves : Cert.preserves_Kernel_KernelIdeal :=
  IdealRules.named_const.statement Cert.KernelIdeal.κ "mask" .f32 0xCE6E6B28#32 ⊥ rfl

end Cert.Proof
-- ==== Proof.KVal.lean ====
/-
  What one device computes from the arrays it holds, index by index.
-/
module

public import proofs.«01_k».proof.Proof.Run
public import Idealize.ShloMosaic.Lib.Pointwise
public import Idealize.ShloMosaic.Lib.ValueIdx
public import Idealize.ShloMosaic.Lib.IdealHost

@[expose] public section

set_option maxRecDepth 16384

noncomputable section

namespace Cert.Proof.Attn

open Cert.KernelIdeal Cert.KernelIdeal.Gen
open Idealize.ShloMosaic

/-- The factor on the projected queries. -/
def scale : EReal := Ideal.ofBits .f32 0x3DB504F3#32

theorem query_apply (X : Vec Ideal S1x1024x1024 .f32) (W : Vec Ideal S1024x1024 .f32) (i n : Fin 1024) :
    k0_pay45 (F := Ideal) X W (ix2 i n) = (∑ k : Fin 1024, X (ix3 0 i k) * W (ix2 k n)) * scale := by
  pointwise [k0_pay45, scale]

theorem head_apply (m : FVec Ideal S512x1024 .f32) (q : Vec Ideal S512x128 .bf16) (k v : Vec Ideal S1x1024x1x128 .bf16) (r : Fin 512) (d : Fin 128) :
    k0_pay54 (F := Ideal) m q k v (ix2 r d)
      = Ideal.div (∑ j : Fin 1024, Ideal.exp ((∑ d' : Fin 128, q (ix2 r d') * k (ix4 0 j 0 d')) + m (ix2 r j)) * v (ix4 0 j 0 d))
          (∑ j : Fin 1024, Ideal.exp ((∑ d' : Fin 128, q (ix2 r d') * k (ix4 0 j 0 d')) + m (ix2 r j))) := by
  pointwise [k0_pay54]

/-- The quotient by 64 rounded down, as the kernel spells it. -/
def fd (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32) (IntOp.divsi ArithUnit.vector x 64#32)

theorem fd_fin : ∀ n : Fin 1024, fd (BitVec.ofNat 32 n.val) = BitVec.ofNat 32 (n.val / 64) := by decide +kernel
theorem sle_fin : ∀ a b : Fin 16, IntOp.cmpi .sle (BitVec.ofNat 32 a.val) (BitVec.ofNat 32 b.val) = if a.val ≤ b.val then 1#1 else 0#1 := by decide +kernel

/-- Which keys a row reads: those of its own block of 64 and of the blocks before. -/
def mask (i j : Fin 1024) : EReal := if j.val / 64 ≤ i.val / 64 then 0 else ⊥

theorem named_mask : (Named.named (F := Ideal) κ "mask" (φ := .f32) 0xCE6E6B28#32) = (⊥ : EReal) :=
  IdealRules.named_const.ideal_named_scalar κ "mask" (φ := .f32) 0xCE6E6B28#32 ⊥ rfl

theorem mask_of (i j : Fin 1024) :
    Scalar.select (IntOp.cmpi .sle (fd (BitVec.ofNat 32 j.val)) (fd (BitVec.ofNat 32 i.val))) (0 : Ideal .f32) (Named.named (F := Ideal) κ "mask" (φ := .f32) 0xCE6E6B28#32) = mask i j := by
  rw [fd_fin, fd_fin, sle_fin ⟨j.val / 64, by omega⟩ ⟨i.val / 64, by omega⟩, named_mask]
  unfold mask
  split <;> rfl

theorem row_send : ∀ c : D, Scalar.muli 512#32 (Scalar.subi 1#32 (zw c)) = BitVec.ofNat 32 (512 * (1 - c.val / 4)) := by decide +kernel
theorem row_keep : ∀ c : D, Scalar.muli 512#32 (zw c) = BitVec.ofNat 32 (512 * (c.val / 4)) := by decide +kernel

/-- A row of the half that is sent, and of the half that is kept, in the whole array. -/
def sendRow (c : D) (r : Fin 512) : Fin 1024 := ⟨r.val + 512 * (1 - c.val / 4), by omega⟩
def keepRow (c : D) (r : Fin 512) : Fin 1024 := ⟨r.val + 512 * (c.val / 4), by have := c.isLt; simp only [nD] at this; omega⟩

theorem sendM_apply (c : D) (r : Fin 512) (j : Fin 1024) : sendM (F := Ideal) c (ix2 r j) = mask (sendRow c r) j := by
  unfold sendM
  pointwise [k0_pay50, k0_pay48, k0_pay49, k0_pay47]
  rw [row_send, ← mask_of]
  rw [show BitVec.ofNat 32 (sendRow c r).val = IntOp.addi (BitVec.ofNat 32 r.val) (BitVec.ofNat 32 (512 * (1 - c.val / 4))) from BitVec.ofNat_add ..]
  rfl

theorem keepM_apply (c : D) (r : Fin 512) (j : Fin 1024) : keepM (F := Ideal) c (ix2 r j) = mask (keepRow c r) j := by
  unfold keepM
  pointwise [k0_pay70, k0_pay69, k0_pay68, k0_pay67, k0_pay66]
  rw [row_keep, ← mask_of]
  rw [show BitVec.ofNat 32 (keepRow c r).val = IntOp.addi (BitVec.ofNat 32 r.val) (BitVec.ofNat 32 (512 * (c.val / 4))) from BitVec.ofNat_add ..]
  rfl

/-- The heads side by side. -/
def beside (w : Fin 8 → FVec Ideal S512x128 .bf16) (r : Fin 512) (m : Fin 1024) : EReal := w ⟨m.val / 128, by omega⟩ (ix2 r ⟨m.val % 128, by omega⟩)

theorem beside_of (w : Fin 8 → FVec Ideal S512x128 .bf16) (r : Fin 512) (m : Fin 1024) (a : Fin 8) (d : Fin 128) (ha : m.val / 128 = a.val) (hd : m.val % 128 = d.val) :
    beside w r m = w a (ix2 r d) := by
  unfold beside
  rw [show (⟨m.val / 128, by omega⟩ : Fin 8) = a from Fin.ext ha, show (⟨m.val % 128, by omega⟩ : Fin 128) = d from Fin.ext hd]

theorem ladder (w : Fin 8 → FVec Ideal S512x128 .bf16) (r : Fin 512) (t : Fin 1024) :
    (if h0 : t.val < 128 then w 0 (ix2 r ⟨t.val, h0⟩) else
      if h1 : t.val - 128 < 128 then w 1 (ix2 r ⟨t.val - 128, h1⟩) else
      if h2 : t.val - 128 - 128 < 128 then w 2 (ix2 r ⟨t.val - 128 - 128, h2⟩) else
      if h3 : t.val - 128 - 128 - 128 < 128 then w 3 (ix2 r ⟨t.val - 128 - 128 - 128, h3⟩) else
      if h4 : t.val - 128 - 128 - 128 - 128 < 128 then w 4 (ix2 r ⟨t.val - 128 - 128 - 128 - 128, h4⟩) else
      if h5 : t.val - 128 - 128 - 128 - 128 - 128 < 128 then w 5 (ix2 r ⟨t.val - 128 - 128 - 128 - 128 - 128, h5⟩) else
      if h6 : t.val - 128 - 128 - 128 - 128 - 128 - 128 < 128 then w 6 (ix2 r ⟨t.val - 128 - 128 - 128 - 128 - 128 - 128, h6⟩) else
        w 7 (ix2 r ⟨t.val - 128 - 128 - 128 - 128 - 128 - 128 - 128, by omega⟩))
      = beside w r t := by
  by_cases h0 : t.val < 128
  · rw [dif_pos h0]; exact (beside_of w r t 0 _ (by omega) (by simp only []; omega)).symm
  rw [dif_neg h0]
  by_cases h1 : t.val - 128 < 128
  · rw [dif_pos h1]; exact (beside_of w r t 1 _ (by omega) (by simp only []; omega)).symm
  rw [dif_neg h1]
  by_cases h2 : t.val - 128 - 128 < 128
  · rw [dif_pos h2]; exact (beside_of w r t 2 _ (by omega) (by simp only []; omega)).symm
  rw [dif_neg h2]
  by_cases h3 : t.val - 128 - 128 - 128 < 128
  · rw [dif_pos h3]; exact (beside_of w r t 3 _ (by omega) (by simp only []; omega)).symm
  rw [dif_neg h3]
  by_cases h4 : t.val - 128 - 128 - 128 - 128 < 128
  · rw [dif_pos h4]; exact (beside_of w r t 4 _ (by omega) (by simp only []; omega)).symm
  rw [dif_neg h4]
  by_cases h5 : t.val - 128 - 128 - 128 - 128 - 128 < 128
  · rw [dif_pos h5]; exact (beside_of w r t 5 _ (by omega) (by simp only []; omega)).symm
  rw [dif_neg h5]
  by_cases h6 : t.val - 128 - 128 - 128 - 128 - 128 - 128 < 128
  · rw [dif_pos h6]; exact (beside_of w r t 6 _ (by omega) (by simp only []; omega)).symm
  rw [dif_neg h6]
  exact (beside_of w r t 7 _ (by omega) (by simp only []; omega)).symm

theorem sendP_apply (wo : FVec Ideal S1024x1024 .bf16) (m : FVec Ideal S512x1024 .f32) (q : Fin 8 → Vec Ideal S512x128 .bf16) (k v : Fin 8 → Vec Ideal S1x1024x1x128 .bf16)
    (r : Fin 512) (n : Fin 1024) :
    sendP wo m q k v (ix2 r n) = ∑ t : Fin 1024, beside (fun h => headF m (q h) (k h) (v h)) r t * wo (ix2 t n) := by
  unfold sendP
  pointwise [k0_pay65]
  refine Finset.sum_congr rfl fun t _ => Ideal.mul_congr ?_ rfl
  simp only [← head_apply]
  exact ladder (fun h => headF m (q h) (k h) (v h)) r t

theorem keepP_apply (wo : FVec Ideal S1024x1024 .bf16) (m : FVec Ideal S512x1024 .f32) (q : Fin 8 → Vec Ideal S512x128 .bf16) (k v : Fin 8 → Vec Ideal S1x1024x1x128 .bf16)
    (r : Fin 512) (n : Fin 1024) :
    keepP wo m q k v (ix2 r n) = ∑ t : Fin 1024, beside (fun h => headF m (q h) (k h) (v h)) r t * wo (ix2 t n) := by
  unfold keepP
  pointwise [k0_pay79, k0_pay78]
  refine Finset.sum_congr rfl fun t _ => Ideal.mul_congr ?_ rfl
  simp only [← head_apply]
  exact ladder (fun h => headF m (q h) (k h) (v h)) r t

end Cert.Proof.Attn
-- ==== Proof.KSum.lean ====
/-
  What the eight devices' exchange sums to: every row of the result is the sum of the eight devices' products.
-/
module

public import proofs.«01_k».proof.Proof.KVal

@[expose] public section

set_option maxRecDepth 16384

noncomputable section

namespace Cert.Proof.Attn

open Cert.KernelIdeal Cert.KernelIdeal.Gen
open Idealize.ShloMosaic

/-! ## One device's product, in plain sums -/

section plain
variable (X : S1x1024x1024.Idx → EReal) (W O : S1024x1024.Idx → EReal) (KK VV : S1x1024x64x128.Idx → EReal)

/-- Head `h` of device `c` among all heads. -/
def headNo (c : D) (h : Fin 8) : Fin 64 := ⟨8 * c.val + h.val, by have : c.val < 8 := c.isLt; omega⟩
/-- A projected query, scaled. -/
def query (i n : Fin 1024) : EReal := (∑ k : Fin 1024, X (ix3 0 i k) * W (ix2 k n)) * scale
def score (c : D) (h : Fin 8) (i j : Fin 1024) : EReal :=
  (∑ d : Fin 128, query X W i ⟨128 * h.val + d.val, by omega⟩ * KK (ix4 0 j (headNo c h) d)) + mask i j
/-- The mean of the values a row reads, under one head. -/
def mean (c : D) (h : Fin 8) (i : Fin 1024) (d : Fin 128) : EReal :=
  Ideal.div (∑ j : Fin 1024, Ideal.exp (score X W KK c h i j) * VV (ix4 0 j (headNo c h) d)) (∑ j : Fin 1024, Ideal.exp (score X W KK c h i j))
/-- A device's heads through its rows of the output matrix. -/
def prod (c : D) (i n : Fin 1024) : EReal :=
  ∑ t : Fin 1024, mean X W KK VV c ⟨t.val / 128, by omega⟩ i ⟨t.val % 128, by omega⟩ * O (ix2 t n)
end plain

/-! ## Rectangles by coordinates -/

theorem emb_at {n0 n1 : ℕ} (off : Fin 2 → ℕ) (hb : ∀ a, off a + (![n0, n1] : Fin 2 → ℕ) a ≤ S1024x1024.size a) (r : Fin n0) (d : Fin n1) (i j : Fin 1024)
    (hi : i.val = off 0 + r.val) (hj : j.val = off 1 + d.val) : (Rect.unit (s := S1024x1024) off (![n0, n1] : Fin 2 → ℕ) hb).emb (ix2 r d) = ix2 i j := by
  funext a
  match a with
  | 0 => exact Fin.ext (by show off 0 + 1 * r.val = i.val; omega)
  | 1 => exact Fin.ext (by show off 1 + 1 * d.val = j.val; omega)

theorem sendOff : ∀ c : D, (k0_off1 c 0 = 512 * (1 - c.val / 4) ∧ k0_off1 c 1 = 0) ∧ (k0_off2 c 0 = 512 * (1 - c.val / 4) ∧ k0_off2 c 1 = 128)
    ∧ (k0_off3 c 0 = 512 * (1 - c.val / 4) ∧ k0_off3 c 1 = 256) ∧ (k0_off4 c 0 = 512 * (1 - c.val / 4) ∧ k0_off4 c 1 = 384)
    ∧ (k0_off5 c 0 = 512 * (1 - c.val / 4) ∧ k0_off5 c 1 = 512) ∧ (k0_off6 c 0 = 512 * (1 - c.val / 4) ∧ k0_off6 c 1 = 640)
    ∧ (k0_off7 c 0 = 512 * (1 - c.val / 4) ∧ k0_off7 c 1 = 768) ∧ (k0_off8 c 0 = 512 * (1 - c.val / 4) ∧ k0_off8 c 1 = 896) := by decide +kernel
theorem keepOff : ∀ c : D, (k0_off9 c 0 = 512 * (c.val / 4) ∧ k0_off9 c 1 = 0) ∧ (k0_off10 c 0 = 512 * (c.val / 4) ∧ k0_off10 c 1 = 128)
    ∧ (k0_off11 c 0 = 512 * (c.val / 4) ∧ k0_off11 c 1 = 256) ∧ (k0_off12 c 0 = 512 * (c.val / 4) ∧ k0_off12 c 1 = 384)
    ∧ (k0_off13 c 0 = 512 * (c.val / 4) ∧ k0_off13 c 1 = 512) ∧ (k0_off14 c 0 = 512 * (c.val / 4) ∧ k0_off14 c 1 = 640)
    ∧ (k0_off15 c 0 = 512 * (c.val / 4) ∧ k0_off15 c 1 = 768) ∧ (k0_off16 c 0 = 512 * (c.val / 4) ∧ k0_off16 c 1 = 896) := by decide +kernel

theorem pick_head {α : Type} (off : Fin 2 → ℕ) (hb : ∀ a, off a + S512x128.size a ≤ S1024x1024.size a) (Q : S1024x1024.Idx → α) (r : Fin 512) (d : Fin 128) (i : Fin 1024) (h : Fin 8)
    (z : ℕ) (ho : off 0 = z ∧ off 1 = 128 * h.val) (hi : i.val = r.val + z) :
    pick (Rect.unit (s := S1024x1024) off S512x128.size hb) Q (ix2 r d) = Q (ix2 i ⟨128 * h.val + d.val, by omega⟩) :=
  congrArg Q (emb_at off hb r d i _ (by rw [ho.1, hi, Nat.add_comm]) (by rw [ho.2]))

theorem sendQ_apply (c : D) (Q : S1024x1024.Idx → EReal) (h : Fin 8) (r : Fin 512) (d : Fin 128) :
    sendQ (F := Ideal) c Q h (ix2 r d) = Q (ix2 (sendRow c r) ⟨128 * h.val + d.val, by omega⟩) := by
  obtain ⟨h1, h2, h3, h4, h5, h6, h7, h8⟩ := sendOff c
  match h with
  | 0 => exact pick_head _ _ Q r d _ 0 _ h1 rfl
  | 1 => exact pick_head _ _ Q r d _ 1 _ h2 rfl
  | 2 => exact pick_head _ _ Q r d _ 2 _ h3 rfl
  | 3 => exact pick_head _ _ Q r d _ 3 _ h4 rfl
  | 4 => exact pick_head _ _ Q r d _ 4 _ h5 rfl
  | 5 => exact pick_head _ _ Q r d _ 5 _ h6 rfl
  | 6 => exact pick_head _ _ Q r d _ 6 _ h7 rfl
  | 7 => exact pick_head _ _ Q r d _ 7 _ h8 rfl
theorem keepQ_apply (c : D) (Q : S1024x1024.Idx → EReal) (h : Fin 8) (r : Fin 512) (d : Fin 128) :
    keepQ (F := Ideal) c Q h (ix2 r d) = Q (ix2 (keepRow c r) ⟨128 * h.val + d.val, by omega⟩) := by
  obtain ⟨h1, h2, h3, h4, h5, h6, h7, h8⟩ := keepOff c
  match h with
  | 0 => exact pick_head _ _ Q r d _ 0 _ h1 rfl
  | 1 => exact pick_head _ _ Q r d _ 1 _ h2 rfl
  | 2 => exact pick_head _ _ Q r d _ 2 _ h3 rfl
  | 3 => exact pick_head _ _ Q r d _ 3 _ h4 rfl
  | 4 => exact pick_head _ _ Q r d _ 4 _ h5 rfl
  | 5 => exact pick_head _ _ Q r d _ 5 _ h6 rfl
  | 6 => exact pick_head _ _ Q r d _ 6 _ h7 rfl
  | 7 => exact pick_head _ _ Q r d _ 7 _ h8 rfl

theorem heads_apply (A : S1x1024x64x128.Idx → EReal) (c : D) (h : Fin 8) (j : Fin 1024) (d : Fin 128) :
    headsOf (F := Ideal) (kvOf (F := Ideal) A c) h (ix4 0 j 0 d) = A (ix4 0 j (headNo c h) d) := by
  show A (headIx c (kvIx h.val h.isLt (ix4 0 j 0 d))) = _
  congr 1
  funext a
  match a with
  | 0 => rfl
  | 1 => rfl
  | 2 => rfl
  | 3 => rfl

/-! ## A half's product -/

section halves
variable (X : S1x1024x1024.Idx → EReal) (W O : S1024x1024.Idx → EReal) (KK VV : S1x1024x64x128.Idx → EReal)

/-- The rows a half covers are the device's product on those rows, whatever they are. -/
theorem beside_mean (c : D) (row : Fin 512 → Fin 1024) (M : FVec Ideal S512x1024 .f32) (hM : ∀ r j, M (ix2 r j) = mask (row r) j)
    (Q : Fin 8 → Vec Ideal S512x128 .bf16)
    (hQ : ∀ h r (d : Fin 128), Q h (ix2 r d) = k0_pay45 (F := Ideal) X W (ix2 (row r) ⟨128 * h.val + d.val, by omega⟩)) (r : Fin 512) (t : Fin 1024) :
    beside (fun h => headF (F := Ideal) M (Q h) (headsOf (kvOf (F := Ideal) KK c) h) (headsOf (kvOf (F := Ideal) VV c) h)) r t
      = mean X W KK VV c ⟨t.val / 128, by omega⟩ (row r) ⟨t.val % 128, by omega⟩ := by
  unfold beside
  refine (head_apply _ _ _ _ _ _).trans ?_
  simp only [hM, hQ, query_apply, heads_apply]
  rfl

theorem outM_apply (t n : Fin 1024) : k0_pay46 (F := Ideal) O (ix2 t n) = O (ix2 t n) := by pointwise [k0_pay46]

theorem sent (c : D) (r : Fin 512) (n : Fin 1024) :
    sendP (k0_pay46 (F := Ideal) O) (sendM c) (sendQ c (k0_pay45 (F := Ideal) X W)) (headsOf (kvOf (F := Ideal) KK c)) (headsOf (kvOf (F := Ideal) VV c)) (ix2 r n)
      = prod X W O KK VV c (sendRow c r) n := by
  rw [sendP_apply]
  refine Finset.sum_congr rfl fun t _ => ?_
  rw [beside_mean X W KK VV c (sendRow c) (sendM c) (sendM_apply c) _ (sendQ_apply c _), outM_apply]
theorem keptRows (c : D) (r : Fin 512) (n : Fin 1024) :
    keep0 (F := Ideal) c X W O (kvOf (F := Ideal) KK c) (kvOf (F := Ideal) VV c) (ix2 r n) = prod X W O KK VV c (keepRow c r) n := by
  unfold keep0
  rw [keepP_apply]
  refine Finset.sum_congr rfl fun t _ => ?_
  rw [beside_mean X W KK VV c (keepRow c) (keepM c) (keepM_apply c) _ (keepQ_apply c _), outM_apply]
end halves

end Cert.Proof.Attn
-- ==== Proof.KRes.lean ====
/-
  The result, row by row: the exchanges add the eight devices' products.
-/
module

public import proofs.«01_k».proof.Proof.KSum

@[expose] public section

set_option maxRecDepth 16384

noncomputable section

namespace Cert.Proof.Attn

open Cert.KernelIdeal Cert.KernelIdeal.Gen
open Idealize.ShloMosaic
open Idealize.ShloMosaic.TcCoe

variable (m : (ℓ : Loc nD τ sig) → Buf (Elt Ideal) ℓ)

theorem argX_eq (c : D) : argX (F := Ideal) m c = m ((c : Thread nD τ).loc main_arg0) := by
  funext j
  show m ((c : Thread nD τ).loc main_arg0) ((win0_0.blk t0_0).view.emb j) = _
  congr 1
  funext a
  refine Fin.ext ?_
  show 0 * _ + 1 * (j a).val = (j a).val
  rw [Nat.zero_mul, Nat.zero_add, Nat.one_mul]
theorem argW_eq (c : D) : argW (F := Ideal) m c = m ((c : Thread nD τ).loc main_arg1) := by
  funext j
  show m ((c : Thread nD τ).loc main_arg1) ((win0_1.blk t0_0).view.emb j) = _
  congr 1
  funext a
  refine Fin.ext ?_
  show 0 * _ + 1 * (j a).val = (j a).val
  rw [Nat.zero_mul, Nat.zero_add, Nat.one_mul]
theorem argO_eq (c : D) : argO (F := Ideal) m c = m ((c : Thread nD τ).loc main_arg4) := by
  funext j
  show m ((c : Thread nD τ).loc main_arg4) ((win0_2.blk t0_0).view.emb j) = _
  congr 1
  funext a
  refine Fin.ext ?_
  show 0 * _ + 1 * (j a).val = (j a).val
  rw [Nat.zero_mul, Nat.zero_add, Nat.one_mul]

/-- Device `c`'s product, of the arrays in memory. -/
def share (c : D) (i n : Fin 1024) : EReal :=
  prod (argX (F := Ideal) m c) (argW (F := Ideal) m c) (argO (F := Ideal) m c) (argA (F := Ideal) m 0 0) (argA (F := Ideal) m 0 1) c i n

/-- Row `r` of the 512, 256 or 128 rows from `lo`. -/
def rowAt (k lo : ℕ) (h : lo + k ≤ 1024) (r : Fin k) : Fin 1024 := ⟨lo + r.val, by omega⟩
theorem lo512_le : ∀ c : D, lo512 c + 512 ≤ 1024 := by decide
theorem lo256_le : ∀ c : D, lo256 c + 256 ≤ 1024 := by decide
theorem lo128_le : ∀ c : D, lo128 c + 128 ≤ 1024 := by decide

theorem pick_row {k : ℕ} (off : Fin 2 → ℕ) (lo : ℕ) (ho : off 0 = lo ∧ off 1 = 0) (h : lo + k ≤ 1024)
    (hb : ∀ a, off a + (![k, 1024] : Fin 2 → ℕ) a ≤ S1024x1024.size a) (r : Fin k) (n : Fin 1024) :
    (Rect.unit (s := S1024x1024) off (![k, 1024] : Fin 2 → ℕ) hb).emb (ix2 r n) = ix2 (rowAt k lo h r) n :=
  emb_at off hb r n _ _ (by rw [ho.1]; rfl) (by rw [ho.2, Nat.zero_add])

theorem e17 (c : D) (r : Fin 512) (n : Fin 1024) : (r17 c).emb (ix2 r n) = ix2 (rowAt 512 (lo512 c) (lo512_le c) r) n :=
  pick_row _ _ (off17_eq c) _ (k0_off17_inb c) r n
theorem e18 (c : D) (r : Fin 256) (n : Fin 1024) : (r18 c).emb (ix2 r n) = ix2 (rowAt 256 (lo256 (rsp 1 c)) (lo256_le _) r) n :=
  pick_row _ _ (off18_eq c) _ (k0_off18_inb c) r n
theorem e19 (c : D) (r : Fin 256) (n : Fin 1024) : (r19 c).emb (ix2 r n) = ix2 (rowAt 256 (lo256 c) (lo256_le _) r) n :=
  pick_row _ _ (off19_eq c) _ (k0_off19_inb c) r n
theorem e20 (c : D) (r : Fin 128) (n : Fin 1024) : (r20 c).emb (ix2 r n) = ix2 (rowAt 128 (lo128 (rsp 2 c)) (lo128_le _) r) n :=
  pick_row _ _ (off20_eq c) _ (k0_off20_inb c) r n
theorem e21 (c : D) (r : Fin 128) (n : Fin 1024) : (r21 c).emb (ix2 r n) = ix2 (rowAt 128 (lo128 c) (lo128_le _) r) n :=
  pick_row _ _ (off21_eq c) _ (k0_off21_inb c) r n

/-- Two rows of one number are one row. -/
theorem row_eq {k k' lo lo' : ℕ} (h : lo + k ≤ 1024) (h' : lo' + k' ≤ 1024) (r : Fin k) (r' : Fin k') (e : lo + r.val = lo' + r'.val) :
    rowAt k lo h r = rowAt k' lo' h' r' := Fin.ext e

theorem rows_sent : ∀ c : D, 512 * (1 - (rsp 0 c).val / 4) = lo512 c := by decide
theorem rows_nest : ∀ c : D, lo512 c ≤ lo256 c ∧ lo256 c + 256 ≤ lo512 c + 512 ∧ lo512 c ≤ lo256 (rsp 1 c) ∧ lo256 (rsp 1 c) + 256 ≤ lo512 c + 512
    ∧ lo256 c ≤ lo128 c ∧ lo128 c + 128 ≤ lo256 c + 256 ∧ lo256 c ≤ lo128 (rsp 2 c) ∧ lo128 (rsp 2 c) + 128 ≤ lo256 c + 256 := by decide
theorem rsp_rsp1 : ∀ c : D, rsp 1 (rsp 1 c) = c := by decide
theorem rsp_rsp2 : ∀ c : D, rsp 2 (rsp 2 c) = c := by decide

theorem part0_at (c : D) (r : Fin 512) (n : Fin 1024) :
    part0 (F := Ideal) m c (ix2 (rowAt 512 (lo512 c) (lo512_le c) r) n) = share m c (rowAt 512 (lo512 c) (lo512_le c) r) n := by
  rw [← e17]
  unfold part0 acc0
  rw [put_emb]
  refine (keptRows (argX (F := Ideal) m c) (argW (F := Ideal) m c) (argO (F := Ideal) m c) (argA (F := Ideal) m 0 0) (argA (F := Ideal) m 0 1) c r n).trans ?_
  unfold share
  congr 1
  exact Fin.ext (Nat.add_comm _ _)

theorem send0_at (c : D) (r : Fin 512) (n : Fin 1024) :
    send0 (F := Ideal) m (rsp 0 c) (ix2 r n) = share m (rsp 0 c) (rowAt 512 (lo512 c) (lo512_le c) r) n := by
  unfold send0
  refine (sent (argX (F := Ideal) m (rsp 0 c)) (argW (F := Ideal) m (rsp 0 c)) (argO (F := Ideal) m (rsp 0 c)) (argA (F := Ideal) m 0 0) (argA (F := Ideal) m 0 1) (rsp 0 c) r n).trans ?_
  unfold share
  congr 1
  exact Fin.ext (by show r.val + 512 * (1 - (rsp 0 c).val / 4) = _; rw [rows_sent, Nat.add_comm]; rfl)

/-- After the first exchange: two devices' products. -/
def two (c : D) (i n : Fin 1024) : EReal := share m c i n + share m (rsp 0 c) i n
theorem part1_at (c : D) (i n : Fin 1024) (h0 : lo512 c ≤ i.val) (h1 : i.val < lo512 c + 512) : part1 (F := Ideal) m c (ix2 i n) = two m c i n := by
  obtain ⟨r, rfl⟩ : ∃ r : Fin 512, i = rowAt 512 (lo512 c) (lo512_le c) r := ⟨⟨i.val - lo512 c, by omega⟩, Fin.ext (by show _ = lo512 c + (i.val - lo512 c); omega)⟩
  rw [← e17]
  unfold part1 acc1
  rw [put_emb]
  pointwise [k0_pay80]
  show part0 (F := Ideal) m c ((r17 c).emb (ix2 r n)) + send0 (F := Ideal) m (rsp 0 c) (ix2 r n) = _
  rw [e17, part0_at, send0_at]
  rfl

/-- After the second: four. -/
def four (c : D) (i n : Fin 1024) : EReal := two m c i n + two m (rsp 1 c) i n
theorem send1_at (c : D) (r : Fin 256) (n : Fin 1024) :
    send1 (F := Ideal) m (rsp 1 c) (ix2 r n) = two m (rsp 1 c) (rowAt 256 (lo256 c) (lo256_le c) r) n := by
  unfold send1
  pointwise [k0_pay81]
  show part1 (F := Ideal) m (rsp 1 c) ((r18 (rsp 1 c)).emb (ix2 r n)) = _
  have h := rows_nest (rsp 1 c)
  rw [rsp_rsp1] at h
  rw [e18, show rowAt 256 (lo256 (rsp 1 (rsp 1 c))) (lo256_le _) r = rowAt 256 (lo256 c) (lo256_le c) r from row_eq _ _ _ _ (by rw [rsp_rsp1])]
  have hr := r.isLt
  exact part1_at m _ _ n (by show _ ≤ lo256 c + r.val; omega) (by show lo256 c + r.val < _; omega)
theorem part2_at (c : D) (i n : Fin 1024) (h0 : lo256 c ≤ i.val) (h1 : i.val < lo256 c + 256) : part2 (F := Ideal) m c (ix2 i n) = four m c i n := by
  obtain ⟨r, rfl⟩ : ∃ r : Fin 256, i = rowAt 256 (lo256 c) (lo256_le c) r := ⟨⟨i.val - lo256 c, by omega⟩, Fin.ext (by show _ = lo256 c + (i.val - lo256 c); omega)⟩
  have h := rows_nest c
  have hp := part1_at m c (rowAt 256 (lo256 c) (lo256_le c) r) n (by omega) (by omega)
  rw [← e19]
  unfold part2 acc2
  rw [put_emb]
  pointwise [k0_pay82]
  show part1 (F := Ideal) m c ((r19 c).emb (ix2 r n)) + send1 (F := Ideal) m (rsp 1 c) (ix2 r n) = _
  rw [e19, hp, send1_at]
  rfl

/-- After the third: all eight. -/
theorem send2_at (c : D) (r : Fin 128) (n : Fin 1024) :
    send2 (F := Ideal) m (rsp 2 c) (ix2 r n) = four m (rsp 2 c) (rowAt 128 (lo128 c) (lo128_le c) r) n := by
  unfold send2
  pointwise [k0_pay83]
  show part2 (F := Ideal) m (rsp 2 c) ((r20 (rsp 2 c)).emb (ix2 r n)) = _
  have h := rows_nest (rsp 2 c)
  rw [rsp_rsp2] at h
  rw [e20, show rowAt 128 (lo128 (rsp 2 (rsp 2 c))) (lo128_le _) r = rowAt 128 (lo128 c) (lo128_le c) r from row_eq _ _ _ _ (by rw [rsp_rsp2])]
  have hr := r.isLt
  exact part2_at m _ _ n (by show _ ≤ lo128 c + r.val; omega) (by show lo128 c + r.val < _; omega)
theorem rows_at (c : D) (r : Fin 128) (n : Fin 1024) :
    rowsOf (F := Ideal) m c (ix2 r n) = four m c (rowAt 128 (lo128 c) (lo128_le c) r) n + four m (rsp 2 c) (rowAt 128 (lo128 c) (lo128_le c) r) n := by
  have h := rows_nest c
  have hr := r.isLt
  have hp := part2_at m c (rowAt 128 (lo128 c) (lo128_le c) r) n (by show _ ≤ lo128 c + r.val; omega) (by show lo128 c + r.val < _; omega)
  unfold rowsOf
  pointwise [k0_pay85]
  show part3 (F := Ideal) m c ((r21 c).emb (ix2 r n)) = _
  unfold part3 acc3
  rw [put_emb]
  pointwise [k0_pay84]
  show part2 (F := Ideal) m c ((r21 c).emb (ix2 r n)) + send2 (F := Ideal) m (rsp 2 c) (ix2 r n) = _
  rw [e21, hp, send2_at]

theorem eight (f : D → EReal) : ∀ c : D,
    ((f c + f (rsp 0 c)) + (f (rsp 1 c) + f (rsp 0 (rsp 1 c)))) + ((f (rsp 2 c) + f (rsp 0 (rsp 2 c))) + (f (rsp 1 (rsp 2 c)) + f (rsp 0 (rsp 1 (rsp 2 c)))))
      = ∑ d : Fin 8, f d
  | 0 => by show ((f 0 + f 4) + (f 3 + f 7)) + ((f 1 + f 5) + (f 2 + f 6)) = _; rw [Fin.sum_univ_eight]; ac_rfl
  | 1 => by show ((f 1 + f 5) + (f 2 + f 6)) + ((f 0 + f 4) + (f 3 + f 7)) = _; rw [Fin.sum_univ_eight]; ac_rfl
  | 2 => by show ((f 2 + f 6) + (f 1 + f 5)) + ((f 3 + f 7) + (f 0 + f 4)) = _; rw [Fin.sum_univ_eight]; ac_rfl
  | 3 => by show ((f 3 + f 7) + (f 0 + f 4)) + ((f 2 + f 6) + (f 1 + f 5)) = _; rw [Fin.sum_univ_eight]; ac_rfl
  | 4 => by show ((f 4 + f 0) + (f 7 + f 3)) + ((f 5 + f 1) + (f 6 + f 2)) = _; rw [Fin.sum_univ_eight]; ac_rfl
  | 5 => by show ((f 5 + f 1) + (f 6 + f 2)) + ((f 4 + f 0) + (f 7 + f 3)) = _; rw [Fin.sum_univ_eight]; ac_rfl
  | 6 => by show ((f 6 + f 2) + (f 5 + f 1)) + ((f 7 + f 3) + (f 4 + f 0)) = _; rw [Fin.sum_univ_eight]; ac_rfl
  | 7 => by show ((f 7 + f 3) + (f 4 + f 0)) + ((f 6 + f 2) + (f 5 + f 1)) = _; rw [Fin.sum_univ_eight]; ac_rfl

theorem own_row : ∀ b : Fin 8, lo128 (own b) = 128 * b.val := by decide

/-- Every row of the result is the sum of the eight devices' products. -/
theorem result_at (i n : Fin 1024) : result (F := Ideal) m (ix2 i n) = ∑ d : Fin 8, share m d i n := by
  unfold result
  have hb : i.val / 128 % 8 = i.val / 128 := by omega
  have e : rowIn (ix2 i n) = ix2 (⟨i.val % 128, Nat.mod_lt _ (by decide)⟩ : Fin 128) n := by
    funext a
    match a with
    | 0 => rfl
    | 1 => rfl
  rw [e]
  refine (rows_at m _ _ n).trans ?_
  have hi : rowAt 128 (lo128 (own ⟨i.val / 128 % 8, Nat.mod_lt _ (by decide)⟩)) (lo128_le _) (⟨i.val % 128, Nat.mod_lt _ (by decide)⟩ : Fin 128) = i :=
    Fin.ext (by show lo128 _ + i.val % 128 = i.val; rw [own_row]; show 128 * (i.val / 128 % 8) + i.val % 128 = i.val; omega)
  refine Eq.trans ?_ (eight (fun d => share m d i n) (own ⟨i.val / 128 % 8, Nat.mod_lt _ (by decide)⟩))
  exact congrArg (fun x => four m _ x n + four m _ x n) hi

end Cert.Proof.Attn
-- ==== Proof.Maths.lean ====
/-
  Sums of extended reals: what the weighted mean of attention does when its scores are shifted, scaled, or cut to the
  keys that count.
-/
module

public import Idealize.ShloMosaic.Lib.IdealHost

@[expose] public section

noncomputable section

namespace Cert.Proof.Maths

open Idealize.ShloMosaic

/-- An extended real that is a real. -/
def IsR (x : EReal) : Prop := ∃ r : ℝ, x = (r : EReal)

theorem IsR.mul {x y : EReal} : IsR x → IsR y → IsR (x * y) := by
  rintro ⟨a, rfl⟩ ⟨b, rfl⟩; exact ⟨a * b, (EReal.coe_mul a b).symm⟩
theorem IsR.add {x y : EReal} : IsR x → IsR y → IsR (x + y) := by
  rintro ⟨a, rfl⟩ ⟨b, rfl⟩; exact ⟨a + b, (EReal.coe_add a b).symm⟩
theorem IsR.zero : IsR 0 := ⟨0, rfl⟩
theorem IsR.sum {ι : Type} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih
theorem IsR.of_abs {x : EReal} (h : max x (-x) < ⊤) : IsR x := by
  induction x with
  | bot => simp at h
  | coe r => exact ⟨r, rfl⟩
  | top => simp at h

theorem sum_mul {ι : Type} (s : Finset ι) (f : ι → EReal) (c : EReal) (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The products of a scaled row with a column are the scaled products. -/
theorem scale_dot {ι : Type} (s : Finset ι) (f g : ι → EReal) (c : EReal) (h0 : 0 ≤ c) (ht : c ≠ ⊤) :
    ∑ i ∈ s, (f i * c) * g i = (∑ i ∈ s, f i * g i) * c := by
  rw [sum_mul s _ c h0 ht]
  exact Finset.sum_congr rfl fun i _ => by rw [mul_assoc, mul_comm c, ← mul_assoc]

theorem exp_bot : Ideal.exp ⊥ = 0 := rfl

/-- The exponential of a score: zero where the score is absent, else a positive real. -/
theorem exp_cases {a : EReal} (h : a = ⊥ ∨ IsR a) : ∃ r : ℝ, 0 ≤ r ∧ Ideal.exp a = (r : EReal) ∧ (IsR a → 0 < r) := by
  rcases h with rfl | ⟨r, rfl⟩
  · refine ⟨0, le_refl 0, exp_bot.trans EReal.coe_zero.symm, ?_⟩
    rintro ⟨r, hr⟩; exact absurd hr.symm (EReal.coe_ne_bot r)
  · exact ⟨Real.exp r, (Real.exp_pos r).le, Ideal.exp_coe r, fun _ => Real.exp_pos r⟩

/-- The mean weighted by shifted exponentials is the quotient of the unshifted sums. -/
theorem soft {ι : Type} [Fintype ι] (a v : ι → EReal) (ha : ∀ j, a j = ⊥ ∨ IsR (a j)) (j0 : ι) (h0 : IsR (a j0)) (M : EReal) (hM : IsR M) :
    ∑ j, v j * Ideal.div (Ideal.exp (a j - M)) (∑ i, Ideal.exp (a i - M)) = Ideal.div (∑ j, Ideal.exp (a j) * v j) (∑ j, Ideal.exp (a j)) := by
  obtain ⟨M, rfl⟩ := hM
  have hs : ∀ j, Ideal.exp (a j - (M : EReal)) = Ideal.exp (a j) * ((Real.exp (-M) : ℝ) : EReal) := fun j => by
    rcases ha j with h | ⟨r, h⟩
    · rw [h, EReal.bot_sub, exp_bot, zero_mul]
    · rw [h, ← EReal.coe_sub, Ideal.exp_coe, Ideal.exp_coe, ← EReal.coe_mul, ← Real.exp_add, sub_eq_add_neg]
  choose e he0 he hep using fun j => exp_cases (ha j)
  have hS : ∑ j, Ideal.exp (a j) = ((∑ j, e j : ℝ) : EReal) := by
    rw [Finset.sum_congr rfl fun j _ => he j]
    exact (map_sum (⟨⟨((↑) : ℝ → EReal), rfl⟩, EReal.coe_add⟩ : ℝ →+ EReal) e Finset.univ).symm
  have hpos : 0 < ∑ j, e j := Finset.sum_pos' (fun j _ => he0 j) ⟨j0, Finset.mem_univ _, hep j0 h0⟩
  set S := ∑ j, e j with hSd
  have hE : (0 : ℝ) < Real.exp (-M) := Real.exp_pos _
  have hS' : ∑ i, Ideal.exp (a i - (M : EReal)) = ((S * Real.exp (-M) : ℝ) : EReal) := by
    rw [Finset.sum_congr rfl fun j _ => hs j, ← sum_mul _ _ _ (by exact_mod_cast hE.le) (EReal.coe_ne_top _), hS, ← EReal.coe_mul]
  rw [hS', hS, Ideal.div_coe hpos.ne', sum_mul _ _ _ (by exact_mod_cast (one_div_pos.mpr hpos).le) (EReal.coe_ne_top _)]
  refine Finset.sum_congr rfl fun j _ => ?_
  rw [Ideal.div_coe (mul_pos hpos hE).ne', hs j, he j, ← EReal.coe_mul, ← EReal.coe_mul, mul_comm (v j),
    mul_right_comm (e j : EReal) (v j), ← EReal.coe_mul]
  congr 2
  field_simp

/-- Keys whose score is absent drop out of both sums. -/
theorem cut {n k : ℕ} (a v : Fin (n + k) → EReal) (h : ∀ j : Fin k, a (Fin.natAdd n j) = ⊥) :
    Ideal.div (∑ j, Ideal.exp (a j) * v j) (∑ j, Ideal.exp (a j))
      = Ideal.div (∑ j : Fin n, Ideal.exp (a (Fin.castAdd k j)) * v (Fin.castAdd k j)) (∑ j : Fin n, Ideal.exp (a (Fin.castAdd k j))) := by
  rw [Fin.sum_univ_add, Fin.sum_univ_add]
  simp [h, exp_bot]

/-- The maximum of scores, some present and the rest absent, is a real. -/
theorem max_real {ι : Type} [Fintype ι] (a : ι → EReal) (ha : ∀ j, a j = ⊥ ∨ IsR (a j)) (j0 : ι) (h0 : IsR (a j0)) :
    IsR (Finset.univ.fold max ⊥ a) := by
  have h1 : Finset.univ.fold max ⊥ a ≠ ⊥ := by
    have : a j0 ≤ Finset.univ.fold max ⊥ a := Finset.le_fold_max (a j0) |>.mpr (Or.inr ⟨j0, Finset.mem_univ _, le_refl _⟩)
    intro h; rw [h] at this
    obtain ⟨r, hr⟩ := h0
    rw [hr] at this; exact EReal.coe_ne_bot r (le_bot_iff.mp this)
  have h2 : Finset.univ.fold max ⊥ a < ⊤ := by
    refine Finset.fold_max_lt ⊤ |>.mpr ⟨bot_lt_top, fun j _ => ?_⟩
    rcases ha j with h | ⟨r, h⟩ <;> rw [h]
    · exact bot_lt_top
    · exact EReal.coe_lt_top r
  generalize Finset.univ.fold max ⊥ a = x at h1 h2
  induction x with
  | bot => exact absurd rfl h1
  | coe r => exact ⟨r, rfl⟩
  | top => exact absurd h2 (lt_irrefl _)

/-- A sum over eight runs of 1024 is the sum over all 8192. -/
theorem sum_runs (f : Fin 8192 → EReal) : ∑ c : Fin 8, ∑ m : Fin 1024, f ⟨1024 * c.val + m.val, by omega⟩ = ∑ M, f M := by
  rw [← Fintype.sum_prod_type', ← (finProdFinEquiv (m := 8) (n := 1024)).sum_comp (fun M => f M)]
  refine Finset.sum_congr rfl fun p _ => congrArg f (Fin.ext ?_)
  simp [finProdFinEquiv]; omega

end Cert.Proof.Maths
-- ==== Proof.RVal.lean ====
/-
  What the reference computes, index by index: each stage of its program named, and read at an index.
-/
module

public import proofs.«01_k».proof.Proof.Gen.ReferenceIdeal.Run
public import proofs.«01_k».proof.Proof.Maths
public import Idealize.ShloMosaic.Lib.Pointwise
public import Idealize.ShloMosaic.Lib.ValueIdx
public import Idealize.ShloMosaic.Lib.IdealHost

@[expose] public section

set_option maxRecDepth 16384

noncomputable section

namespace Cert.Proof.Ref

open Cert.ReferenceIdeal Cert.ReferenceIdeal.Gen
open Idealize.ShloMosaic
open Idealize.ShloMosaic.TcCoe
open Cert.Proof.Maths

/-! ## The stages -/

/-- A number of a row over 64, rounded down, and of a key. -/
def rowB : IVec S1024 32 :=
  select
    (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))
def colB : IVec S8192 32 :=
  select
    (andi (cmpi .ne (signi (iotaInDim S8192 32 0)) (broadcastInDim S8192 ![] bcast_S_S8192 (signi (constantI S_ 32 64#32))))
      (cmpi .ne (Host.remsi (iotaInDim S8192 32 0) (broadcastInDim S8192 ![] bcast_S_S8192 (constantI S_ 32 64#32))) (broadcastInDim S8192 ![] bcast_S_S8192 (constantI S_ 32 0#32))))
    (subi (Host.divsi (iotaInDim S8192 32 0) (broadcastInDim S8192 ![] bcast_S_S8192 (constantI S_ 32 64#32))) (broadcastInDim S8192 ![] bcast_S_S8192 (constantI S_ 32 1#32)))
    (Host.divsi (iotaInDim S8192 32 0) (broadcastInDim S8192 ![] bcast_S_S8192 (constantI S_ 32 64#32)))
/-- Which key a row reads. -/
def reads : IVec S1024x8192 1 :=
  cmpi .sle (broadcastInDim S1024x8192 ![0, 1] bcast_S1x8192_S1024x8192_0_1 (broadcastInDim S1x8192 ![1] bcast_S8192_S1x8192_1 colB))
    (broadcastInDim S1024x8192 ![0, 1] bcast_S1024x1_S1024x8192_0_1 (broadcastInDim S1024x1 ![0] bcast_S1024_S1024x1_0 rowB))
/-- Whether a row reads any. -/
def any : IVec S1024 1 := Host.reduce IntOp.ori reads (constantI S_ 1 0#1) reducesTo_S1024x8192_S1024_d1 h_S_

variable (X : FVec Ideal S1x1024x1024 .f32) (W : FVec Ideal S1024x8192 .f32) (KK VV : FVec Ideal S1x8192x64x128 .f32) (O : FVec Ideal S8192x1024 .f32)

def scores : FVec Ideal S1x64x1024x8192 .f32 :=
  select (broadcastInDim S1x64x1024x8192 ![0, 1, 2, 3] bcast_S1x1x1024x8192_S1x64x1024x8192_0_1_2_3 (broadcastInDim S1x1x1024x8192 ![2, 3] bcast_S1024x8192_S1x1x1024x8192_2_3 reads))
    (mulf
      (Host.dotGeneral dot_S1x1024x64x128_S1x8192x64x128_S1x64x1024x8192_3_3_1_1_02_02 none
        (shapeCast S1x1024x64x128 (Host.dotGeneral dot_S1x1024x1024_S1024x8192_S1x1024x8192_2_0_01_1_n_n none X W) shapeCasts_S1x1024x8192_S1x1024x64x128) KK)
      (broadcastInDim S1x64x1024x8192 ![] bcast_S_S1x64x1024x8192 (constant S_ .f32 0x3DB504F3#32)))
    (broadcastInDim S1x64x1024x8192 ![] bcast_S_S1x64x1024x8192 (constant S_ .f32 0xFF800000#32))
def top : FVec Ideal S1x64x1024 .f32 := Host.reduce FloatOps.maximumf (scores X W KK) (constant S_ .f32 0xFF800000#32) reducesTo_S1x64x1024x8192_S1x64x1024_d3 h_S_
def exps : FVec Ideal S1x64x1024x8192 .f32 :=
  Host.exp (subf (scores X W KK)
    (broadcastInDim S1x64x1024x8192 ![0, 1, 2, 3] bcast_S1x64x1024x1_S1x64x1024x8192_0_1_2_3 (broadcastInDim S1x64x1024x1 ![0, 1, 2] bcast_S1x64x1024_S1x64x1024x1_0_1_2 (top X W KK))))
def total (b : IVec S1024 1) (E : FVec Ideal S1x64x1024x8192 .f32) : FVec Ideal S1x64x1024x1 .f32 :=
  select (broadcastInDim S1x64x1024x1 ![0, 1, 2, 3] bcast_S1x1x1024x1_S1x64x1024x1_0_1_2_3 (broadcastInDim S1x1x1024x1 ![2] bcast_S1024_S1x1x1024x1_2 b))
    (broadcastInDim S1x64x1024x1 ![0, 1, 2] bcast_S1x64x1024_S1x64x1024x1_0_1_2 (Host.reduceAdd E (constant S_ .f32 0x00000000#32) reducesTo_S1x64x1024x8192_S1x64x1024_d3 h_S_))
    (broadcastInDim S1x64x1024x1 ![] bcast_S_S1x64x1024x1 (constant S_ .f32 0x3F800000#32))
def weights (b : IVec S1024 1) (E : FVec Ideal S1x64x1024x8192 .f32) (T : FVec Ideal S1x64x1024x1 .f32) : FVec Ideal S1x64x1024x8192 .f32 :=
  select (broadcastInDim S1x64x1024x8192 ![0, 1, 2, 3] bcast_S1x1x1024x1_S1x64x1024x8192_0_1_2_3 (broadcastInDim S1x1x1024x1 ![2] bcast_S1024_S1x1x1024x1_2 b))
    (Host.divf E (broadcastInDim S1x64x1024x8192 ![0, 1, 2, 3] bcast_S1x64x1024x1_S1x64x1024x8192_0_1_2_3 T))
    (broadcastInDim S1x64x1024x8192 ![] bcast_S_S1x64x1024x8192 (constant S_ .f32 0x00000000#32))
def means (w : FVec Ideal S1x64x1024x8192 .f32) : FVec Ideal S1x64x128x1024 .f32 := Host.dotGeneral dot_S1x8192x64x128_S1x64x1024x8192_S1x64x128x1024_1_3_3_2_02_01 none VV w
def output (M : FVec Ideal S1x64x128x1024 .f32) : FVec Ideal S1x1024x1024 .bf16 :=
  truncf .bf16
    (Host.dotGeneral dot_S1x1024x8192_S8192x1024_S1x1024x1024_2_0_01_1_n_n none
      (shapeCast S1x1024x8192 (transpose S1x1024x64x128 [0, 3, 1, 2] M transposes_S1x64x128x1024_S1x1024x64x128_0_3_1_2) shapeCasts_S1x1024x64x128_S1x1024x8192) O)
    bitsLt_bf16_f32

set_option maxHeartbeats 2000000 in
theorem output_eq (m : (ℓ : Loc nD τ sig) → Buf (Elt Ideal) ℓ) (c : Dev nD) :
    Value.res_main_v34 (F := Ideal) m c
      = output (m ((c.tc : Thread nD τ).loc main_arg4))
          (means (m ((c.tc : Thread nD τ).loc main_arg3))
            (weights any (exps (m ((c.tc : Thread nD τ).loc main_arg0)) (m ((c.tc : Thread nD τ).loc main_arg1)) (m ((c.tc : Thread nD τ).loc main_arg2)))
              (total any (exps (m ((c.tc : Thread nD τ).loc main_arg0)) (m ((c.tc : Thread nD τ).loc main_arg1)) (m ((c.tc : Thread nD τ).loc main_arg2)))))) := by
  unfold Value.res_main_v34 output means weights total exps top scores any reads rowB colB
  rfl

end Cert.Proof.Ref
-- ==== Proof.RRead.lean ====
/-
  The reference's stages, read at an index.
-/
module

public import proofs.«01_k».proof.Proof.RVal

@[expose] public section

set_option maxRecDepth 16384

noncomputable section

namespace Cert.Proof.Ref

open Cert.ReferenceIdeal Cert.ReferenceIdeal.Gen
open Idealize.ShloMosaic
open Idealize.ShloMosaic.TcCoe
open Cert.Proof.Maths

/-- A number over 64, rounded down, as the reference spells it. -/
def fdh (x : BitVec 32) : BitVec 32 :=
  Scalar.select
    (IntOp.andi
      (IntOp.cmpi .ne (if x = 0 then 0 else if x.msb = true then -1 else 1 : BitVec 32) (if (64#32 : BitVec 32) = 0 then 0 else if (64#32 : BitVec 32).msb = true then -1 else 1 : BitVec 32))
      (IntOp.cmpi .ne (IntOp.remsi ArithUnit.host x 64#32) 0#32))
    (IntOp.subi (IntOp.divsi ArithUnit.host x 64#32) 1#32) (IntOp.divsi ArithUnit.host x 64#32)
theorem fdh_fin : ∀ n : Fin 8192, fdh (BitVec.ofNat 32 n.val) = BitVec.ofNat 32 (n.val / 64) := by decide +kernel
theorem sle_fin : ∀ (a : Fin 128) (b : Fin 16), IntOp.cmpi .sle (BitVec.ofNat 32 a.val) (BitVec.ofNat 32 b.val) = if a.val ≤ b.val then 1#1 else 0#1 := by decide +kernel

theorem rowB_apply (i : Fin 1024) : rowB (ix1 i) = BitVec.ofNat 32 (i.val / 64) := by
  pointwise [rowB]
  exact fdh_fin ⟨i.val, by omega⟩
theorem colB_apply (j : Fin 8192) : colB (ix1 j) = BitVec.ofNat 32 (j.val / 64) := by
  pointwise [colB]
  exact fdh_fin j
theorem reads_apply (i : Fin 1024) (j : Fin 8192) : reads (ix2 i j) = if j.val / 64 ≤ i.val / 64 then 1#1 else 0#1 := by
  pointwise [reads]
  rw [rowB_apply, colB_apply]
  exact sle_fin ⟨j.val / 64, by omega⟩ ⟨i.val / 64, by omega⟩
theorem or_one : ∀ x : BitVec 1, IntOp.ori 1#1 x = 1#1 := by decide
theorem any_apply (i : Fin 1024) : any (ix1 i) = 1#1 := by
  pointwise [any]
  rw [← Finset.insert_erase (Finset.mem_univ (0 : Fin 8192)), Finset.fold_insert (Finset.notMem_erase _ _), reads_apply, if_pos (by simp)]
  exact or_one _

variable (X : FVec Ideal S1x1024x1024 .f32) (W : FVec Ideal S1024x8192 .f32) (KK VV : FVec Ideal S1x8192x64x128 .f32) (O : FVec Ideal S8192x1024 .f32)

def scale : EReal := Ideal.ofBits .f32 0x3DB504F3#32
theorem inf_bits : Ideal.ofBits .f32 0xFF800000#32 = ⊥ := by simp [Ideal.ofBits, Ideal.ieee]
/-- A row's product with a key under a head, scaled; absent where the row does not read the key. -/
def score (h : Fin 64) (i : Fin 1024) (j : Fin 8192) : EReal :=
  if j.val / 64 ≤ i.val / 64 then
    (∑ d : Fin 128, (∑ k : Fin 1024, X (ix3 0 i k) * W (ix2 k ⟨h.val * 128 + d.val, by omega⟩)) * KK (ix4 0 j h d)) * scale
  else ⊥
theorem scores_apply (h : Fin 64) (i : Fin 1024) (j : Fin 8192) : scores X W KK (ix4 0 h i j) = score X W KK h i j := by
  pointwise [scores]
  rw [reads_apply, inf_bits]
  unfold score
  split <;> rfl
theorem top_apply (h : Fin 64) (i : Fin 1024) : top X W KK (ix3 0 h i) = Finset.univ.fold max ⊥ (score X W KK h i) := by
  pointwise [top]
  rw [inf_bits]
  simp only [scores_apply]
theorem exps_apply (h : Fin 64) (i : Fin 1024) (j : Fin 8192) : exps X W KK (ix4 0 h i j) = Ideal.exp (score X W KK h i j - top X W KK (ix3 0 h i)) := by
  pointwise [exps]
  rw [scores_apply]
theorem total_apply (b : IVec S1024 1) (E : FVec Ideal S1x64x1024x8192 .f32) (hb : ∀ i, b (ix1 i) = 1#1) (h : Fin 64) (i : Fin 1024) : total b E (ix4 0 h i 0) = ∑ j : Fin 8192, E (ix4 0 h i j) := by
  pointwise [total]
  rw [hb]
  rfl
theorem weights_apply (b : IVec S1024 1) (E : FVec Ideal S1x64x1024x8192 .f32) (T : FVec Ideal S1x64x1024x1 .f32) (hb : ∀ i, b (ix1 i) = 1#1) (h : Fin 64) (i : Fin 1024) (j : Fin 8192) :
    weights b E T (ix4 0 h i j) = Ideal.div (E (ix4 0 h i j)) (T (ix4 0 h i 0)) := by
  pointwise [weights]
  rw [hb]
  rfl
theorem output_apply (w : FVec Ideal S1x64x1024x8192 .f32) (i n : Fin 1024) :
    output O (means VV w) (ix3 0 i n)
      = ∑ M : Fin 8192, (∑ j : Fin 8192, VV (ix4 0 j ⟨M.val / 128, by omega⟩ ⟨M.val % 128, by omega⟩) * w (ix4 0 ⟨M.val / 128, by omega⟩ i j)) * O (ix2 M n) := by
  pointwise [output, means]

end Cert.Proof.Ref
-- ==== Proof.Equal.lean ====
/-
  The eight devices' products add up to the reference's output, where the rows, the query weights and the keys that are
  read are finite.
-/
module

public import proofs.«01_k».proof.Proof.KRes
public import proofs.«01_k».proof.Proof.RRead

@[expose] public section

set_option maxRecDepth 16384

noncomputable section

namespace Cert.Proof.Equal

open Idealize.ShloMosaic
open Cert.Proof.Maths

theorem scale_real : IsR Ref.scale ∧ 0 ≤ Ref.scale ∧ Ref.scale ≠ ⊤ := by
  have h : ∃ r : ℝ, 0 ≤ r ∧ Ref.scale = (r : EReal) := by
    unfold Ref.scale
    simp [Ideal.ofBits, Ideal.ieee]
    exact ⟨_, by positivity, (EReal.coe_mul _ _).symm⟩
  obtain ⟨r, hr, e⟩ := h
  exact ⟨⟨r, e⟩, by rw [e]; exact_mod_cast hr, by rw [e]; exact EReal.coe_ne_top r⟩

variable (X : (⟨3, ![1, 1024, 1024]⟩ : Shape).Idx → EReal) (Wf : (⟨2, ![1024, 8192]⟩ : Shape).Idx → EReal)
  (Kf Vf : (⟨4, ![1, 8192, 64, 128]⟩ : Shape).Idx → EReal) (Of : (⟨2, ![8192, 1024]⟩ : Shape).Idx → EReal)
  (W O : (⟨2, ![1024, 1024]⟩ : Shape).Idx → EReal) (K V : (⟨4, ![1, 1024, 64, 128]⟩ : Shape).Idx → EReal)

/-- A key among the first 1024, among all. -/
def low (j : Fin 1024) : Fin 8192 := ⟨j.val, by omega⟩

section device
variable (c : Attn.D) (hW : ∀ k n : Fin 1024, W (ix2 k n) = Wf (ix2 k ⟨1024 * c.val + n.val, by have : c.val < 8 := c.isLt; omega⟩))
  (hK : ∀ (j : Fin 1024) (h : Fin 64) (d : Fin 128), K (ix4 0 j h d) = Kf (ix4 0 (low j) h d))
  (hV : ∀ (j : Fin 1024) (h : Fin 64) (d : Fin 128), V (ix4 0 j h d) = Vf (ix4 0 (low j) h d))
include hW hK

/-- A device's score is the reference's. -/
theorem score_eq (h : Fin 8) (i j : Fin 1024) : Attn.score X W K c h i j = Ref.score X Wf Kf (Attn.headNo c h) i (low j) := by
  unfold Attn.score Ref.score Attn.query Attn.mask
  have e : ∑ d : Fin 128, (∑ k : Fin 1024, X (ix3 0 i k) * W (ix2 k ⟨128 * h.val + d.val, by omega⟩)) * Attn.scale * K (ix4 0 j (Attn.headNo c h) d)
      = (∑ d : Fin 128, (∑ k : Fin 1024, X (ix3 0 i k) * Wf (ix2 k ⟨(Attn.headNo c h).val * 128 + d.val, by omega⟩)) * Kf (ix4 0 (low j) (Attn.headNo c h) d)) * Ref.scale := by
    refine (scale_dot _ _ _ Attn.scale scale_real.2.1 scale_real.2.2).trans ?_
    refine congrArg (· * Ref.scale) (Finset.sum_congr rfl fun d _ => ?_)
    rw [hK]
    refine congrArg (· * _) (Finset.sum_congr rfl fun k _ => ?_)
    rw [hW]
    refine congrArg (fun t => _ * Wf (ix2 k t)) (Fin.ext ?_)
    show 1024 * c.val + (128 * h.val + d.val) = (8 * c.val + h.val) * 128 + d.val
    omega
  rw [e]
  show _ + (if j.val / 64 ≤ i.val / 64 then (0 : EReal) else ⊥) = if j.val / 64 ≤ i.val / 64 then _ else ⊥
  split
  · exact add_zero _
  · exact EReal.add_bot _
end device

section finite
variable (hX : ∀ i k : Fin 1024, IsR (X (ix3 0 i k))) (hWf : ∀ (k : Fin 1024) (n : Fin 8192), IsR (Wf (ix2 k n)))
  (hKf : ∀ (j : Fin 1024) (h : Fin 64) (d : Fin 128), IsR (Kf (ix4 0 (low j) h d)))
include hX hWf hKf

/-- A score the row reads is a real; the others are absent. -/
theorem score_cases (h : Fin 64) (i : Fin 1024) (j : Fin 8192) : Ref.score X Wf Kf h i j = ⊥ ∨ IsR (Ref.score X Wf Kf h i j) := by
  unfold Ref.score
  split
  · rename_i hj
    have hj' : j.val < 1024 := by omega
    refine Or.inr (IsR.mul (IsR.sum _ _ fun d => IsR.mul (IsR.sum _ _ fun k => IsR.mul (hX _ _) (hWf _ _)) ?_) scale_real.1)
    exact hKf ⟨j.val, hj'⟩ h d
  · exact Or.inl rfl
theorem score_first (h : Fin 64) (i : Fin 1024) : IsR (Ref.score X Wf Kf h i (low 0)) := by
  unfold Ref.score
  rw [if_pos (by simp [low])]
  exact IsR.mul (IsR.sum _ _ fun d => IsR.mul (IsR.sum _ _ fun k => IsR.mul (hX _ _) (hWf _ _)) (hKf 0 h d)) scale_real.1

/-- The reference's mean, over all the keys, is the quotient of sums over those that are read. -/
theorem ref_mean (h : Fin 64) (i : Fin 1024) (d : Fin 128) :
    ∑ j : Fin 8192, Vf (ix4 0 j h d) * Ref.weights Ref.any (Ref.exps X Wf Kf) (Ref.total Ref.any (Ref.exps X Wf Kf)) (ix4 0 h i j)
      = Ideal.div (∑ j : Fin 1024, Ideal.exp (Ref.score X Wf Kf h i (low j)) * Vf (ix4 0 (low j) h d)) (∑ j : Fin 1024, Ideal.exp (Ref.score X Wf Kf h i (low j))) := by
  have hc := score_cases X Wf Kf hX hWf hKf h i
  have h1 := score_first X Wf Kf hX hWf hKf h i
  have hM : IsR (Ref.top X Wf Kf (ix3 0 h i)) := by
    rw [Ref.top_apply]
    exact max_real _ hc (low 0) h1
  have hs : ∀ j : Fin 8192, Ref.weights Ref.any (Ref.exps X Wf Kf) (Ref.total Ref.any (Ref.exps X Wf Kf)) (ix4 0 h i j)
      = Ideal.div (Ideal.exp (Ref.score X Wf Kf h i j - Ref.top X Wf Kf (ix3 0 h i))) (∑ j : Fin 8192, Ideal.exp (Ref.score X Wf Kf h i j - Ref.top X Wf Kf (ix3 0 h i))) := fun j => by
    rw [Ref.weights_apply _ _ _ Ref.any_apply, Ref.total_apply _ _ Ref.any_apply, Ref.exps_apply]
    simp only [Ref.exps_apply]
  rw [Finset.sum_congr rfl fun j _ => congrArg (Vf (ix4 0 j h d) * ·) (hs j)]
  rw [soft (fun j => Ref.score X Wf Kf h i j) (fun j => Vf (ix4 0 j h d)) hc (low 0) h1 _ hM]
  refine (cut (n := 1024) (k := 7168) (fun j => Ref.score X Wf Kf h i j) (fun j => Vf (ix4 0 j h d)) fun j => ?_).trans rfl
  unfold Ref.score
  rw [if_neg]
  show ¬ (1024 + j.val) / 64 ≤ i.val / 64
  omega
end finite

/-- The sum of the devices' products is the reference's output. -/
theorem equal (hX : ∀ i k : Fin 1024, IsR (X (ix3 0 i k))) (hWf : ∀ (k : Fin 1024) (n : Fin 8192), IsR (Wf (ix2 k n)))
    (hKf : ∀ (j : Fin 1024) (h : Fin 64) (d : Fin 128), IsR (Kf (ix4 0 (low j) h d)))
    (W O : Fin 8 → (⟨2, ![1024, 1024]⟩ : Shape).Idx → EReal)
    (hW : ∀ c (k n : Fin 1024), W c (ix2 k n) = Wf (ix2 k ⟨1024 * c.val + n.val, by omega⟩))
    (hO : ∀ c (t n : Fin 1024), O c (ix2 t n) = Of (ix2 ⟨1024 * c.val + t.val, by omega⟩ n))
    (hK : ∀ (j : Fin 1024) (h : Fin 64) (d : Fin 128), K (ix4 0 j h d) = Kf (ix4 0 (low j) h d))
    (hV : ∀ (j : Fin 1024) (h : Fin 64) (d : Fin 128), V (ix4 0 j h d) = Vf (ix4 0 (low j) h d)) (i n : Fin 1024) :
    ∑ c : Fin 8, Attn.prod X (W c) (O c) K V c i n
      = Ref.output Of (Ref.means Vf (Ref.weights Ref.any (Ref.exps X Wf Kf) (Ref.total Ref.any (Ref.exps X Wf Kf)))) (ix3 0 i n) := by
  rw [Ref.output_apply, ← sum_runs]
  refine Finset.sum_congr rfl fun c _ => Finset.sum_congr rfl fun t _ => ?_
  rw [hO]
  refine congrArg (· * _) ?_
  rw [ref_mean X Wf Kf Vf hX hWf hKf]
  unfold Attn.mean
  simp only [score_eq X Wf Kf (W c) K c (hW c) hK, hV]
  rw [show (⟨(1024 * c.val + t.val) / 128, by omega⟩ : Fin 64) = Attn.headNo c ⟨t.val / 128, by omega⟩ from Fin.ext (by show (1024 * c.val + t.val) / 128 = 8 * c.val + t.val / 128; omega),
    show (⟨(1024 * c.val + t.val) % 128, by omega⟩ : Fin 128) = ⟨t.val % 128, by omega⟩ from Fin.ext (by show (1024 * c.val + t.val) % 128 = t.val % 128; omega)]

end Cert.Proof.Equal
-- ==== Proof.Algebraic.lean ====
/-
  The kernel computes what the reference computes, over the extended reals, from finite rows, query weights and keys.
-/
module

public import proofs.«01_k».proof.Proof.Equal
public import proofs.«01_k».proof.Proof.Frames
public import proofs.«01_k».proof.Proof.Gen.Pre_finite_KernelIdeal
public import Idealize.ShloMosaic.Lib.ReduceAll
public import proofs.«01_k».proof.Defs

@[expose] public section

set_option maxRecDepth 16384

noncomputable section

namespace Cert.Proof

open Idealize.ShloMosaic Idealize.SL.Sem
open Cert.Proof.Maths

attribute [local instance] Cert.KernelIdeal.Gen.facts Cert.ReferenceIdeal.Gen.facts Cert.Pre_finite_KernelIdeal.Gen.facts

/-! ## The precondition, read -/

theorem and_one : ∀ a b : BitVec 1, IntOp.andi a b = 1#1 → a = 1#1 ∧ b = 1#1 := by decide

theorem real_of_cmp (x : EReal) (h : Ideal.cmp .olt (max x (-x)) (Ideal.ofBits .f32 0x7F800000#32) = 1#1) : IsR x := by
  refine IsR.of_abs ?_
  have e : Ideal.ofBits .f32 0x7F800000#32 = ⊤ := by simp [Ideal.ofBits, Ideal.ieee]
  rw [e] at h
  by_contra hn
  simp [Ideal.cmp, hn] at h

theorem pre_real (a0 : FVec Ideal ⟨3, ![1, 1024, 1024]⟩ .f32) (a1 : FVec Ideal ⟨2, ![1024, 1024]⟩ .f32) (a2 a3 : FVec Ideal ⟨4, ![1, 1024, 64, 128]⟩ .f32) (a4 : FVec Ideal ⟨2, ![1024, 1024]⟩ .f32)
    (h : Cert.Pre_finite_KernelIdeal.fn (F := Ideal) a0 a1 a2 a3 a4 = fun _ => 1#1) : (∀ i, IsR (a0 i)) ∧ (∀ i, IsR (a1 i)) ∧ ∀ i, IsR (a2 i) := by
  have h := congrFun h ix0
  dsimp only [Cert.Pre_finite_KernelIdeal.fn] at h
  obtain ⟨h, h2⟩ := and_one _ _ h
  obtain ⟨h0, h1⟩ := and_one _ _ h
  refine ⟨fun i => ?_, fun i => ?_, fun i => ?_⟩
  · exact real_of_cmp _ (Host.reduce_andi_all _ _ _ _ _ h0 i)
  · exact real_of_cmp _ (Host.reduce_andi_all _ _ _ _ _ h1 i)
  · exact real_of_cmp _ (Host.reduce_andi_all _ _ _ _ _ h2 i)

/-! ## A device's arrays as blocks of the whole ones -/

theorem block_cols (c : Fin 8) (v : (⟨2, ![1024, 8192]⟩ : Shape).Idx → EReal) (k n : Fin 1024) :
    Layout.block ⟨2, ![1024, 1024]⟩ ⟨2, ![1024, 8192]⟩ 1 8 c v (by decide) (ix2 k n) = v (ix2 k ⟨1024 * c.val + n.val, by omega⟩) := by
  refine congrArg v ?_
  funext a
  match a with
  | 0 => rfl
  | 1 => exact Fin.ext (by show c.val * 1024 + n.val = 1024 * c.val + n.val; omega)
theorem block_rows (c : Fin 8) (v : (⟨2, ![8192, 1024]⟩ : Shape).Idx → EReal) (k n : Fin 1024) :
    Layout.block ⟨2, ![1024, 1024]⟩ ⟨2, ![8192, 1024]⟩ 0 8 c v (by decide) (ix2 k n) = v (ix2 ⟨1024 * c.val + k.val, by omega⟩ n) := by
  refine congrArg v ?_
  funext a
  match a with
  | 0 => exact Fin.ext (by show c.val * 1024 + k.val = 1024 * c.val + k.val; omega)
  | 1 => rfl
theorem block_keys (v : (⟨4, ![1, 8192, 64, 128]⟩ : Shape).Idx → EReal) (j : Fin 1024) (h : Fin 64) (d : Fin 128) :
    Layout.block ⟨4, ![1, 1024, 64, 128]⟩ ⟨4, ![1, 8192, 64, 128]⟩ 1 8 0 v (by decide) (ix4 0 j h d) = v (ix4 0 (Equal.low j) h d) := by
  refine congrArg v ?_
  funext a
  match a with
  | 0 => rfl
  | 1 => exact Fin.ext (by show 0 * 1024 + j.val = j.val; omega)
  | 2 => rfl
  | 3 => rfl

theorem algebraic : Cert.algebraic_KernelIdeal_ReferenceIdeal_pre_finite_KernelIdeal := by
  intro m g m' g' hp hm
  refine ⟨Cert.ReferenceIdeal.Value.res_main_v34 (F := Ideal) m' 0, ?_, ?_⟩
  · refine (θ_run Cert.KernelIdeal.defs _ _).mono (fun r h c => ?_) (Attn.run_main (F := Ideal) m g)
    refine ⟨?_, (h.1 c).1, (h.1 c).2.1, (h.1 c).2.2.2.1, (h.1 c).2.2.2.2.1, (h.1 c).2.2.1⟩
    rw [(h.1 c).2.2.2.2.2, Ref.output_eq]
    funext i
    obtain ⟨a, b, rfl⟩ : ∃ a b : Fin 1024, i = ix3 0 a b := ⟨i 1, i 2, by
      funext x
      match x with
      | 0 => exact Fin.ext (by have : (i 0).val < 1 := (i 0).isLt; show (i 0).val = 0; omega)
      | 1 => rfl
      | 2 => rfl⟩
    have ho : Attn.outIx (ix3 0 a b) = ix2 a b := by
      funext x
      match x with
      | 0 => rfl
      | 1 => rfl
    show Attn.result (F := Ideal) m (Attn.outIx (ix3 0 a b)) = _
    rw [ho]
    refine (Attn.result_at m a b).trans ?_
    have hr := fun c => pre_real _ _ _ _ _ (hp c)
    have hX : ∀ c : Fin 8, Attn.argX (F := Ideal) m c = m' (((0 : Dev Cert.ReferenceIdeal.nD).tc : Thread Cert.ReferenceIdeal.nD Cert.ReferenceIdeal.τ).loc Cert.ReferenceIdeal.main_arg0) :=
      fun c => (Attn.argX_eq m c).trans (hm c).1
    have hW := fun c : Fin 8 => (Attn.argW_eq m c).trans (hm c).2.1
    have hO := fun c : Fin 8 => (Attn.argO_eq m c).trans (hm c).2.2.2.2
    refine Eq.trans (Finset.sum_congr rfl fun c _ => ?_) (Equal.equal
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (Attn.argA (F := Ideal) m 0 0) (Attn.argA (F := Ideal) m 0 1) ?_ ?_ ?_
      (fun c => Attn.argW (F := Ideal) m c) (fun c => Attn.argO (F := Ideal) m c) ?_ ?_ ?_ ?_ a b)
    · unfold Attn.share
      rw [hX]
    · intro i k
      rw [← (hm 0).1]
      exact (hr 0).1 _
    · intro k n
      have e := congrFun (hm ⟨n.val / 1024, by show _ < 8; omega⟩).2.1 (ix2 k ⟨n.val % 1024, by omega⟩)
      have f := (hr ⟨n.val / 1024, by show _ < 8; omega⟩).2.1 (ix2 k ⟨n.val % 1024, by omega⟩)
      rw [e] at f
      have f := (block_cols _ _ _ _) ▸ f
      have hn : (⟨1024 * (n.val / 1024) + n.val % 1024, by omega⟩ : Fin 8192) = n := Fin.ext (by show 1024 * (n.val / 1024) + n.val % 1024 = n.val; omega)
      exact hn ▸ f
    · intro j h d
      have e := congrFun (hm 0).2.2.1 (ix4 0 j h d)
      have f := (hr 0).2.2 (ix4 0 j h d)
      rw [e] at f
      exact (congrArg IsR (block_keys _ j h d)).mp f
    · intro c k n
      exact (congrFun (hW c) (ix2 k n)).trans (block_cols c _ k n)
    · intro c k n
      exact (congrFun (hO c) (ix2 k n)).trans (block_rows c _ k n)
    · intro j h d
      exact (congrFun (hm 0).2.2.1 (ix4 0 j h d)).trans (block_keys _ j h d)
    · intro j h d
      exact (congrFun (hm 0).2.2.2.1 (ix4 0 j h d)).trans (block_keys _ j h d)
  · exact (θ_run Cert.ReferenceIdeal.defs _ _).mono (fun r h => h 0) (Cert.ReferenceIdeal.Value.run (F := Ideal) m' g')

end Cert.Proof
-- ==== Proof.lean ====
/- The proof of the certificate's claims: the kernels' frames from the one run, the reference's frame from its run, the
   named constant, and the equation of the two computations. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_finite_KernelIdeal.Gen.facts,
  Cert.Pre_finite_ReferenceIdeal.Gen.facts, frame_kernel, frame_ideal, fun m ρ _ => frame_ideal m ρ trivial, frame_reference,
  fun m ρ _ => frame_reference m ρ trivial, preserves, algebraic⟩

end Cert.Proof

end
